-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_ends_padded : Cert.Pre_ends_padded.Facts] (m : (ℓ : Loc Cert.Kernel2.nD Cert.Kernel2.τ Cert.Kernel2.sig) → Buf (Elt Bits) ℓ) : Prop :=
  ∀ c : Dev Cert.Kernel2.nD,
    (Cert.Pre_ends_padded.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_ends_padded : Cert.Pre_ends_padded.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ends_padded.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ends_padded [hPre_ends_padded : Cert.Pre_ends_padded.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ends_padded.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def Pre_Kernel6 [hPre_ends_padded : Cert.Pre_ends_padded.Facts] (m : (ℓ : Loc Cert.Kernel6.nD Cert.Kernel6.τ Cert.Kernel6.sig) → Buf (Elt Bits) ℓ) : Prop :=
  ∀ c : Dev Cert.Kernel6.nD,
    (Cert.Pre_ends_padded.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))) = (fun _ => 1#1)

def Pre_Kernel6Ideal [hPre_ends_padded : Cert.Pre_ends_padded.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_ends_padded.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_ends_padded [hPre_ends_padded : Cert.Pre_ends_padded.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_ends_padded.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_ends_padded : Cert.Pre_ends_padded.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_ends_padded : Cert.Pre_ends_padded.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_ends_padded [hReference2Ideal : Cert.Reference2Ideal.Facts] [hPre_ends_padded : Cert.Pre_ends_padded.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ends_padded m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] [hPre_ends_padded : Cert.Pre_ends_padded.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_ends_padded : Cert.Pre_ends_padded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_ends_padded [hReference6Ideal : Cert.Reference6Ideal.Facts] [hPre_ends_padded : Cert.Pre_ends_padded.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_ends_padded m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "mask" .f32 0x7149F2CA#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_ends_padded : Cert.Pre_ends_padded.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v17_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)) (v3 : (c : Dev Cert.Kernel4Ideal.nD) → Buf (Elt Ideal) ((c.tc : Thread Cert.Kernel4Ideal.nD Cert.Kernel4Ideal.τ).loc Cert.Kernel4Ideal.main_v18_3)) (v4 : (c : Dev Cert.Kernel4Ideal.nD) → Buf (Elt Ideal) ((c.tc : Thread Cert.Kernel4Ideal.nD Cert.Kernel4Ideal.τ).loc Cert.Kernel4Ideal.main_v18_4)) (v5 : (c : Dev Cert.Kernel4Ideal.nD) → Buf (Elt Ideal) ((c.tc : Thread Cert.Kernel4Ideal.nD Cert.Kernel4Ideal.τ).loc Cert.Kernel4Ideal.main_v18_5)) (v6 : (c : Dev Cert.Kernel4Ideal.nD) → Buf (Elt Ideal) ((c.tc : Thread Cert.Kernel4Ideal.nD Cert.Kernel4Ideal.τ).loc Cert.Kernel4Ideal.main_v18_6)) (v7 : (c : Dev Cert.Kernel4Ideal.nD) → Buf (Elt Ideal) ((c.tc : Thread Cert.Kernel4Ideal.nD Cert.Kernel4Ideal.τ).loc Cert.Kernel4Ideal.main_v18_7)) (v8 : (c : Dev Cert.Kernel4Ideal.nD) → Buf (Elt Ideal) ((c.tc : Thread Cert.Kernel4Ideal.nD Cert.Kernel4Ideal.τ).loc Cert.Kernel4Ideal.main_v18_8)) (v9 : (c : Dev Cert.Kernel4Ideal.nD) → Buf (Elt Ideal) ((c.tc : Thread Cert.Kernel4Ideal.nD Cert.Kernel4Ideal.τ).loc Cert.Kernel4Ideal.main_v18_9)) (v10 : (c : Dev Cert.Kernel4Ideal.nD) → Buf (Elt Ideal) ((c.tc : Thread Cert.Kernel4Ideal.nD Cert.Kernel4Ideal.τ).loc Cert.Kernel4Ideal.main_v18_10)) (v11 : (c : Dev Cert.Kernel4Ideal.nD) → Buf (Elt Ideal) ((c.tc : Thread Cert.Kernel4Ideal.nD Cert.Kernel4Ideal.τ).loc Cert.Kernel4Ideal.main_v18_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_v18_3) = v3 c
          ∧ r.2.mem ((c.tc : Thread Cert.Kernel4Ideal.nD Cert.Kernel4Ideal.τ).loc Cert.Kernel4Ideal.main_v18_4) = v4 c
          ∧ r.2.mem ((c.tc : Thread Cert.Kernel4Ideal.nD Cert.Kernel4Ideal.τ).loc Cert.Kernel4Ideal.main_v18_5) = v5 c
          ∧ r.2.mem ((c.tc : Thread Cert.Kernel4Ideal.nD Cert.Kernel4Ideal.τ).loc Cert.Kernel4Ideal.main_v18_6) = v6 c
          ∧ r.2.mem ((c.tc : Thread Cert.Kernel4Ideal.nD Cert.Kernel4Ideal.τ).loc Cert.Kernel4Ideal.main_v18_7) = v7 c
          ∧ r.2.mem ((c.tc : Thread Cert.Kernel4Ideal.nD Cert.Kernel4Ideal.τ).loc Cert.Kernel4Ideal.main_v18_8) = v8 c
          ∧ r.2.mem ((c.tc : Thread Cert.Kernel4Ideal.nD Cert.Kernel4Ideal.τ).loc Cert.Kernel4Ideal.main_v18_9) = v9 c
          ∧ r.2.mem ((c.tc : Thread Cert.Kernel4Ideal.nD Cert.Kernel4Ideal.τ).loc Cert.Kernel4Ideal.main_v18_10) = v10 c
          ∧ r.2.mem ((c.tc : Thread Cert.Kernel4Ideal.nD Cert.Kernel4Ideal.τ).loc Cert.Kernel4Ideal.main_v18_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_v40) = v3 c
          ∧ r.2.mem ((c.tc : Thread Cert.Reference4Ideal.nD Cert.Reference4Ideal.τ).loc Cert.Reference4Ideal.main_v41) = v4 c
          ∧ r.2.mem ((c.tc : Thread Cert.Reference4Ideal.nD Cert.Reference4Ideal.τ).loc Cert.Reference4Ideal.main_v42) = v5 c
          ∧ r.2.mem ((c.tc : Thread Cert.Reference4Ideal.nD Cert.Reference4Ideal.τ).loc Cert.Reference4Ideal.main_v43) = v6 c
          ∧ r.2.mem ((c.tc : Thread Cert.Reference4Ideal.nD Cert.Reference4Ideal.τ).loc Cert.Reference4Ideal.main_v44) = v7 c
          ∧ r.2.mem ((c.tc : Thread Cert.Reference4Ideal.nD Cert.Reference4Ideal.τ).loc Cert.Reference4Ideal.main_v45) = v8 c
          ∧ r.2.mem ((c.tc : Thread Cert.Reference4Ideal.nD Cert.Reference4Ideal.τ).loc Cert.Reference4Ideal.main_v46) = v9 c
          ∧ r.2.mem ((c.tc : Thread Cert.Reference4Ideal.nD Cert.Reference4Ideal.τ).loc Cert.Reference4Ideal.main_v47) = v10 c
          ∧ r.2.mem ((c.tc : Thread Cert.Reference4Ideal.nD Cert.Reference4Ideal.τ).loc Cert.Reference4Ideal.main_v48) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v17_1)) (v1 : (c : Dev Cert.Kernel5Ideal.nD) → Buf (Elt Ideal) ((c.tc : Thread Cert.Kernel5Ideal.nD Cert.Kernel5Ideal.τ).loc Cert.Kernel5Ideal.main_v17_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_1) = v0 c
          ∧ r.2.mem ((c.tc : Thread Cert.Kernel5Ideal.nD Cert.Kernel5Ideal.τ).loc Cert.Kernel5Ideal.main_v17_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v104) = v0 c
          ∧ r.2.mem ((c.tc : Thread Cert.Reference5Ideal.nD Cert.Reference5Ideal.τ).loc Cert.Reference5Ideal.main_v106) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] [hPre_ends_padded : Cert.Pre_ends_padded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_ends_padded : Cert.Pre_ends_padded.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_ends_padded := hPre_ends_padded)
    ∧ quiescent_Kernel2Ideal (hKernel2Ideal := hKernel2Ideal) (hPre_ends_padded := hPre_ends_padded)
    ∧ quiescent_Reference2Ideal (hReference2Ideal := hReference2Ideal)
    ∧ quiescent_Reference2Ideal_pre_ends_padded (hReference2Ideal := hReference2Ideal) (hPre_ends_padded := hPre_ends_padded)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6) (hPre_ends_padded := hPre_ends_padded)
    ∧ quiescent_Kernel6Ideal (hKernel6Ideal := hKernel6Ideal) (hPre_ends_padded := hPre_ends_padded)
    ∧ quiescent_Reference6Ideal (hReference6Ideal := hReference6Ideal)
    ∧ quiescent_Reference6Ideal_pre_ends_padded (hReference6Ideal := hReference6Ideal) (hPre_ends_padded := hPre_ends_padded)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_ends_padded := hPre_ends_padded)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal) (hPre_ends_padded := hPre_ends_padded)
-- ==== Pre_ends_padded.lean ====
abbrev S32 : Shape := ⟨1, ![32]⟩
abbrev S106496x1x1024 : Shape := ⟨3, ![106496, 1, 1024]⟩
abbrev S2x32x1024x512 : Shape := ⟨4, ![2, 32, 1024, 512]⟩
abbrev S2x32x512x1024 : Shape := ⟨4, ![2, 32, 512, 1024]⟩
abbrev S1 : Shape := ⟨1, ![1]⟩
abbrev S_ : Shape := ⟨0, ![]⟩

class Facts : Prop where
  slices_S32_S1_31 : S32.Slices ![31] S1
  bcast_S1_S32_0 : S1.BroadcastsInDim S32 (![0] : Fin 1 → Fin S32.rank)
  bcast_S_S32 : S_.BroadcastsInDim S32 (![] : Fin 0 → Fin S32.rank)

variable [Facts]

def fn {F : FTy → Type} [FloatOps F] (main_arg0 : IVec S32 32) (main_arg1 : FVec F S106496x1x1024 .f32) (main_arg2 : FVec F S2x32x1024x512 .f32) (main_arg3 : FVec F S2x32x1024x512 .f32) (main_arg4 : FVec F S2x32x512x1024 .f32) : IVec S32 1 :=
  let main_v0 : IVec S1 32 := (extractStridedSlice S1 ![31] · slices_S32_S1_31) main_arg0
  let main_v1 : IVec S32 32 := broadcastInDim S32 ![0] bcast_S1_S32_0 main_v0
  let main_c : IVec S_ 32 := constantI S_ 32 255#32
  let main_v2 : IVec S32 32 := broadcastInDim S32 ![] bcast_S_S32 main_c
  let main_v3 : IVec S32 32 := andi main_arg0 main_v2
  let main_c_0 : IVec S_ 32 := constantI S_ 32 0#32
  let main_v4 : IVec S32 32 := broadcastInDim S32 ![] bcast_S_S32 main_c_0
  let main_v5 : IVec S32 1 := cmpi .eq main_v3 main_v4
  let main_v6 : IVec S32 1 := cmpi .sle main_arg0 main_v1
  let main_v7 : IVec S32 1 := andi main_v5 main_v6
  let main_c_1 : IVec S_ 32 := constantI S_ 32 0#32
  let main_v8 : IVec S32 32 := broadcastInDim S32 ![] bcast_S_S32 main_c_1
  let main_v9 : IVec S32 1 := cmpi .sgt main_v1 main_v8
  let main_v10 : IVec S32 1 := andi main_v7 main_v9
  main_v10
-- ==== Pre_finite.lean ====
abbrev S24x2048x1024 : Shape := ⟨3, ![24, 2048, 1024]⟩
abbrev S24x2048x512 : Shape := ⟨3, ![24, 2048, 512]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1x1x1024 : Shape := ⟨3, ![1, 1, 1024]⟩

class Facts : Prop where
  concatenates_S24x2048x512_S24x2048x512_S24x2048x1024_d2 : Shape.Concatenates [S24x2048x512, S24x2048x512] S24x2048x1024 2
  reducesTo_S1024x1024_S1024_d1 : S1024x1024.ReducesTo [1] S1024
  h_S_ : 0 < S_.numel
  reducesTo_S1024x4_S1024_d1 : S1024x4.ReducesTo [1] S1024
  reducesTo_S1024x32_S1024_d1 : S1024x32.ReducesTo [1] S1024
  reducesTo_S4_S_d0 : S4.ReducesTo [0] S_
  reducesTo_S32_S_d0 : S32.ReducesTo [0] S_
  bcast_S1024_S1x1x1024_2 : S1024.BroadcastsInDim S1x1x1024 (![2] : Fin 1 → Fin S1x1x1024.rank)
  bcast_S1x1x1024_S24x2048x1024_0_1_2 : S1x1x1024.BroadcastsInDim S24x2048x1024 (![0, 1, 2] : Fin 3 → Fin S24x2048x1024.rank)
  bcast_S_S24x2048x1024 : S_.BroadcastsInDim S24x2048x1024 (![] : Fin 0 → Fin S24x2048x1024.rank)

variable [Facts]

def fn_part1 {F : FTy → Type} [FloatOps F] (main_arg0 : FVec F S24x2048x1024 .f32) (main_v0 : FVec F S24x2048x1024 .f32) (main_v14 : FVec F S1024 .f32) (main_v16 : FVec F S_ .f32) (main_v18 : FVec F S_ .f32) : IVec S24x2048x1024 1 :=
  let main_v19 : FVec F S_ .f32 := addf main_v16 main_v18
  let main_v20 : FVec F S24x2048x1024 .f32 := Host.absf main_arg0
  let main_v21 : FVec F S24x2048x1024 .f32 := Host.absf main_v0
  let main_v22 : FVec F S24x2048x1024 .f32 := addf main_v20 main_v21
  let main_v23 : FVec F S1x1x1024 .f32 := broadcastInDim S1x1x1024 ![2] bcast_S1024_S1x1x1024_2 main_v14
  let main_v24 : FVec F S24x2048x1024 .f32 := broadcastInDim S24x2048x1024 ![0, 1, 2] bcast_S1x1x1024_S24x2048x1024_0_1_2 main_v23
  let main_v25 : FVec F S24x2048x1024 .f32 := addf main_v22 main_v24
  let main_v26 : FVec F S24x2048x1024 .f32 := broadcastInDim S24x2048x1024 ![] bcast_S_S24x2048x1024 main_v19
  let main_v27 : FVec F S24x2048x1024 .f32 := addf main_v25 main_v26
  let main_cst_4 : FVec F S_ .f32 := constant S_ .f32 0x7F800000#32
  let main_v28 : FVec F S24x2048x1024 .f32 := broadcastInDim S24x2048x1024 ![] bcast_S_S24x2048x1024 main_cst_4
  let main_v29 : IVec S24x2048x1024 1 := cmpf .olt main_v27 main_v28
  main_v29

def fn {F : FTy → Type} [FloatOps F] (main_arg0 : FVec F S24x2048x1024 .f32) (main_arg1 : FVec F S24x2048x512 .f32) (main_arg2 : FVec F S24x2048x512 .f32) (main_arg3 : FVec F S1024 .f32) (main_arg4 : FVec F S1024x1024 .f32) (main_arg5 : FVec F S1024 .f32) (main_arg6 : FVec F S1024 .f32) (main_arg7 : FVec F S1024x4 .f32) (main_arg8 : FVec F S4 .f32) (main_arg9 : FVec F S1024x32 .f32) (main_arg10 : FVec F S32 .f32) : IVec S24x2048x1024 1 :=
  let main_v0 : FVec F S24x2048x1024 .f32 := (fun a b => concatenate S24x2048x1024 2 [⟨S24x2048x512, a⟩, ⟨S24x2048x512, b⟩] concatenates_S24x2048x512_S24x2048x512_S24x2048x1024_d2) main_arg1 main_arg2
  let main_v1 : FVec F S1024x1024 .f32 := Host.absf main_arg4
  let main_cst : FVec F S_ .f32 := constant S_ .f32 0x00000000#32
  let main_v2 : FVec F S1024 .f32 := (fun x v => Host.reduceAdd x v reducesTo_S1024x1024_S1024_d1 h_S_) main_v1 main_cst
  let main_v3 : FVec F S1024x4 .f32 := Host.absf main_arg7
  let main_cst_0 : FVec F S_ .f32 := constant S_ .f32 0x00000000#32
  let main_v4 : FVec F S1024 .f32 := (fun x v => Host.reduceAdd x v reducesTo_S1024x4_S1024_d1 h_S_) main_v3 main_cst_0
  let main_v5 : FVec F S1024 .f32 := addf main_v2 main_v4
  let main_v6 : FVec F S1024x32 .f32 := Host.absf main_arg9
  let main_cst_1 : FVec F S_ .f32 := constant S_ .f32 0x00000000#32
  let main_v7 : FVec F S1024 .f32 := (fun x v => Host.reduceAdd x v reducesTo_S1024x32_S1024_d1 h_S_) main_v6 main_cst_1
  let main_v8 : FVec F S1024 .f32 := addf main_v5 main_v7
  let main_v9 : FVec F S1024 .f32 := Host.absf main_arg3
  let main_v10 : FVec F S1024 .f32 := Host.absf main_arg5
  let main_v11 : FVec F S1024 .f32 := addf main_v9 main_v10
  let main_v12 : FVec F S1024 .f32 := Host.absf main_arg6
  let main_v13 : FVec F S1024 .f32 := addf main_v11 main_v12
  let main_v14 : FVec F S1024 .f32 := addf main_v13 main_v8
  let main_v15 : FVec F S4 .f32 := Host.absf main_arg8
  let main_cst_2 : FVec F S_ .f32 := constant S_ .f32 0x00000000#32
  let main_v16 : FVec F S_ .f32 := (fun x v => Host.reduceAdd x v reducesTo_S4_S_d0 h_S_) main_v15 main_cst_2
  let main_v17 : FVec F S32 .f32 := Host.absf main_arg10
  let main_cst_3 : FVec F S_ .f32 := constant S_ .f32 0x00000000#32
  let main_v18 : FVec F S_ .f32 := (fun x v => Host.reduceAdd x v reducesTo_S32_S_d0 h_S_) main_v17 main_cst_3
  fn_part1 (F := F) main_arg0 main_v0 main_v14 main_v16 main_v18
-- ==== Kernel.lean ====
abbrev S24x2048x512 : Shape := ⟨3, ![24, 2048, 512]⟩
abbrev S24x2048x128 : Shape := ⟨3, ![24, 2048, 128]⟩
abbrev S8 : Shape := ⟨1, ![8]⟩
abbrev S_ : Shape := ⟨0, ![]⟩
abbrev S24x2048x64 : Shape := ⟨3, ![24, 2048, 64]⟩
abbrev S24x2048x256 : Shape := ⟨3, ![24, 2048, 256]⟩
abbrev S128x384 : Shape := ⟨2, ![128, 384]⟩
abbrev S1x128x384 : Shape := ⟨3, ![1, 128, 384]⟩
abbrev S3x128x384 : Shape := ⟨3, ![3, 128, 384]⟩
abbrev S1x2048x128 : Shape := ⟨3, ![1, 2048, 128]⟩
abbrev S3x128x768 : Shape := ⟨3, ![3, 128, 768]⟩
abbrev S1 : Shape := ⟨1, ![1]⟩
abbrev S1x128x128 : Shape := ⟨3, ![1, 128, 128]⟩
abbrev S128x128 : Shape := ⟨2, ![128, 128]⟩
abbrev S1x384x128 : Shape := ⟨3, ![1, 384, 128]⟩
abbrev S384x128 : Shape := ⟨2, ![384, 128]⟩
abbrev S1x128x768 : Shape := ⟨3, ![1, 128, 768]⟩
abbrev S128x768 : Shape := ⟨2, ![128, 768]⟩
abbrev S768x128 : Shape := ⟨2, ![768, 128]⟩
abbrev S128 : Shape := ⟨1, ![128]⟩
abbrev S128x1 : Shape := ⟨2, ![128, 1]⟩

abbrev nBuf : Space → Nat
  | .hbm => 42
  | .vmem => 10
  | .smem => 2
  | _ => 0

abbrev bufTy : (tb : Table) → Fin (tcTables nBuf tb) → BufTy
  | .hbm, ⟨0, _⟩ => ⟨S24x2048x512, .f32⟩
  | .hbm, ⟨1, _⟩ => ⟨S24x2048x128, .f32⟩
  | .hbm, ⟨2, _⟩ => ⟨S24x2048x128, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S24x2048x512, .f32⟩
  | .hbm, ⟨7, _⟩ => ⟨S24x2048x512, .f32⟩
  | .hbm, ⟨8, _⟩ => ⟨S24x2048x512, .bf16⟩
  | .hbm, ⟨9, _⟩ => ⟨S24x2048x64, .f32⟩
  | .hbm, ⟨10, _⟩ => ⟨S24x2048x64, .f32⟩
  | .hbm, ⟨11, _⟩ => ⟨S24x2048x256, .f32⟩
  | .hbm, ⟨12, _⟩ => ⟨S24x2048x256, .bf16⟩
  | .hbm, ⟨13, _⟩ => ⟨S24x2048x64, .f32⟩
  | .hbm, ⟨14, _⟩ => ⟨S24x2048x64, .f32⟩
  | .hbm, ⟨15, _⟩ => ⟨S24x2048x256, .f32⟩
  | .hbm, ⟨16, _⟩ => ⟨S24x2048x256, .bf16⟩
  | .hbm, ⟨17, _⟩ => ⟨S128x384, .i32⟩
  | .hbm, ⟨18, _⟩ => ⟨S128x384, .i32⟩
  | .hbm, ⟨19, _⟩ => ⟨S_, .i32⟩
  | .hbm, ⟨20, _⟩ => ⟨S128x384, .i32⟩
  | .hbm, ⟨21, _⟩ => ⟨S128x384, .i32⟩
  | .hbm, ⟨22, _⟩ => ⟨S128x384, .i32⟩
  | .hbm, ⟨23, _⟩ => ⟨S128x384, .i32⟩
  | .hbm, ⟨24, _⟩ => ⟨S128x384, .f32⟩
  | .hbm, ⟨25, _⟩ => ⟨S_, .i32⟩
  | .hbm, ⟨26, _⟩ => ⟨S128x384, .i32⟩
  | .hbm, ⟨27, _⟩ => ⟨S128x384, .i32⟩
  | .hbm, ⟨28, _⟩ => ⟨S128x384, .i32⟩
  | .hbm, ⟨29, _⟩ => ⟨S128x384, .i32⟩
  | .hbm, ⟨30, _⟩ => ⟨S128x384, .f32⟩
  | .hbm, ⟨31, _⟩ => ⟨S_, .i32⟩
  | .hbm, ⟨32, _⟩ => ⟨S128x384, .i32⟩
  | .hbm, ⟨33, _⟩ => ⟨S128x384, .i32⟩
  | .hbm, ⟨34, _⟩ => ⟨S128x384, .i32⟩
  | .hbm, ⟨35, _⟩ => ⟨S128x384, .i32⟩
  | .hbm, ⟨36, _⟩ => ⟨S128x384, .f32⟩
  | .hbm, ⟨37, _⟩ => ⟨S1x128x384, .f32⟩
  | .hbm, ⟨38, _⟩ => ⟨S1x128x384, .f32⟩
  | .hbm, ⟨39, _⟩ => ⟨S1x128x384, .f32⟩
  | .hbm, ⟨40, _⟩ => ⟨S3x128x384, .f32⟩
  | .hbm, ⟨41, _⟩ => ⟨S24x2048x512, .f32⟩
  | .local _ .vmem, ⟨0, _⟩ => ⟨S3x128x384, .f32⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .f32⟩
  | .local _ .vmem, ⟨8, _⟩ => ⟨S1x2048x128, .f32⟩
  | .local _ .vmem, ⟨9, _⟩ => ⟨S3x128x768, .f32⟩
  | .local _ .smem, ⟨0, _⟩ => ⟨S8, .f32⟩
  | .local _ .smem, ⟨1, _⟩ => ⟨S8, .f32⟩
  | _, _ => ⟨S24x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![24, 4], ![false, false]⟩

def k0_off1 (i : grid0.Coords) : Fin 1 → Nat :=
  let c2_i32 : BitVec 32 := 2#32
  let arg1 : BitVec 32 := BitVec.ofNat 32 (i 1).val
  let v0 : BitVec 32 := Scalar.muli c2_i32 arg1
  let v1 : Index := Scalar.indexCast v0
  ![v1.toNat]
def k0_off2 (i : grid0.Coords) : Fin 1 → Nat :=
  let c2_i32_0 : BitVec 32 := 2#32
  let arg1 : BitVec 32 := BitVec.ofNat 32 (i 1).val
  let v3 : BitVec 32 := Scalar.muli c2_i32_0 arg1
  let c1_i32 : BitVec 32 := 1#32
  let v4 : BitVec 32 := Scalar.addi v3 c1_i32
  let v5 : Index := Scalar.indexCast v4
  ![v5.toNat]
@[reducible] def k0_t1_loop : Scf.Loop 32 :=
  let c0_i32 : BitVec 32 := 0#32
  let c8_i32 : BitVec 32 := 8#32
  let v68 : BitVec 32 := Scalar.addi c0_i32 c8_i32
  let c1_i32_38 : BitVec 32 := 1#32
  ⟨c0_i32, v68, c1_i32_38⟩
def k0_mult1 (k0_t1 : Fin k0_t1_loop.trips) : BitVec 32 :=
  let c0_i32 : BitVec 32 := 0#32
  let c1_i32_38 : BitVec 32 := 1#32
  let arg10 : BitVec 32 := Scf.iv c0_i32 c1_i32_38 k0_t1
  let c2_i32_40 : BitVec 32 := 2#32
  let v69 : BitVec 32 := Scalar.muli arg10 c2_i32_40
  let c0_i32_41 : BitVec 32 := 0#32
  let v70 : BitVec 32 := Scalar.addi v69 c0_i32_41
  let c128_i32 : BitVec 32 := 128#32
  let v71 : BitVec 32 := Scalar.muli v70 c128_i32
  v71
def k0_mult2 (k0_t1 : Fin k0_t1_loop.trips) : BitVec 32 :=
  let c1664_i32 : BitVec 32 := 1664#32
  let c0_i32_43 : BitVec 32 := 0#32
  let c0_i32 : BitVec 32 := 0#32
  let c1_i32_38 : BitVec 32 := 1#32
  let arg10 : BitVec 32 := Scf.iv c0_i32 c1_i32_38 k0_t1
  let c2_i32_40 : BitVec 32 := 2#32
  let v69 : BitVec 32 := Scalar.muli arg10 c2_i32_40
  let c0_i32_41 : BitVec 32 := 0#32
  let v70 : BitVec 32 := Scalar.addi v69 c0_i32_41
  let c128_i32 : BitVec 32 := 128#32
  let v71 : BitVec 32 := Scalar.muli v70 c128_i32
  let v72 : BitVec 32 := v71
  let c128_i32_42 : BitVec 32 := 128#32
  let v73 : BitVec 32 := Scalar.subi v72 c128_i32_42
  let v74 : BitVec 32 := Scalar.maxsi c0_i32_43 v73
  let v75 : BitVec 32 := Scalar.minsi c1664_i32 v74
  v75
def k0_off3 (k0_t1 : Fin k0_t1_loop.trips) (c0_i32_41 : BitVec 32) : Fin 3 → Nat :=
  let c0_44 : Index := 0#32
  let c0_i32 : BitVec 32 := 0#32
  let c1_i32_38 : BitVec 32 := 1#32
  let arg10 : BitVec 32 := Scf.iv c0_i32 c1_i32_38 k0_t1
  let c2_i32_40 : BitVec 32 := 2#32
  let v69 : BitVec 32 := Scalar.muli arg10 c2_i32_40
  let v70 : BitVec 32 := Scalar.addi v69 c0_i32_41
  let c128_i32 : BitVec 32 := 128#32
  let v71 : BitVec 32 := Scalar.muli v70 c128_i32
  let v72 : BitVec 32 := v71
  let v77 : Index := Scalar.indexCast v72
  let c0_45 : Index := 0#32
  ![0, v77.toNat, 0]
def k0_off4 (k0_t1 : Fin k0_t1_loop.trips) (c0_i32_41 : BitVec 32) : Fin 3 → Nat :=
  let c0_46 : Index := 0#32
  let c1664_i32 : BitVec 32 := 1664#32
  let c0_i32_43 : BitVec 32 := 0#32
  let c0_i32 : BitVec 32 := 0#32
  let c1_i32_38 : BitVec 32 := 1#32
  let arg10 : BitVec 32 := Scf.iv c0_i32 c1_i32_38 k0_t1
  let c2_i32_40 : BitVec 32 := 2#32
  let v69 : BitVec 32 := Scalar.muli arg10 c2_i32_40
  let v70 : BitVec 32 := Scalar.addi v69 c0_i32_41
  let c128_i32 : BitVec 32 := 128#32
  let v71 : BitVec 32 := Scalar.muli v70 c128_i32
  let v72 : BitVec 32 := v71
  let c128_i32_42 : BitVec 32 := 128#32
  let v73 : BitVec 32 := Scalar.subi v72 c128_i32_42
  let v74 : BitVec 32 := Scalar.maxsi c0_i32_43 v73
  let v75 : BitVec 32 := Scalar.minsi c1664_i32 v74
  let v76 : BitVec 32 := v75
  let v80 : Index := Scalar.indexCast v76
  let c0_47 : Index := 0#32
  ![0, v80.toNat, 0]
def k0_off5 (k0_t1 : Fin k0_t1_loop.trips) (c0_i32_41 : BitVec 32) : Fin 3 → Nat :=
  let c0_i32 : BitVec 32 := 0#32
  let c1_i32_38 : BitVec 32 := 1#32
  let arg10 : BitVec 32 := Scf.iv c0_i32 c1_i32_38 k0_t1
  let c2_i32_40 : BitVec 32 := 2#32
  let v69 : BitVec 32 := Scalar.muli arg10 c2_i32_40
  let v70 : BitVec 32 := Scalar.addi v69 c0_i32_41
  let c0_i32_50 : BitVec 32 := 0#32
  let v86 : BitVec 1 := Scalar.cmpi .eq v70 c0_i32_50
  let c1_i32_53 : BitVec 32 := 1#32
  let c15_i32 : BitVec 32 := 15#32
  let v87 : BitVec 1 := Scalar.cmpi .eq v70 c15_i32
  let c2_i32_51 : BitVec 32 := 2#32
  let c0_i32_52 : BitVec 32 := 0#32
  let v88 : BitVec 32 := Scalar.select v87 c2_i32_51 c0_i32_52
  let v89 : BitVec 32 := Scalar.select v86 c1_i32_53 v88
  let v90 : Index := Scalar.indexCast v89
  let c0_54 : Index := 0#32
  let c0_55 : Index := 0#32
  ![v90.toNat, 0, 0]
def k0_mult3 (k0_t1 : Fin k0_t1_loop.trips) : BitVec 32 :=
  let c0_i32 : BitVec 32 := 0#32
  let c1_i32_38 : BitVec 32 := 1#32
  let arg10 : BitVec 32 := Scf.iv c0_i32 c1_i32_38 k0_t1
  let c2_i32_66 : BitVec 32 := 2#32
  let v149 : BitVec 32 := Scalar.muli arg10 c2_i32_66
  let c1_i32_67 : BitVec 32 := 1#32
  let v150 : BitVec 32 := Scalar.addi v149 c1_i32_67
  let c128_i32_68 : BitVec 32 := 128#32
  let v151 : BitVec 32 := Scalar.muli v150 c128_i32_68
  v151
def k0_mult4 (k0_t1 : Fin k0_t1_loop.trips) : BitVec 32 :=
  let c1664_i32_71 : BitVec 32 := 1664#32
  let c0_i32_70 : BitVec 32 := 0#32
  let c0_i32 : BitVec 32 := 0#32
  let c1_i32_38 : BitVec 32 := 1#32
  let arg10 : BitVec 32 := Scf.iv c0_i32 c1_i32_38 k0_t1
  let c2_i32_66 : BitVec 32 := 2#32
  let v149 : BitVec 32 := Scalar.muli arg10 c2_i32_66
  let c1_i32_67 : BitVec 32 := 1#32
  let v150 : BitVec 32 := Scalar.addi v149 c1_i32_67
  let c128_i32_68 : BitVec 32 := 128#32
  let v151 : BitVec 32 := Scalar.muli v150 c128_i32_68
  let v152 : BitVec 32 := v151
  let c128_i32_69 : BitVec 32 := 128#32
  let v153 : BitVec 32 := Scalar.subi v152 c128_i32_69
  let v154 : BitVec 32 := Scalar.maxsi c0_i32_70 v153
  let v155 : BitVec 32 := Scalar.minsi c1664_i32_71 v154
  v155
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊤
  | _ => none
-- ==== ReferenceIdeal.lean ====
abbrev S24x2048x512 : Shape := ⟨3, ![24, 2048, 512]⟩
abbrev S24x2048x128 : Shape := ⟨3, ![24, 2048, 128]⟩
abbrev S8 : Shape := ⟨1, ![8]⟩
abbrev S24x16x128x2x4x64 : Shape := ⟨6, ![24, 16, 128, 2, 4, 64]⟩
abbrev S24x16x128x2x64 : Shape := ⟨5, ![24, 16, 128, 2, 64]⟩
abbrev S_ : Shape := ⟨0, ![]⟩
abbrev S24x18x128x2x64 : Shape := ⟨5, ![24, 18, 128, 2, 64]⟩
abbrev S24x16x384x2x64 : Shape := ⟨5, ![24, 16, 384, 2, 64]⟩
abbrev S2x4 : Shape := ⟨2, ![2, 4]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S24x16x2x384x128x4 : Shape := ⟨6, ![24, 16, 2, 384, 128, 4]⟩
abbrev S24x16x2x4x128x384 : Shape := ⟨6, ![24, 16, 2, 4, 128, 384]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x1x2x4x128x384 : Shape := ⟨6, ![1, 1, 2, 4, 128, 384]⟩
abbrev S16x1x1x128x384 : Shape := ⟨5, ![16, 1, 1, 128, 384]⟩
abbrev S2x4x1 : Shape := ⟨3, ![2, 4, 1]⟩
abbrev S24x16x2x4x128 : Shape := ⟨5, ![24, 16, 2, 4, 128]⟩
abbrev S1x1x2x4x1 : Shape := ⟨5, ![1, 1, 2, 4, 1]⟩
abbrev S24x16x2x4x128x1 : Shape := ⟨6, ![24, 16, 2, 4, 128, 1]⟩
abbrev S24x16x2x64x4x128 : Shape := ⟨6, ![24, 16, 2, 64, 4, 128]⟩
abbrev S24x16x128x2x4 : Shape := ⟨5, ![24, 16, 128, 2, 4]⟩
abbrev S24x16x128x2x4x1 : Shape := ⟨6, ![24, 16, 128, 2, 4, 1]⟩

abbrev nBuf : Space → Nat
  | .hbm => 113
  | .vmem => 0
  | .smem => 0
  | _ => 0

abbrev bufTy : (tb : Table) → Fin (tcTables nBuf tb) → BufTy
  | .hbm, ⟨0, _⟩ => ⟨S24x2048x512, .f32⟩
  | .hbm, ⟨1, _⟩ => ⟨S24x2048x128, .f32⟩
  | .hbm, ⟨2, _⟩ => ⟨S24x2048x128, .f32⟩
  | .hbm, ⟨3, _⟩ => ⟨S8, .f32⟩
  | .hbm, ⟨4, _⟩ => ⟨S24x16x128x2x4x64, .f32⟩
  | .hbm, ⟨5, _⟩ => ⟨S24x16x128x2x64, .f32⟩
  | .hbm, ⟨6, _⟩ => ⟨S_, .i32⟩
  | .hbm, ⟨7, _⟩ => ⟨S_, .f32⟩
  | .hbm, ⟨8, _⟩ => ⟨S24x18x128x2x64, .f32⟩
  | .hbm, ⟨9, _⟩ => ⟨S24x16x128x2x64, .f32⟩
  | .hbm, ⟨10, _⟩ => ⟨S24x16x128x2x64, .f32⟩
  | .hbm, ⟨11, _⟩ => ⟨S24x16x128x2x64, .f32⟩
  | .hbm, ⟨12, _⟩ => ⟨S24x16x384x2x64, .f32⟩
  | .hbm, ⟨13, _⟩ => ⟨S24x16x128x2x64, .f32⟩
  | .hbm, ⟨14, _⟩ => ⟨S_, .i32⟩
  | .hbm, ⟨15, _⟩ => ⟨S_, .f32⟩
  | .hbm, ⟨16, _⟩ => ⟨S24x18x128x2x64, .f32⟩
  | .hbm, ⟨17, _⟩ => ⟨S24x16x128x2x64, .f32⟩
  | .hbm, ⟨18, _⟩ => ⟨S24x16x128x2x64, .f32⟩
  | .hbm, ⟨19, _⟩ => ⟨S24x16x128x2x64, .f32⟩
  | .hbm, ⟨20, _⟩ => ⟨S24x16x384x2x64, .f32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .i32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S2x4, .f32⟩
  | .hbm, ⟨30, _⟩ => ⟨S128, .i32⟩
  | .hbm, ⟨31, _⟩ => ⟨S384, .i32⟩
  | .hbm, ⟨32, _⟩ => ⟨S1x384, .i32⟩
  | .hbm, ⟨33, _⟩ => ⟨S_, .i32⟩
  | .hbm, ⟨34, _⟩ => ⟨S1x384, .i32⟩
  | .hbm, ⟨35, _⟩ => ⟨S1x384, .i32⟩
  | .hbm, ⟨36, _⟩ => ⟨S128x1, .i32⟩
  | .hbm, ⟨37, _⟩ => ⟨S128x384, .i32⟩
  | .hbm, ⟨38, _⟩ => ⟨S128x384, .i32⟩
  | .hbm, ⟨39, _⟩ => ⟨S128x384, .i32⟩
  | .hbm, ⟨40, _⟩ => ⟨S128x384, .i32⟩
  | .hbm, ⟨41, _⟩ => ⟨S16, .i32⟩
  | .hbm, ⟨42, _⟩ => ⟨S16x1, .i32⟩
  | .hbm, ⟨43, _⟩ => ⟨S_, .i32⟩
  | .hbm, ⟨44, _⟩ => ⟨S16x1, .i32⟩
  | .hbm, ⟨45, _⟩ => ⟨S16x1, .i32⟩
  | .hbm, ⟨46, _⟩ => ⟨S_, .i32⟩
  | .hbm, ⟨47, _⟩ => ⟨S16x1, .i32⟩
  | .hbm, ⟨48, _⟩ => ⟨S16x1, .i32⟩
  | .hbm, ⟨49, _⟩ => ⟨S1x384, .i32⟩
  | .hbm, ⟨50, _⟩ => ⟨S16x384, .i32⟩
  | .hbm, ⟨51, _⟩ => ⟨S16x384, .i32⟩
  | .hbm, ⟨52, _⟩ => ⟨S16x384, .i32⟩
  | .hbm, ⟨53, _⟩ => ⟨S_, .i32⟩
  | .hbm, ⟨54, _⟩ => ⟨S128x384, .i32⟩
  | .hbm, ⟨55, _⟩ => ⟨S128x384, .i1⟩
  | .hbm, ⟨56, _⟩ => ⟨S1x128x384, .i1⟩
  | .hbm, ⟨57, _⟩ => ⟨S_, .i32⟩
  | .hbm, ⟨58, _⟩ => ⟨S16x384, .i32⟩
  | .hbm, ⟨59, _⟩ => ⟨S16x384, .i1⟩
  | .hbm, ⟨60, _⟩ => ⟨S_, .i32⟩
  | .hbm, ⟨61, _⟩ => ⟨S16x384, .i32⟩
  | .hbm, ⟨62, _⟩ => ⟨S16x384, .i1⟩
  | .hbm, ⟨63, _⟩ => ⟨S16x384, .i1⟩
  | .hbm, ⟨64, _⟩ => ⟨S16x1x384, .i1⟩
  | .hbm, ⟨65, _⟩ => ⟨S16x128x384, .i1⟩
  | .hbm, ⟨66, _⟩ => ⟨S16x128x384, .i1⟩
  | .hbm, ⟨67, _⟩ => ⟨S16x128x384, .i1⟩
  | .hbm, ⟨68, _⟩ => ⟨S24x16x2x384x128x4, .f32⟩
  | .hbm, ⟨69, _⟩ => ⟨S24x16x2x4x128x384, .f32⟩
  | .hbm, ⟨70, _⟩ => ⟨S_, .f32⟩
  | .hbm, ⟨71, _⟩ => ⟨S24x16x2x4x128x384, .f32⟩
  | .hbm, ⟨72, _⟩ => ⟨S24x16x2x4x128x384, .f32⟩
  | .hbm, ⟨73, _⟩ => ⟨S2x4x1x1, .f32⟩
  | .hbm, ⟨74, _⟩ => ⟨S128x384, .f32⟩
  | .hbm, ⟨75, _⟩ => ⟨S1x1x128x384, .f32⟩
  | .hbm, ⟨76, _⟩ => ⟨S2x4x128x384, .f32⟩
  | .hbm, ⟨77, _⟩ => ⟨S2x4x128x384, .f32⟩
  | .hbm, ⟨78, _⟩ => ⟨S2x4x128x384, .f32⟩
  | .hbm, ⟨79, _⟩ => ⟨S1x1x2x4x128x384, .f32⟩
  | .hbm, ⟨80, _⟩ => ⟨S24x16x2x4x128x384, .f32⟩
  | .hbm, ⟨81, _⟩ => ⟨S24x16x2x4x128x384, .f32⟩
  | .hbm, ⟨82, _⟩ => ⟨S16x1x1x128x384, .i1⟩
  | .hbm, ⟨83, _⟩ => ⟨S_, .f32⟩
  | .hbm, ⟨84, _⟩ => ⟨S_, .f32⟩
  | .hbm, ⟨85, _⟩ => ⟨S24x16x2x4x128x384, .i1⟩
  | .hbm, ⟨86, _⟩ => ⟨S24x16x2x4x128x384, .f32⟩
  | .hbm, ⟨87, _⟩ => ⟨S24x16x2x4x128x384, .f32⟩
  | .hbm, ⟨88, _⟩ => ⟨S2x4, .f32⟩
  | .hbm, ⟨89, _⟩ => ⟨S2x4x1, .f32⟩
  | .hbm, ⟨90, _⟩ => ⟨S_, .f32⟩
  | .hbm, ⟨91, _⟩ => ⟨S24x16x2x4x128, .f32⟩
  | .hbm, ⟨92, _⟩ => ⟨S1x1x2x4x1, .f32⟩
  | .hbm, ⟨93, _⟩ => ⟨S24x16x2x4x128, .f32⟩
  | .hbm, ⟨94, _⟩ => ⟨S24x16x2x4x128, .f32⟩
  | .hbm, ⟨95, _⟩ => ⟨S24x16x2x4x128x1, .f32⟩
  | .hbm, ⟨96, _⟩ => ⟨S24x16x2x4x128x384, .f32⟩
  | .hbm, ⟨97, _⟩ => ⟨S24x16x2x4x128x384, .f32⟩
  | .hbm, ⟨98, _⟩ => ⟨S24x16x2x4x128x384, .f32⟩
  | .hbm, ⟨99, _⟩ => ⟨S_, .f32⟩
  | .hbm, ⟨100, _⟩ => ⟨S24x16x2x4x128, .f32⟩
  | .hbm, ⟨101, _⟩ => ⟨S1x1x2x4x1, .f32⟩
  | .hbm, ⟨102, _⟩ => ⟨S24x16x2x4x128, .f32⟩
  | .hbm, ⟨103, _⟩ => ⟨S24x16x2x4x128, .f32⟩
  | .hbm, ⟨104, _⟩ => ⟨S24x16x2x4x128, .f32⟩
  | .hbm, ⟨105, _⟩ => ⟨S24x16x2x4x128, .f32⟩
  | .hbm, ⟨106, _⟩ => ⟨S24x16x2x64x4x128, .f32⟩
  | .hbm, ⟨107, _⟩ => ⟨S24x16x128x2x4x64, .f32⟩
  | .hbm, ⟨108, _⟩ => ⟨S24x16x128x2x4, .f32⟩
  | .hbm, ⟨109, _⟩ => ⟨S24x16x128x2x4x1, .f32⟩
  | .hbm, ⟨110, _⟩ => ⟨S24x16x128x2x4x64, .f32⟩
  | .hbm, ⟨111, _⟩ => ⟨S24x16x128x2x4x64, .f32⟩
  | .hbm, ⟨112, _⟩ => ⟨S24x2048x512, .f32⟩
  | _, _ => ⟨S24x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_11 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩

abbrev nD : Nat := 1
abbrev τ : Topo := Topo.v7x

variable {F : FTy → Type} [FloatOps F]
-- ==== Kernel2.lean ====
abbrev S32 : Shape := ⟨1, ![32]⟩
abbrev S106496x1x1024 : Shape := ⟨3, ![106496, 1, 1024]⟩
abbrev S2x32x1024x512 : Shape := ⟨4, ![2, 32, 1024, 512]⟩
abbrev S2x32x512x1024 : Shape := ⟨4, ![2, 32, 512, 1024]⟩
abbrev S416 : Shape := ⟨1, ![416]⟩
abbrev S_ : Shape := ⟨0, ![]⟩
abbrev S1x32 : Shape := ⟨2, ![1, 32]⟩
abbrev S416x1 : Shape := ⟨2, ![416, 1]⟩
abbrev S416x32 : Shape := ⟨2, ![416, 32]⟩
abbrev S1 : Shape := ⟨1, ![1]⟩
abbrev S256x1x1024 : Shape := ⟨3, ![256, 1, 1024]⟩
abbrev S1x1x1024x512 : Shape := ⟨4, ![1, 1, 1024, 512]⟩
abbrev S1x1x512x1024 : Shape := ⟨4, ![1, 1, 512, 1024]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 23
  | .vmem => 11
  | .smem => 2
  | _ => 0

abbrev bufTy : (tb : Table) → Fin (tcTables nBuf tb) → BufTy
  | .hbm, ⟨0, _⟩ => ⟨S32, .i32⟩
  | .hbm, ⟨1, _⟩ => ⟨S106496x1x1024, .f32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S416, .i32⟩
  | .hbm, ⟨6, _⟩ => ⟨S_, .i32⟩
  | .hbm, ⟨7, _⟩ => ⟨S416, .i32⟩
  | .hbm, ⟨8, _⟩ => ⟨S416, .i32⟩
  | .hbm, ⟨9, _⟩ => ⟨S1x32, .i32⟩
  | .hbm, ⟨10, _⟩ => ⟨S416x1, .i32⟩
  | .hbm, ⟨11, _⟩ => ⟨S416x32, .i32⟩
  | .hbm, ⟨12, _⟩ => ⟨S416x32, .i32⟩
  | .hbm, ⟨13, _⟩ => ⟨S416x32, .i1⟩
  | .hbm, ⟨14, _⟩ => ⟨S416x32, .i32⟩
  | .hbm, ⟨15, _⟩ => ⟨S_, .i32⟩
  | .hbm, ⟨16, _⟩ => ⟨S416, .i32⟩
  | .hbm, ⟨17, _⟩ => ⟨S_, .i32⟩
  | .hbm, ⟨18, _⟩ => ⟨S416, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S106496x1x1024, .f32⟩
  | .local _ .vmem, ⟨0, _⟩ => ⟨S256x1x1024, .f32⟩
  | .local _ .vmem, ⟨1, _⟩ => ⟨S256x1x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x1x1024, .f32⟩
  | .local _ .vmem, ⟨9, _⟩ => ⟨S256x1x1024, .f32⟩
  | .local _ .vmem, ⟨10, _⟩ => ⟨S256x1024, .f32⟩
  | .local _ .smem, ⟨0, _⟩ => ⟨S416, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v15 : Ref sig .tc := ⟨.hbm, 22, rfl⟩
abbrev main_v11 : Ref sig .tc := ⟨.smem, 0, rfl⟩
abbrev main_v14 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![416], ![false]⟩

abbrev pre0 : Pipeline.Prefetch sig := ⟨2, ![main_v11.idx, main_v14.idx], fun | 0 => main_v11.names | 1 => main_v14.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S416.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S416.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S416.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32 : Shape := ⟨1, ![32]⟩
abbrev S106496x1x1024 : Shape := ⟨3, ![106496, 1, 1024]⟩
abbrev S2x32x1024x512 : Shape := ⟨4, ![2, 32, 1024, 512]⟩
abbrev S2x32x512x1024 : Shape := ⟨4, ![2, 32, 512, 1024]⟩
abbrev S106496x1024 : Shape := ⟨2, ![106496, 1024]⟩
abbrev S1x32 : Shape := ⟨2, ![1, 32]⟩
abbrev S106496 : Shape := ⟨1, ![106496]⟩
abbrev S106496x1 : Shape := ⟨2, ![106496, 1]⟩
abbrev S106496x32 : Shape := ⟨2, ![106496, 32]⟩
abbrev S_ : Shape := ⟨0, ![]⟩
abbrev S1x32x1024x512 : Shape := ⟨4, ![1, 32, 1024, 512]⟩
abbrev S32x1024x512 : Shape := ⟨3, ![32, 1024, 512]⟩
abbrev S106496x32x512 : Shape := ⟨3, ![106496, 32, 512]⟩
abbrev S106496x32x1 : Shape := ⟨3, ![106496, 32, 1]⟩
abbrev S1x32x512x1024 : Shape := ⟨4, ![1, 32, 512, 1024]⟩
abbrev S32x512x1024 : Shape := ⟨3, ![32, 512, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32, .i32⟩
  | .hbm, ⟨1, _⟩ => ⟨S106496x1x1024, .f32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S106496x1024, .f32⟩
  | .hbm, ⟨6, _⟩ => ⟨S1x32, .i32⟩
  | .hbm, ⟨7, _⟩ => ⟨S106496, .i32⟩
  | .hbm, ⟨8, _⟩ => ⟨S106496x1, .i32⟩
  | .hbm, ⟨9, _⟩ => ⟨S106496x32, .i32⟩
  | .hbm, ⟨10, _⟩ => ⟨S106496x32, .i32⟩
  | .hbm, ⟨11, _⟩ => ⟨S106496x32, .i1⟩
  | .hbm, ⟨12, _⟩ => ⟨S106496x32, .i32⟩
  | .hbm, ⟨13, _⟩ => ⟨S_, .i32⟩
  | .hbm, ⟨14, _⟩ => ⟨S106496, .i32⟩
  | .hbm, ⟨15, _⟩ => ⟨S106496x1, .i32⟩
  | .hbm, ⟨16, _⟩ => ⟨S1x32, .i32⟩
  | .hbm, ⟨17, _⟩ => ⟨S106496x32, .i32⟩
  | .hbm, ⟨18, _⟩ => ⟨S106496x32, .i32⟩
  | .hbm, ⟨19, _⟩ => ⟨S106496x32, .i1⟩
  | .hbm, ⟨20, _⟩ => ⟨S106496x32, .f32⟩
  | .hbm, ⟨21, _⟩ => ⟨S1x32x1024x512, .f32⟩
  | .hbm, ⟨22, _⟩ => ⟨S32x1024x512, .f32⟩
  | .hbm, ⟨23, _⟩ => ⟨S106496x32x512, .f32⟩
  | .hbm, ⟨24, _⟩ => ⟨S106496x32x512, .f32⟩
  | .hbm, ⟨25, _⟩ => ⟨S106496x32x512, .f32⟩
  | .hbm, ⟨26, _⟩ => ⟨S_, .f32⟩
  | .hbm, ⟨27, _⟩ => ⟨S106496x32x512, .f32⟩
  | .hbm, ⟨28, _⟩ => ⟨S106496x32x512, .f32⟩
  | .hbm, ⟨29, _⟩ => ⟨S_, .f32⟩
  | .hbm, ⟨30, _⟩ => ⟨S106496x32x512, .f32⟩
  | .hbm, ⟨31, _⟩ => ⟨S106496x32x512, .f32⟩
  | .hbm, ⟨32, _⟩ => ⟨S106496x32x512, .f32⟩
  | .hbm, ⟨33, _⟩ => ⟨S1x32x1024x512, .f32⟩
  | .hbm, ⟨34, _⟩ => ⟨S32x1024x512, .f32⟩
  | .hbm, ⟨35, _⟩ => ⟨S106496x32x512, .f32⟩
  | .hbm, ⟨36, _⟩ => ⟨S106496x32x512, .f32⟩
  | .hbm, ⟨37, _⟩ => ⟨S106496x32x1, .f32⟩
  | .hbm, ⟨38, _⟩ => ⟨S106496x32x512, .f32⟩
  | .hbm, ⟨39, _⟩ => ⟨S106496x32x512, .f32⟩
  | .hbm, ⟨40, _⟩ => ⟨S1x32x512x1024, .f32⟩
  | .hbm, ⟨41, _⟩ => ⟨S32x512x1024, .f32⟩
  | .hbm, ⟨42, _⟩ => ⟨S106496x1024, .f32⟩
  | .hbm, ⟨43, _⟩ => ⟨S106496x1x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Kernel3.lean ====
abbrev S24x2048x1024 : Shape := ⟨3, ![24, 2048, 1024]⟩
abbrev S24x2048x512 : Shape := ⟨3, ![24, 2048, 512]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S1024x256 : Shape := ⟨2, ![1024, 256]⟩
abbrev S92 : Shape := ⟨1, ![92]⟩
abbrev S128 : Shape := ⟨1, ![128]⟩
abbrev S1x128 : Shape := ⟨2, ![1, 128]⟩
abbrev S49152x1024 : Shape := ⟨2, ![49152, 1024]⟩
abbrev S49152x512 : Shape := ⟨2, ![49152, 512]⟩
abbrev S1x1024 : Shape := ⟨2, ![1, 1024]⟩
abbrev S49152x128 : Shape := ⟨2, ![49152, 128]⟩
abbrev S8x49152 : Shape := ⟨2, ![8, 49152]⟩
abbrev S512x1024 : Shape := ⟨2, ![512, 1024]⟩
abbrev S512x512 : Shape := ⟨2, ![512, 512]⟩
abbrev S512x128 : Shape := ⟨2, ![512, 128]⟩
abbrev S8x512 : Shape := ⟨2, ![8, 512]⟩
abbrev S1x512 : Shape := ⟨2, ![1, 512]⟩
abbrev S512 : Shape := ⟨1, ![512]⟩
abbrev S512x1 : Shape := ⟨2, ![512, 1]⟩
abbrev S512x256 : Shape := ⟨2, ![512, 256]⟩
abbrev S128x512 : Shape := ⟨2, ![128, 512]⟩

abbrev nBuf : Space → Nat
  | .hbm => 33
  | .vmem => 18
  | .smem => 0
  | _ => 0

abbrev bufTy : (tb : Table) → Fin (tcTables nBuf tb) → BufTy
  | .hbm, ⟨0, _⟩ => ⟨S24x2048x1024, .f32⟩
  | .hbm, ⟨1, _⟩ => ⟨S24x2048x512, .f32⟩
  | .hbm, ⟨2, _⟩ => ⟨S24x2048x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S1024x256, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S49152x1024, .f32⟩
  | .hbm, ⟨24, _⟩ => ⟨S49152x512, .f32⟩
  | .hbm, ⟨25, _⟩ => ⟨S49152x512, .f32⟩
  | .hbm, ⟨26, _⟩ => ⟨S1x1024, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S49152x1024, .f32⟩
  | .hbm, ⟨31, _⟩ => ⟨S49152x128, .f32⟩
  | .hbm, ⟨32, _⟩ => ⟨S8x49152, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x256, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S8x512, .f32⟩
  | .local _ .vmem, ⟨17, _⟩ => ⟨S8x512, .f32⟩
  | _, _ => ⟨S24x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S24x2048x1024 : Shape := ⟨3, ![24, 2048, 1024]⟩
abbrev S24x2048x512 : Shape := ⟨3, ![24, 2048, 512]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S512 : Shape := ⟨1, ![512]⟩
abbrev S_ : Shape := ⟨0, ![]⟩
abbrev S24x2048 : Shape := ⟨2, ![24, 2048]⟩
abbrev S24x2048x1 : Shape := ⟨3, ![24, 2048, 1]⟩
abbrev S1x1x512 : Shape := ⟨3, ![1, 1, 512]⟩
abbrev S1x1x1024 : Shape := ⟨3, ![1, 1, 1024]⟩
abbrev S49152x1024 : Shape := ⟨2, ![49152, 1024]⟩

abbrev nBuf : Space → Nat
  | .hbm => 81
  | .vmem => 0
  | .smem => 0
  | _ => 0

abbrev bufTy : (tb : Table) → Fin (tcTables nBuf tb) → BufTy
  | .hbm, ⟨0, _⟩ => ⟨S24x2048x1024, .f32⟩
  | .hbm, ⟨1, _⟩ => ⟨S24x2048x512, .f32⟩
  | .hbm, ⟨2, _⟩ => ⟨S24x2048x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S512, .f32⟩
  | .hbm, ⟨12, _⟩ => ⟨S24x2048x512, .f32⟩
  | .hbm, ⟨13, _⟩ => ⟨S_, .f32⟩
  | .hbm, ⟨14, _⟩ => ⟨S24x2048, .f32⟩
  | .hbm, ⟨15, _⟩ => ⟨S24x2048x1, .f32⟩
  | .hbm, ⟨16, _⟩ => ⟨S_, .f32⟩
  | .hbm, ⟨17, _⟩ => ⟨S24x2048x1, .f32⟩
  | .hbm, ⟨18, _⟩ => ⟨S24x2048x1, .f32⟩
  | .hbm, ⟨19, _⟩ => ⟨S_, .f32⟩
  | .hbm, ⟨20, _⟩ => ⟨S24x2048x1, .f32⟩
  | .hbm, ⟨21, _⟩ => ⟨S24x2048x1, .f32⟩
  | .hbm, ⟨22, _⟩ => ⟨S24x2048x1, .f32⟩
  | .hbm, ⟨23, _⟩ => ⟨S24x2048x512, .f32⟩
  | .hbm, ⟨24, _⟩ => ⟨S24x2048x512, .f32⟩
  | .hbm, ⟨25, _⟩ => ⟨S1x1x512, .f32⟩
  | .hbm, ⟨26, _⟩ => ⟨S24x2048x512, .f32⟩
  | .hbm, ⟨27, _⟩ => ⟨S24x2048x512, .f32⟩
  | .hbm, ⟨28, _⟩ => ⟨S512, .f32⟩
  | .hbm, ⟨29, _⟩ => ⟨S24x2048x512, .f32⟩
  | .hbm, ⟨30, _⟩ => ⟨S_, .f32⟩
  | .hbm, ⟨31, _⟩ => ⟨S24x2048, .f32⟩
  | .hbm, ⟨32, _⟩ => ⟨S24x2048x1, .f32⟩
  | .hbm, ⟨33, _⟩ => ⟨S_, .f32⟩
  | .hbm, ⟨34, _⟩ => ⟨S24x2048x1, .f32⟩
  | .hbm, ⟨35, _⟩ => ⟨S24x2048x1, .f32⟩
  | .hbm, ⟨36, _⟩ => ⟨S_, .f32⟩
  | .hbm, ⟨37, _⟩ => ⟨S24x2048x1, .f32⟩
  | .hbm, ⟨38, _⟩ => ⟨S24x2048x1, .f32⟩
  | .hbm, ⟨39, _⟩ => ⟨S24x2048x1, .f32⟩
  | .hbm, ⟨40, _⟩ => ⟨S24x2048x512, .f32⟩
  | .hbm, ⟨41, _⟩ => ⟨S24x2048x512, .f32⟩
  | .hbm, ⟨42, _⟩ => ⟨S1x1x512, .f32⟩
  | .hbm, ⟨43, _⟩ => ⟨S24x2048x512, .f32⟩
  | .hbm, ⟨44, _⟩ => ⟨S24x2048x512, .f32⟩
  | .hbm, ⟨45, _⟩ => ⟨S24x2048x1024, .f32⟩
  | .hbm, ⟨46, _⟩ => ⟨S_, .f32⟩
  | .hbm, ⟨47, _⟩ => ⟨S24x2048x1024, .f32⟩
  | .hbm, ⟨48, _⟩ => ⟨S24x2048x1024, .f32⟩
  | .hbm, ⟨49, _⟩ => ⟨S24x2048x1024, .f32⟩
  | .hbm, ⟨50, _⟩ => ⟨S24x2048x1024, .f32⟩
  | .hbm, ⟨51, _⟩ => ⟨S_, .f32⟩
  | .hbm, ⟨52, _⟩ => ⟨S24x2048, .f32⟩
  | .hbm, ⟨53, _⟩ => ⟨S24x2048x1, .f32⟩
  | .hbm, ⟨54, _⟩ => ⟨S_, .f32⟩
  | .hbm, ⟨55, _⟩ => ⟨S24x2048x1, .f32⟩
  | .hbm, ⟨56, _⟩ => ⟨S24x2048x1, .f32⟩
  | .hbm, ⟨57, _⟩ => ⟨S24x2048x1024, .f32⟩
  | .hbm, ⟨58, _⟩ => ⟨S24x2048x1024, .f32⟩
  | .hbm, ⟨59, _⟩ => ⟨S24x2048x1024, .f32⟩
  | .hbm, ⟨60, _⟩ => ⟨S_, .f32⟩
  | .hbm, ⟨61, _⟩ => ⟨S24x2048, .f32⟩
  | .hbm, ⟨62, _⟩ => ⟨S24x2048x1, .f32⟩
  | .hbm, ⟨63, _⟩ => ⟨S_, .f32⟩
  | .hbm, ⟨64, _⟩ => ⟨S24x2048x1, .f32⟩
  | .hbm, ⟨65, _⟩ => ⟨S24x2048x1, .f32⟩
  | .hbm, ⟨66, _⟩ => ⟨S24x2048x1024, .f32⟩
  | .hbm, ⟨67, _⟩ => ⟨S24x2048x1024, .f32⟩
  | .hbm, ⟨68, _⟩ => ⟨S_, .f32⟩
  | .hbm, ⟨69, _⟩ => ⟨S24x2048x1, .f32⟩
  | .hbm, ⟨70, _⟩ => ⟨S24x2048x1, .f32⟩
  | .hbm, ⟨71, _⟩ => ⟨S24x2048x1, .f32⟩
  | .hbm, ⟨72, _⟩ => ⟨S24x2048x1024, .f32⟩
  | .hbm, ⟨73, _⟩ => ⟨S24x2048x1024, .f32⟩
  | .hbm, ⟨74, _⟩ => ⟨S1x1x1024, .f32⟩
  | .hbm, ⟨75, _⟩ => ⟨S24x2048x1024, .f32⟩
  | .hbm, ⟨76, _⟩ => ⟨S24x2048x1024, .f32⟩
  | .hbm, ⟨77, _⟩ => ⟨S1x1x1024, .f32⟩
  | .hbm, ⟨78, _⟩ => ⟨S24x2048x1024, .f32⟩
  | .hbm, ⟨79, _⟩ => ⟨S24x2048x1024, .f32⟩
  | .hbm, ⟨80, _⟩ => ⟨S49152x1024, .f32⟩
  | _, _ => ⟨S24x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel4.lean ====
abbrev S24x2048x1024 : Shape := ⟨3, ![24, 2048, 1024]⟩
abbrev S1024x2304 : Shape := ⟨2, ![1024, 2304]⟩
abbrev S1024x512 : Shape := ⟨2, ![1024, 512]⟩
abbrev S_ : Shape := ⟨0, ![]⟩
abbrev S1024x128 : Shape := ⟨2, ![1024, 128]⟩
abbrev S1024x1536 : Shape := ⟨2, ![1024, 1536]⟩
abbrev S1024x1024 : Shape := ⟨2, ![1024, 1024]⟩
abbrev S1024x64 : Shape := ⟨2, ![1024, 64]⟩
abbrev S1024x256 : Shape := ⟨2, ![1024, 256]⟩
abbrev S1024x2560 : Shape := ⟨2, ![1024, 2560]⟩
abbrev S24x2048x512 : Shape := ⟨3, ![24, 2048, 512]⟩
abbrev S24x2048x256 : Shape := ⟨3, ![24, 2048, 256]⟩
abbrev S24x1x2048x512 : Shape := ⟨4, ![24, 1, 2048, 512]⟩
abbrev S24x4x512x512 : Shape := ⟨4, ![24, 4, 512, 512]⟩
abbrev S24x16x128x512 : Shape := ⟨4, ![24, 16, 128, 512]⟩
abbrev S1x512x1024 : Shape := ⟨3, ![1, 512, 1024]⟩
abbrev S1x512x512 : Shape := ⟨3, ![1, 512, 512]⟩
abbrev S1x512x256 : Shape := ⟨3, ![1, 512, 256]⟩
abbrev S1x1x512x512 : Shape := ⟨4, ![1, 1, 512, 512]⟩
abbrev S1x4x128x512 : Shape := ⟨4, ![1, 4, 128, 512]⟩
abbrev S1x16x32x512 : Shape := ⟨4, ![1, 16, 32, 512]⟩
abbrev S4x512x128 : Shape := ⟨3, ![4, 512, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 34
  | .vmem => 28
  | .smem => 0
  | _ => 0

abbrev bufTy : (tb : Table) → Fin (tcTables nBuf tb) → BufTy
  | .hbm, ⟨0, _⟩ => ⟨S24x2048x1024, .f32⟩
  | .hbm, ⟨1, _⟩ => ⟨S1024x2304, .f32⟩
  | .hbm, ⟨2, _⟩ => ⟨S1024x512, .f32⟩
  | .hbm, ⟨3, _⟩ => ⟨S_, .f32⟩
  | .hbm, ⟨4, _⟩ => ⟨S1024x512, .f32⟩
  | .hbm, ⟨5, _⟩ => ⟨S1024x512, .f32⟩
  | .hbm, ⟨6, _⟩ => ⟨S1024x128, .f32⟩
  | .hbm, ⟨7, _⟩ => ⟨S1024x128, .f32⟩
  | .hbm, ⟨8, _⟩ => ⟨S1024x1536, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x64, .f32⟩
  | .hbm, ⟨15, _⟩ => ⟨S1024x64, .f32⟩
  | .hbm, ⟨16, _⟩ => ⟨S1024x256, .f32⟩
  | .hbm, ⟨17, _⟩ => ⟨S1024x64, .f32⟩
  | .hbm, ⟨18, _⟩ => ⟨S1024x64, .f32⟩
  | .hbm, ⟨19, _⟩ => ⟨S1024x256, .f32⟩
  | .hbm, ⟨20, _⟩ => ⟨S1024x2560, .f32⟩
  | .hbm, ⟨21, _⟩ => ⟨S1024x2560, .bf16⟩
  | .hbm, ⟨22, _⟩ => ⟨S24x2048x512, .bf16⟩
  | .hbm, ⟨23, _⟩ => ⟨S24x2048x256, .bf16⟩
  | .hbm, ⟨24, _⟩ => ⟨S24x2048x256, .bf16⟩
  | .hbm, ⟨25, _⟩ => ⟨S24x1x2048x512, .bf16⟩
  | .hbm, ⟨26, _⟩ => ⟨S24x1x2048x512, .bf16⟩
  | .hbm, ⟨27, _⟩ => ⟨S24x1x2048x512, .bf16⟩
  | .hbm, ⟨28, _⟩ => ⟨S24x4x512x512, .bf16⟩
  | .hbm, ⟨29, _⟩ => ⟨S24x4x512x512, .bf16⟩
  | .hbm, ⟨30, _⟩ => ⟨S24x4x512x512, .bf16⟩
  | .hbm, ⟨31, _⟩ => ⟨S24x16x128x512, .bf16⟩
  | .hbm, ⟨32, _⟩ => ⟨S24x16x128x512, .bf16⟩
  | .hbm, ⟨33, _⟩ => ⟨S24x16x128x512, .bf16⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x1x512x512, .bf16⟩
  | .local _ .vmem, ⟨10, _⟩ => ⟨S1x1x512x512, .bf16⟩
  | .local _ .vmem, ⟨11, _⟩ => ⟨S1x1x512x512, .bf16⟩
  | .local _ .vmem, ⟨12, _⟩ => ⟨S1x1x512x512, .bf16⟩
  | .local _ .vmem, ⟨13, _⟩ => ⟨S1x1x512x512, .bf16⟩
  | .local _ .vmem, ⟨14, _⟩ => ⟨S1x1x512x512, .bf16⟩
  | .local _ .vmem, ⟨15, _⟩ => ⟨S1x4x128x512, .bf16⟩
  | .local _ .vmem, ⟨16, _⟩ => ⟨S1x4x128x512, .bf16⟩
  | .local _ .vmem, ⟨17, _⟩ => ⟨S1x4x128x512, .bf16⟩
  | .local _ .vmem, ⟨18, _⟩ => ⟨S1x4x128x512, .bf16⟩
  | .local _ .vmem, ⟨19, _⟩ => ⟨S1x4x128x512, .bf16⟩
  | .local _ .vmem, ⟨20, _⟩ => ⟨S1x4x128x512, .bf16⟩
  | .local _ .vmem, ⟨21, _⟩ => ⟨S1x16x32x512, .bf16⟩
  | .local _ .vmem, ⟨22, _⟩ => ⟨S1x16x32x512, .bf16⟩
  | .local _ .vmem, ⟨23, _⟩ => ⟨S1x16x32x512, .bf16⟩
  | .local _ .vmem, ⟨24, _⟩ => ⟨S1x16x32x512, .bf16⟩
  | .local _ .vmem, ⟨25, _⟩ => ⟨S1x16x32x512, .bf16⟩
  | .local _ .vmem, ⟨26, _⟩ => ⟨S1x16x32x512, .bf16⟩
  | .local _ .vmem, ⟨27, _⟩ => ⟨S4x512x128, .f32⟩
  | _, _ => ⟨S24x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev main_v18_3 : Ref sig .tc := ⟨.hbm, 25, rfl⟩
abbrev main_v18_4 : Ref sig .tc := ⟨.hbm, 26, rfl⟩
abbrev main_v18_5 : Ref sig .tc := ⟨.hbm, 27, rfl⟩
abbrev main_v18_6 : Ref sig .tc := ⟨.hbm, 28, rfl⟩
abbrev main_v18_7 : Ref sig .tc := ⟨.hbm, 29, rfl⟩
abbrev main_v18_8 : Ref sig .tc := ⟨.hbm, 30, rfl⟩
abbrev main_v18_9 : Ref sig .tc := ⟨.hbm, 31, rfl⟩
abbrev main_v18_10 : Ref sig .tc := ⟨.hbm, 32, rfl⟩
abbrev main_v18_11 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![24, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x32x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x32x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S24x2048x1024 : Shape := ⟨3, ![24, 2048, 1024]⟩
abbrev S1024x2304 : Shape := ⟨2, ![1024, 2304]⟩
abbrev S24x2048x2304 : Shape := ⟨3, ![24, 2048, 2304]⟩
abbrev S24x2048x512 : Shape := ⟨3, ![24, 2048, 512]⟩
abbrev S24x2048x128 : Shape := ⟨3, ![24, 2048, 128]⟩
abbrev S_ : Shape := ⟨0, ![]⟩
abbrev S24x2048x2x64 : Shape := ⟨4, ![24, 2048, 2, 64]⟩
abbrev S24x2048x2x2x64 : Shape := ⟨5, ![24, 2048, 2, 2, 64]⟩
abbrev S24x2048x4x64 : Shape := ⟨4, ![24, 2048, 4, 64]⟩
abbrev S24x2048x256 : Shape := ⟨3, ![24, 2048, 256]⟩
abbrev S24x2048x1x512 : Shape := ⟨4, ![24, 2048, 1, 512]⟩
abbrev S24x1x2048x512 : Shape := ⟨4, ![24, 1, 2048, 512]⟩
abbrev S24x512x4x512 : Shape := ⟨4, ![24, 512, 4, 512]⟩
abbrev S24x4x512x512 : Shape := ⟨4, ![24, 4, 512, 512]⟩
abbrev S24x128x16x512 : Shape := ⟨4, ![24, 128, 16, 512]⟩
abbrev S24x16x128x512 : Shape := ⟨4, ![24, 16, 128, 512]⟩

abbrev nBuf : Space → Nat
  | .hbm => 53
  | .vmem => 0
  | .smem => 0
  | _ => 0

abbrev bufTy : (tb : Table) → Fin (tcTables nBuf tb) → BufTy
  | .hbm, ⟨0, _⟩ => ⟨S24x2048x1024, .f32⟩
  | .hbm, ⟨1, _⟩ => ⟨S1024x2304, .f32⟩
  | .hbm, ⟨2, _⟩ => ⟨S24x2048x2304, .f32⟩
  | .hbm, ⟨3, _⟩ => ⟨S24x2048x512, .f32⟩
  | .hbm, ⟨4, _⟩ => ⟨S24x2048x128, .f32⟩
  | .hbm, ⟨5, _⟩ => ⟨S24x2048x128, .f32⟩
  | .hbm, ⟨6, _⟩ => ⟨S24x2048x512, .f32⟩
  | .hbm, ⟨7, _⟩ => ⟨S24x2048x512, .f32⟩
  | .hbm, ⟨8, _⟩ => ⟨S24x2048x512, .f32⟩
  | .hbm, ⟨9, _⟩ => ⟨S_, .f32⟩
  | .hbm, ⟨10, _⟩ => ⟨S24x2048x512, .f32⟩
  | .hbm, ⟨11, _⟩ => ⟨S24x2048x512, .f32⟩
  | .hbm, ⟨12, _⟩ => ⟨S_, .f32⟩
  | .hbm, ⟨13, _⟩ => ⟨S24x2048x512, .f32⟩
  | .hbm, ⟨14, _⟩ => ⟨S24x2048x512, .f32⟩
  | .hbm, ⟨15, _⟩ => ⟨S24x2048x2x64, .f32⟩
  | .hbm, ⟨16, _⟩ => ⟨S24x2048x2x2x64, .f32⟩
  | .hbm, ⟨17, _⟩ => ⟨S24x2048x4x64, .f32⟩
  | .hbm, ⟨18, _⟩ => ⟨S24x2048x256, .f32⟩
  | .hbm, ⟨19, _⟩ => ⟨S24x2048x2x64, .f32⟩
  | .hbm, ⟨20, _⟩ => ⟨S24x2048x2x2x64, .f32⟩
  | .hbm, ⟨21, _⟩ => ⟨S24x2048x4x64, .f32⟩
  | .hbm, ⟨22, _⟩ => ⟨S24x2048x256, .f32⟩
  | .hbm, ⟨23, _⟩ => ⟨S24x2048x1x512, .f32⟩
  | .hbm, ⟨24, _⟩ => ⟨S24x1x2048x512, .f32⟩
  | .hbm, ⟨25, _⟩ => ⟨S24x2048x1x512, .f32⟩
  | .hbm, ⟨26, _⟩ => ⟨S24x1x2048x512, .f32⟩
  | .hbm, ⟨27, _⟩ => ⟨S24x2048x1x512, .f32⟩
  | .hbm, ⟨28, _⟩ => ⟨S24x1x2048x512, .f32⟩
  | .hbm, ⟨29, _⟩ => ⟨S24x512x4x512, .f32⟩
  | .hbm, ⟨30, _⟩ => ⟨S24x4x512x512, .f32⟩
  | .hbm, ⟨31, _⟩ => ⟨S24x512x4x512, .f32⟩
  | .hbm, ⟨32, _⟩ => ⟨S24x4x512x512, .f32⟩
  | .hbm, ⟨33, _⟩ => ⟨S24x512x4x512, .f32⟩
  | .hbm, ⟨34, _⟩ => ⟨S24x4x512x512, .f32⟩
  | .hbm, ⟨35, _⟩ => ⟨S24x128x16x512, .f32⟩
  | .hbm, ⟨36, _⟩ => ⟨S24x16x128x512, .f32⟩
  | .hbm, ⟨37, _⟩ => ⟨S24x128x16x512, .f32⟩
  | .hbm, ⟨38, _⟩ => ⟨S24x16x128x512, .f32⟩
  | .hbm, ⟨39, _⟩ => ⟨S24x128x16x512, .f32⟩
  | .hbm, ⟨40, _⟩ => ⟨S24x16x128x512, .f32⟩
  | .hbm, ⟨41, _⟩ => ⟨S24x2048x512, .bf16⟩
  | .hbm, ⟨42, _⟩ => ⟨S24x2048x256, .bf16⟩
  | .hbm, ⟨43, _⟩ => ⟨S24x2048x256, .bf16⟩
  | .hbm, ⟨44, _⟩ => ⟨S24x1x2048x512, .bf16⟩
  | .hbm, ⟨45, _⟩ => ⟨S24x1x2048x512, .bf16⟩
  | .hbm, ⟨46, _⟩ => ⟨S24x1x2048x512, .bf16⟩
  | .hbm, ⟨47, _⟩ => ⟨S24x4x512x512, .bf16⟩
  | .hbm, ⟨48, _⟩ => ⟨S24x4x512x512, .bf16⟩
  | .hbm, ⟨49, _⟩ => ⟨S24x4x512x512, .bf16⟩
  | .hbm, ⟨50, _⟩ => ⟨S24x16x128x512, .bf16⟩
  | .hbm, ⟨51, _⟩ => ⟨S24x16x128x512, .bf16⟩
  | .hbm, ⟨52, _⟩ => ⟨S24x16x128x512, .bf16⟩
  | _, _ => ⟨S24x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩

abbrev nD : Nat := 1
abbrev τ : Topo := Topo.v7x

variable {F : FTy → Type} [FloatOps F]
-- ==== Kernel5.lean ====
abbrev S24x2048x1024 : Shape := ⟨3, ![24, 2048, 1024]⟩
abbrev S24x2048x512 : Shape := ⟨3, ![24, 2048, 512]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S1024x256 : Shape := ⟨2, ![1024, 256]⟩
abbrev S92 : Shape := ⟨1, ![92]⟩
abbrev S128 : Shape := ⟨1, ![128]⟩
abbrev S1x128 : Shape := ⟨2, ![1, 128]⟩
abbrev S49152x1024 : Shape := ⟨2, ![49152, 1024]⟩
abbrev S49152x512 : Shape := ⟨2, ![49152, 512]⟩
abbrev S1x1024 : Shape := ⟨2, ![1, 1024]⟩
abbrev S49152x128 : Shape := ⟨2, ![49152, 128]⟩
abbrev S8x49152 : Shape := ⟨2, ![8, 49152]⟩
abbrev S512x1024 : Shape := ⟨2, ![512, 1024]⟩
abbrev S512x512 : Shape := ⟨2, ![512, 512]⟩
abbrev S512x128 : Shape := ⟨2, ![512, 128]⟩
abbrev S8x512 : Shape := ⟨2, ![8, 512]⟩
abbrev S1x512 : Shape := ⟨2, ![1, 512]⟩
abbrev S512 : Shape := ⟨1, ![512]⟩
abbrev S512x1 : Shape := ⟨2, ![512, 1]⟩
abbrev S512x256 : Shape := ⟨2, ![512, 256]⟩
abbrev S128x512 : Shape := ⟨2, ![128, 512]⟩

abbrev nBuf : Space → Nat
  | .hbm => 33
  | .vmem => 18
  | .smem => 0
  | _ => 0

abbrev bufTy : (tb : Table) → Fin (tcTables nBuf tb) → BufTy
  | .hbm, ⟨0, _⟩ => ⟨S24x2048x1024, .f32⟩
  | .hbm, ⟨1, _⟩ => ⟨S24x2048x512, .f32⟩
  | .hbm, ⟨2, _⟩ => ⟨S24x2048x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S1024x256, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S49152x1024, .f32⟩
  | .hbm, ⟨24, _⟩ => ⟨S49152x512, .f32⟩
  | .hbm, ⟨25, _⟩ => ⟨S49152x512, .f32⟩
  | .hbm, ⟨26, _⟩ => ⟨S1x1024, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S49152x1024, .f32⟩
  | .hbm, ⟨31, _⟩ => ⟨S49152x128, .f32⟩
  | .hbm, ⟨32, _⟩ => ⟨S8x49152, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x256, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S8x512, .f32⟩
  | .local _ .vmem, ⟨17, _⟩ => ⟨S8x512, .f32⟩
  | _, _ => ⟨S24x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S24x2048x1024 : Shape := ⟨3, ![24, 2048, 1024]⟩
abbrev S24x2048x512 : Shape := ⟨3, ![24, 2048, 512]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S512 : Shape := ⟨1, ![512]⟩
abbrev S_ : Shape := ⟨0, ![]⟩
abbrev S24x2048 : Shape := ⟨2, ![24, 2048]⟩
abbrev S24x2048x1 : Shape := ⟨3, ![24, 2048, 1]⟩
abbrev S1x1x512 : Shape := ⟨3, ![1, 1, 512]⟩
abbrev S1x1x1024 : Shape := ⟨3, ![1, 1, 1024]⟩
abbrev S49152x1024 : Shape := ⟨2, ![49152, 1024]⟩
abbrev S49152x4 : Shape := ⟨2, ![49152, 4]⟩
abbrev S1x4 : Shape := ⟨2, ![1, 4]⟩
abbrev S49152 : Shape := ⟨1, ![49152]⟩
abbrev S49152x1 : Shape := ⟨2, ![49152, 1]⟩
abbrev S49152x32 : Shape := ⟨2, ![49152, 32]⟩
abbrev S1x32 : Shape := ⟨2, ![1, 32]⟩
abbrev S49152x4x8 : Shape := ⟨3, ![49152, 4, 8]⟩
abbrev S49152x8 : Shape := ⟨2, ![49152, 8]⟩
abbrev S49152x2 : Shape := ⟨2, ![49152, 2]⟩
abbrev S49152x128 : Shape := ⟨2, ![49152, 128]⟩
abbrev S8x49152 : Shape := ⟨2, ![8, 49152]⟩

abbrev nBuf : Space → Nat
  | .hbm => 149
  | .vmem => 0
  | .smem => 0
  | _ => 0

abbrev hbmTy0_0 (i : Nat) : BufTy := match i % 128 with
  | 0 => ⟨S24x2048x1024, .f32⟩
  | 1 => ⟨S24x2048x512, .f32⟩
  | 2 => ⟨S24x2048x512, .f32⟩
  | 3 => ⟨S1024, .f32⟩
  | 4 => ⟨S1024x1024, .f32⟩
  | 5 => ⟨S1024, .f32⟩
  | 6 => ⟨S1024, .f32⟩
  | 7 => ⟨S1024x4, .f32⟩
  | 8 => ⟨S4, .f32⟩
  | 9 => ⟨S1024x32, .f32⟩
  | 10 => ⟨S32, .f32⟩
  | 11 => ⟨S512, .f32⟩
  | 12 => ⟨S24x2048x512, .f32⟩
  | 13 => ⟨S_, .f32⟩
  | 14 => ⟨S24x2048, .f32⟩
  | 15 => ⟨S24x2048x1, .f32⟩
  | 16 => ⟨S_, .f32⟩
  | 17 => ⟨S24x2048x1, .f32⟩
  | 18 => ⟨S24x2048x1, .f32⟩
  | 19 => ⟨S_, .f32⟩
  | 20 => ⟨S24x2048x1, .f32⟩
  | 21 => ⟨S24x2048x1, .f32⟩
  | 22 => ⟨S24x2048x1, .f32⟩
  | 23 => ⟨S24x2048x512, .f32⟩
  | 24 => ⟨S24x2048x512, .f32⟩
  | 25 => ⟨S1x1x512, .f32⟩
  | 26 => ⟨S24x2048x512, .f32⟩
  | 27 => ⟨S24x2048x512, .f32⟩
  | 28 => ⟨S512, .f32⟩
  | 29 => ⟨S24x2048x512, .f32⟩
  | 30 => ⟨S_, .f32⟩
  | 31 => ⟨S24x2048, .f32⟩
  | 32 => ⟨S24x2048x1, .f32⟩
  | 33 => ⟨S_, .f32⟩
  | 34 => ⟨S24x2048x1, .f32⟩
  | 35 => ⟨S24x2048x1, .f32⟩
  | 36 => ⟨S_, .f32⟩
  | 37 => ⟨S24x2048x1, .f32⟩
  | 38 => ⟨S24x2048x1, .f32⟩
  | 39 => ⟨S24x2048x1, .f32⟩
  | 40 => ⟨S24x2048x512, .f32⟩
  | 41 => ⟨S24x2048x512, .f32⟩
  | 42 => ⟨S1x1x512, .f32⟩
  | 43 => ⟨S24x2048x512, .f32⟩
  | 44 => ⟨S24x2048x512, .f32⟩
  | 45 => ⟨S24x2048x1024, .f32⟩
  | 46 => ⟨S_, .f32⟩
  | 47 => ⟨S24x2048x1024, .f32⟩
  | 48 => ⟨S24x2048x1024, .f32⟩
  | 49 => ⟨S24x2048x1024, .f32⟩
  | 50 => ⟨S24x2048x1024, .f32⟩
  | 51 => ⟨S_, .f32⟩
  | 52 => ⟨S24x2048, .f32⟩
  | 53 => ⟨S24x2048x1, .f32⟩
  | 54 => ⟨S_, .f32⟩
  | 55 => ⟨S24x2048x1, .f32⟩
  | 56 => ⟨S24x2048x1, .f32⟩
  | 57 => ⟨S24x2048x1024, .f32⟩
  | 58 => ⟨S24x2048x1024, .f32⟩
  | 59 => ⟨S24x2048x1024, .f32⟩
  | 60 => ⟨S_, .f32⟩
  | 61 => ⟨S24x2048, .f32⟩
  | 62 => ⟨S24x2048x1, .f32⟩
  | 63 => ⟨S_, .f32⟩
  | 64 => ⟨S24x2048x1, .f32⟩
  | 65 => ⟨S24x2048x1, .f32⟩
  | 66 => ⟨S24x2048x1024, .f32⟩
  | 67 => ⟨S24x2048x1024, .f32⟩
  | 68 => ⟨S_, .f32⟩
  | 69 => ⟨S24x2048x1, .f32⟩
  | 70 => ⟨S24x2048x1, .f32⟩
  | 71 => ⟨S24x2048x1, .f32⟩
  | 72 => ⟨S24x2048x1024, .f32⟩
  | 73 => ⟨S24x2048x1024, .f32⟩
  | 74 => ⟨S1x1x1024, .f32⟩
  | 75 => ⟨S24x2048x1024, .f32⟩
  | 76 => ⟨S24x2048x1024, .f32⟩
  | 77 => ⟨S1x1x1024, .f32⟩
  | 78 => ⟨S24x2048x1024, .f32⟩
  | 79 => ⟨S24x2048x1024, .f32⟩
  | 80 => ⟨S49152x1024, .f32⟩
  | 81 => ⟨S49152x4, .f32⟩
  | 82 => ⟨S1x4, .f32⟩
  | 83 => ⟨S49152x4, .f32⟩
  | 84 => ⟨S49152x4, .f32⟩
  | 85 => ⟨S_, .f32⟩
  | 86 => ⟨S49152, .f32⟩
  | 87 => ⟨S_, .f32⟩
  | 88 => ⟨S49152, .f32⟩
  | 89 => ⟨S49152, .f32⟩
  | 90 => ⟨S49152x1, .f32⟩
  | 91 => ⟨S49152x4, .f32⟩
  | 92 => ⟨S49152x4, .f32⟩
  | 93 => ⟨S49152x4, .f32⟩
  | 94 => ⟨S_, .f32⟩
  | 95 => ⟨S49152, .f32⟩
  | 96 => ⟨S49152x1, .f32⟩
  | 97 => ⟨S49152x4, .f32⟩
  | 98 => ⟨S49152x4, .f32⟩
  | 99 => ⟨S49152x1, .f32⟩
  | 100 => ⟨S49152x1, .i32⟩
  | 101 => ⟨S49152, .i32⟩
  | 102 => ⟨S49152x1, .i32⟩
  | 103 => ⟨S1x4, .i32⟩
  | 104 => ⟨S49152x4, .i32⟩
  | 105 => ⟨S49152x4, .i32⟩
  | 106 => ⟨S49152x4, .i1⟩
  | 107 => ⟨S49152x4, .f32⟩
  | 108 => ⟨S49152x4, .f32⟩
  | 109 => ⟨S_, .f32⟩
  | 110 => ⟨S49152, .f32⟩
  | 111 => ⟨S49152x32, .f32⟩
  | 112 => ⟨S1x32, .f32⟩
  | 113 => ⟨S49152x32, .f32⟩
  | 114 => ⟨S49152x32, .f32⟩
  | 115 => ⟨S49152x4x8, .f32⟩
  | 116 => ⟨S49152x8, .f32⟩
  | 117 => ⟨S49152x2, .f32⟩
  | 118 => ⟨S49152x2, .i32⟩
  | 119 => ⟨S_, .f32⟩
  | 120 => ⟨S49152, .f32⟩
  | 121 => ⟨S_, .f32⟩
  | 122 => ⟨S49152, .f32⟩
  | 123 => ⟨S49152, .f32⟩
  | 124 => ⟨S49152x1, .f32⟩
  | 125 => ⟨S49152x2, .f32⟩
  | 126 => ⟨S49152x2, .f32⟩
  | 127 => ⟨S49152x2, .f32⟩
  | _ => ⟨S24x2048x1024, .f32⟩

abbrev hbmTy0_1 (i : Nat) : BufTy := match i % 128 with
  | 0 => ⟨S_, .f32⟩
  | 1 => ⟨S49152, .f32⟩
  | 2 => ⟨S49152x1, .f32⟩
  | 3 => ⟨S49152x2, .f32⟩
  | 4 => ⟨S49152x2, .f32⟩
  | 5 => ⟨S49152x1, .f32⟩
  | 6 => ⟨S49152x2, .f32⟩
  | 7 => ⟨S49152x2, .f32⟩
  | 8 => ⟨S49152x1, .i32⟩
  | 9 => ⟨S_, .i32⟩
  | 10 => ⟨S49152x1, .i32⟩
  | 11 => ⟨S49152x1, .i32⟩
  | 12 => ⟨S49152x2, .i32⟩
  | 13 => ⟨S49152x2, .i32⟩
  | 14 => ⟨S49152x2, .f32⟩
  | 15 => ⟨S49152x4, .f32⟩
  | 16 => ⟨S_, .i32⟩
  | 17 => ⟨S_, .f32⟩
  | 18 => ⟨S49152x128, .f32⟩
  | 19 => ⟨S49152x8, .f32⟩
  | 20 => ⟨S8x49152, .f32⟩
  | _ => ⟨S24x2048x1024, .f32⟩

abbrev hbmTy (i : Nat) : BufTy := match i / 128 with
  | 0 => hbmTy0_0 i
  | 1 => hbmTy0_1 i
  | _ => ⟨S24x2048x1024, .f32⟩

abbrev bufTy : (tb : Table) → Fin (tcTables nBuf tb) → BufTy
  | .hbm, ⟨i, _⟩ => hbmTy i
  | _, _ => ⟨S24x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_values : Ref sig .tc := ⟨.hbm, 99, rfl⟩
abbrev main_indices : Ref sig .tc := ⟨.hbm, 100, rfl⟩
abbrev main_v73 : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_v74 : Ref sig .tc := ⟨.hbm, 107, rfl⟩
abbrev main_v75 : Ref sig .tc := ⟨.hbm, 108, rfl⟩
abbrev main_cst_14 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_values_15 : Ref sig .tc := ⟨.hbm, 117, rfl⟩
abbrev main_indices_16 : Ref sig .tc := ⟨.hbm, 118, rfl⟩
abbrev main_cst_17 : Ref sig .tc := ⟨.hbm, 119, rfl⟩
abbrev main_v83 : Ref sig .tc := ⟨.hbm, 120, rfl⟩
abbrev main_cst_18 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_20 : Ref sig .tc := ⟨.hbm, 144, rfl⟩
abbrev main_call1_v0 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]
-- ==== Kernel6.lean ====
abbrev S32 : Shape := ⟨1, ![32]⟩
abbrev S106496x1x1024 : Shape := ⟨3, ![106496, 1, 1024]⟩
abbrev S2x32x1024x512 : Shape := ⟨4, ![2, 32, 1024, 512]⟩
abbrev S2x32x512x1024 : Shape := ⟨4, ![2, 32, 512, 1024]⟩
abbrev S416 : Shape := ⟨1, ![416]⟩
abbrev S_ : Shape := ⟨0, ![]⟩
abbrev S1x32 : Shape := ⟨2, ![1, 32]⟩
abbrev S416x1 : Shape := ⟨2, ![416, 1]⟩
abbrev S416x32 : Shape := ⟨2, ![416, 32]⟩
abbrev S1 : Shape := ⟨1, ![1]⟩
abbrev S256x1x1024 : Shape := ⟨3, ![256, 1, 1024]⟩
abbrev S1x1x1024x512 : Shape := ⟨4, ![1, 1, 1024, 512]⟩
abbrev S1x1x512x1024 : Shape := ⟨4, ![1, 1, 512, 1024]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 23
  | .vmem => 11
  | .smem => 2
  | _ => 0

abbrev bufTy : (tb : Table) → Fin (tcTables nBuf tb) → BufTy
  | .hbm, ⟨0, _⟩ => ⟨S32, .i32⟩
  | .hbm, ⟨1, _⟩ => ⟨S106496x1x1024, .f32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S416, .i32⟩
  | .hbm, ⟨6, _⟩ => ⟨S_, .i32⟩
  | .hbm, ⟨7, _⟩ => ⟨S416, .i32⟩
  | .hbm, ⟨8, _⟩ => ⟨S416, .i32⟩
  | .hbm, ⟨9, _⟩ => ⟨S1x32, .i32⟩
  | .hbm, ⟨10, _⟩ => ⟨S416x1, .i32⟩
  | .hbm, ⟨11, _⟩ => ⟨S416x32, .i32⟩
  | .hbm, ⟨12, _⟩ => ⟨S416x32, .i32⟩
  | .hbm, ⟨13, _⟩ => ⟨S416x32, .i1⟩
  | .hbm, ⟨14, _⟩ => ⟨S416x32, .i32⟩
  | .hbm, ⟨15, _⟩ => ⟨S_, .i32⟩
  | .hbm, ⟨16, _⟩ => ⟨S416, .i32⟩
  | .hbm, ⟨17, _⟩ => ⟨S_, .i32⟩
  | .hbm, ⟨18, _⟩ => ⟨S416, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S106496x1x1024, .f32⟩
  | .local _ .vmem, ⟨0, _⟩ => ⟨S256x1x1024, .f32⟩
  | .local _ .vmem, ⟨1, _⟩ => ⟨S256x1x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x1x1024, .f32⟩
  | .local _ .vmem, ⟨9, _⟩ => ⟨S256x1x1024, .f32⟩
  | .local _ .vmem, ⟨10, _⟩ => ⟨S256x1024, .f32⟩
  | .local _ .smem, ⟨0, _⟩ => ⟨S416, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v15 : Ref sig .tc := ⟨.hbm, 22, rfl⟩
abbrev main_v11 : Ref sig .tc := ⟨.smem, 0, rfl⟩
abbrev main_v14 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![416], ![false]⟩

abbrev pre0 : Pipeline.Prefetch sig := ⟨2, ![main_v11.idx, main_v14.idx], fun | 0 => main_v11.names | 1 => main_v14.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S416.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S416.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S416.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S32 : Shape := ⟨1, ![32]⟩
abbrev S106496x1x1024 : Shape := ⟨3, ![106496, 1, 1024]⟩
abbrev S2x32x1024x512 : Shape := ⟨4, ![2, 32, 1024, 512]⟩
abbrev S2x32x512x1024 : Shape := ⟨4, ![2, 32, 512, 1024]⟩
abbrev S106496x1024 : Shape := ⟨2, ![106496, 1024]⟩
abbrev S1x32 : Shape := ⟨2, ![1, 32]⟩
abbrev S106496 : Shape := ⟨1, ![106496]⟩
abbrev S106496x1 : Shape := ⟨2, ![106496, 1]⟩
abbrev S106496x32 : Shape := ⟨2, ![106496, 32]⟩
abbrev S_ : Shape := ⟨0, ![]⟩
abbrev S1x32x1024x512 : Shape := ⟨4, ![1, 32, 1024, 512]⟩
abbrev S32x1024x512 : Shape := ⟨3, ![32, 1024, 512]⟩
abbrev S106496x32x512 : Shape := ⟨3, ![106496, 32, 512]⟩
abbrev S106496x32x1 : Shape := ⟨3, ![106496, 32, 1]⟩
abbrev S1x32x512x1024 : Shape := ⟨4, ![1, 32, 512, 1024]⟩
abbrev S32x512x1024 : Shape := ⟨3, ![32, 512, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32, .i32⟩
  | .hbm, ⟨1, _⟩ => ⟨S106496x1x1024, .f32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S106496x1024, .f32⟩
  | .hbm, ⟨6, _⟩ => ⟨S1x32, .i32⟩
  | .hbm, ⟨7, _⟩ => ⟨S106496, .i32⟩
  | .hbm, ⟨8, _⟩ => ⟨S106496x1, .i32⟩
  | .hbm, ⟨9, _⟩ => ⟨S106496x32, .i32⟩
  | .hbm, ⟨10, _⟩ => ⟨S106496x32, .i32⟩
  | .hbm, ⟨11, _⟩ => ⟨S106496x32, .i1⟩
  | .hbm, ⟨12, _⟩ => ⟨S106496x32, .i32⟩
  | .hbm, ⟨13, _⟩ => ⟨S_, .i32⟩
  | .hbm, ⟨14, _⟩ => ⟨S106496, .i32⟩
  | .hbm, ⟨15, _⟩ => ⟨S106496x1, .i32⟩
  | .hbm, ⟨16, _⟩ => ⟨S1x32, .i32⟩
  | .hbm, ⟨17, _⟩ => ⟨S106496x32, .i32⟩
  | .hbm, ⟨18, _⟩ => ⟨S106496x32, .i32⟩
  | .hbm, ⟨19, _⟩ => ⟨S106496x32, .i1⟩
  | .hbm, ⟨20, _⟩ => ⟨S106496x32, .f32⟩
  | .hbm, ⟨21, _⟩ => ⟨S1x32x1024x512, .f32⟩
  | .hbm, ⟨22, _⟩ => ⟨S32x1024x512, .f32⟩
  | .hbm, ⟨23, _⟩ => ⟨S106496x32x512, .f32⟩
  | .hbm, ⟨24, _⟩ => ⟨S106496x32x512, .f32⟩
  | .hbm, ⟨25, _⟩ => ⟨S106496x32x512, .f32⟩
  | .hbm, ⟨26, _⟩ => ⟨S_, .f32⟩
  | .hbm, ⟨27, _⟩ => ⟨S106496x32x512, .f32⟩
  | .hbm, ⟨28, _⟩ => ⟨S106496x32x512, .f32⟩
  | .hbm, ⟨29, _⟩ => ⟨S_, .f32⟩
  | .hbm, ⟨30, _⟩ => ⟨S106496x32x512, .f32⟩
  | .hbm, ⟨31, _⟩ => ⟨S106496x32x512, .f32⟩
  | .hbm, ⟨32, _⟩ => ⟨S106496x32x512, .f32⟩
  | .hbm, ⟨33, _⟩ => ⟨S1x32x1024x512, .f32⟩
  | .hbm, ⟨34, _⟩ => ⟨S32x1024x512, .f32⟩
  | .hbm, ⟨35, _⟩ => ⟨S106496x32x512, .f32⟩
  | .hbm, ⟨36, _⟩ => ⟨S106496x32x512, .f32⟩
  | .hbm, ⟨37, _⟩ => ⟨S106496x32x1, .f32⟩
  | .hbm, ⟨38, _⟩ => ⟨S106496x32x512, .f32⟩
  | .hbm, ⟨39, _⟩ => ⟨S106496x32x512, .f32⟩
  | .hbm, ⟨40, _⟩ => ⟨S1x32x512x1024, .f32⟩
  | .hbm, ⟨41, _⟩ => ⟨S32x512x1024, .f32⟩
  | .hbm, ⟨42, _⟩ => ⟨S106496x1024, .f32⟩
  | .hbm, ⟨43, _⟩ => ⟨S106496x1x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Proof.AttnWindow.lean ====
/- The mathematics both attention texts are read as, free of either program: the average of a row of values
   under the softmax of a row of scores with one further score, the sink's, that has no value (`softAvg`), over a
   window of 384 consecutive positions; and that the position at which the window begins is free, so long as it
   takes in every position that is not masked (`softAvg_shift`). -/
module

public import Idealize.ShloMosaic.PureOps.Ideal
public import Idealize.ShloMosaic.PureOps.Ideal.Laws

@[expose] public section

noncomputable section

namespace Cert.Attn

open Idealize.ShloMosaic

/-- The greatest of the scores and the sink's. -/
def rowMax (s : Fin 384 → EReal) (sk : EReal) : EReal :=
  max (Finset.fold max ⊥ s Finset.univ) sk

/-- The average of the values `w` under the softmax of the scores `s` and the sink's score `sk`. -/
def softAvg (s w : Fin 384 → EReal) (sk : EReal) : EReal :=
  Ideal.div (∑ j, Ideal.exp (s j - rowMax s sk) * w j)
    (∑ j, Ideal.exp (s j - rowMax s sk) + Ideal.exp (sk - rowMax s sk))

/-- A masked score has weight zero, whatever the greatest score is. -/
theorem exp_bot_sub (m : EReal) : Ideal.exp (⊥ - m) = 0 := by
  rw [sub_eq_add_neg, EReal.bot_add]; rfl

/-- The window of 384 positions from `a` is the interval of integers from `a`. -/
theorem sum_window (g : ℤ → EReal) (a : ℤ) : ∑ j : Fin 384, g (a + j.val) = ∑ z ∈ Finset.Ico a (a + 384), g z := by
  refine Finset.sum_bij (fun (j : Fin 384) _ => a + (j.val : ℤ)) (fun j _ => ?_) (fun j _ j' _ h => ?_) (fun z hz => ?_) (fun _ _ => rfl)
  · have := j.isLt; simp only [Finset.mem_Ico]; omega
  · apply Fin.ext; simpa using h
  · simp only [Finset.mem_Ico] at hz
    exact ⟨⟨(z - a).toNat, by omega⟩, Finset.mem_univ _, by simp only; omega⟩

/-- A sum over a window of terms that are zero outside two windows is the sum over the other window. -/
theorem sum_window_shift (g : ℤ → EReal) (a b : ℤ) (ha : ∀ z, ¬ (a ≤ z ∧ z < a + 384) → g z = 0)
    (hb : ∀ z, ¬ (b ≤ z ∧ z < b + 384) → g z = 0) :
    ∑ j : Fin 384, g (a + j.val) = ∑ j : Fin 384, g (b + j.val) := by
  rw [sum_window, sum_window]
  have h1 := Finset.sum_subset (f := g) (Finset.subset_union_left (s₁ := Finset.Ico a (a + 384)) (s₂ := Finset.Ico b (b + 384)))
    (fun z _ hz => ha z (by simpa only [Finset.mem_Ico] using hz))
  have h2 := Finset.sum_subset (f := g) (Finset.subset_union_right (s₁ := Finset.Ico a (a + 384)) (s₂ := Finset.Ico b (b + 384)))
    (fun z _ hz => hb z (by simpa only [Finset.mem_Ico] using hz))
  exact h1.trans h2.symm

/-- The greatest over a window is the greatest over the integers, where the scores outside it are masked. -/
theorem fold_window (g : ℤ → EReal) (a : ℤ) (ha : ∀ z, ¬ (a ≤ z ∧ z < a + 384) → g z = ⊥) :
    Finset.fold max ⊥ (fun j : Fin 384 => g (a + j.val)) Finset.univ = ⨆ z, g z := by
  show Finset.sup Finset.univ (fun j : Fin 384 => g (a + j.val)) = _
  rw [Finset.sup_univ_eq_iSup]
  apply le_antisymm
  · exact iSup_le fun j => le_iSup g _
  · refine iSup_le fun z => ?_
    by_cases hz : a ≤ z ∧ z < a + 384
    · have : z = a + (((⟨(z - a).toNat, by omega⟩ : Fin 384)).val : ℤ) := by simp only; omega
      rw [this]; exact le_iSup (fun j : Fin 384 => g (a + j.val)) _
    · rw [ha z hz]; exact bot_le

/-- Where the window begins is free, so long as every score outside it is masked. -/
theorem softAvg_shift (S W : ℤ → EReal) (sk : EReal) (a b : ℤ) (ha : ∀ z, ¬ (a ≤ z ∧ z < a + 384) → S z = ⊥)
    (hb : ∀ z, ¬ (b ≤ z ∧ z < b + 384) → S z = ⊥) :
    softAvg (fun j => S (a + j.val)) (fun j => W (a + j.val)) sk = softAvg (fun j => S (b + j.val)) (fun j => W (b + j.val)) sk := by
  have hm : rowMax (fun j => S (a + j.val)) sk = rowMax (fun j => S (b + j.val)) sk := by
    unfold rowMax; rw [fold_window S a ha, fold_window S b hb]
  unfold softAvg
  rw [hm]
  generalize rowMax (fun j => S (b + j.val)) sk = m
  rw [sum_window_shift (fun z => Ideal.exp (S z - m) * W z) a b (fun z hz => by simp only [ha z hz, exp_bot_sub, zero_mul])
      (fun z hz => by simp only [hb z hz, exp_bot_sub, zero_mul]),
    sum_window_shift (fun z => Ideal.exp (S z - m)) a b (fun z hz => by simp only [ha z hz, exp_bot_sub])
      (fun z hz => by simp only [hb z hz, exp_bot_sub])]

/-- A factor that is a non-negative real number moves across a sum of products. -/
theorem sum_mul_scale {n : ℕ} (c : ℝ) (hc : 0 ≤ c) (x y : Fin n → EReal) :
    ∑ d, x d * (c : EReal) * y d = (∑ d, x d * y d) * (c : EReal) := by
  have key : ∀ s : Finset (Fin n), ∑ d ∈ s, x d * (c : EReal) * y d = (∑ d ∈ s, x d * y d) * (c : EReal) := by
    intro s
    induction s using Finset.induction_on with
    | empty => simp
    | insert a s ha ih =>
      rw [Finset.sum_insert ha, Finset.sum_insert ha, ih,
        EReal.right_distrib_of_nonneg_of_ne_top (EReal.coe_nonneg.mpr hc) (EReal.coe_ne_top c)]
      congr 1
      rw [mul_right_comm]
  exact key _

/-- A sum over 128 positions is one over the first 64 and one over the last 64. -/
theorem sum_halves (f : Fin 128 → EReal) :
    ∑ x, f x = ∑ d : Fin 64, f ⟨d.val, by omega⟩ + ∑ d : Fin 64, f ⟨64 + d.val, by omega⟩ :=
  Fin.sum_univ_add (a := 64) (b := 64) f

end Cert.Attn

end
-- ==== Proof.AttnRef.lean ====
/- The reference of the window attention at an index. -/
module

public import proofs.«01_k».proof.Proof.Gen.ReferenceIdeal.Read
public import proofs.«01_k».proof.Proof.AttnWindow
public import Idealize.ShloMosaic.Lib.Pointwise
public import Idealize.ShloMosaic.Lib.ValueIdxRank6

@[expose] public section

set_option maxRecDepth 16384

noncomputable section

namespace Cert.ReferenceIdeal.Attn

open Cert.ReferenceIdeal Cert.ReferenceIdeal.Value Cert.ReferenceIdeal.Read Cert.Attn Idealize.ShloMosaic

variable (x0 : (⟨S24x2048x512, .f32⟩ : BufTy).Contents (Elt Ideal)) (x1 x2 : (⟨S24x2048x128, .f32⟩ : BufTy).Contents (Elt Ideal))
  (x3 : (⟨S8, .f32⟩ : BufTy).Contents (Elt Ideal))
  (b : Fin 24) (n : Fin 16) (r : Fin 128) (j : Fin 384) (g : Fin 2) (h : Fin 4) (d : Fin 64)

/-- The queries as blocks and heads. -/
theorem q_block : val_main_v0 (F := Ideal) x0 (ix6 b n r g h d)
    = x0 (ix3 b ⟨n.val * 128 + r.val, by omega⟩ ⟨(g.val * 4 + h.val) * 64 + d.val, by omega⟩) := by
  unfold val_main_v0
  refine shapeCast_apply x0 _ _ _ ?_
  rw [Shape.rowMajor_val_three, Shape.rowMajor_val_six]
  show (b.val * 2048 + (n.val * 128 + r.val)) * 512 + ((g.val * 4 + h.val) * 64 + d.val)
    = ((((b.val * 16 + n.val) * 128 + r.val) * 2 + g.val) * 4 + h.val) * 64 + d.val
  omega

/-- The padded array: a block of zeros before and after the sequence. -/
theorem pad_at (x : S24x2048x128.Idx → EReal) (v : S_.Idx → EReal) (u : Fin 18) (z : Fin 2048) (hz : z.val + 128 = u.val * 128 + r.val) :
    pad S24x18x128x2x64 ![0, 1, 0, 0, 0] ![0, 1, 0, 0, 0] ![0, 0, 0, 0, 0] (val_main_v1 (F := Ideal) x) v Gen.pads_S24x16x128x2x64_S24x18x128x2x64_000_110_000_000_000 Gen.h_S_ (ix5 b u r g d)
      = x (ix3 b z ⟨g.val * 64 + d.val, by omega⟩) := by
  have hw : val_main_v1 (F := Ideal) x (ix5 b ⟨z.val / 128, by omega⟩ ⟨z.val % 128, by omega⟩ g d) = x (ix3 b z ⟨g.val * 64 + d.val, by omega⟩) := by
    unfold val_main_v1
    refine shapeCast_apply x _ _ _ ?_
    rw [Shape.rowMajor_val_three, Shape.rowMajor_val_five]
    show (b.val * 2048 + z.val) * 128 + (g.val * 64 + d.val)
      = (((b.val * 16 + z.val / 128) * 128 + z.val % 128) * 2 + g.val) * 64 + d.val
    omega
  rw [← hw]
  generalize val_main_v1 (F := Ideal) x = y
  pointwise
  have e1 : u.val - 1 = z.val / 128 := by omega
  have e2 : r = ⟨z.val % 128, by omega⟩ := Fin.ext (by simp only; omega)
  refine (dif_pos ⟨by omega, by omega⟩).trans ?_
  rw [← e2]
  exact congrArg (fun q : Fin 16 => y (ix5 b q r g d)) (Fin.ext e1)

/-- The keys of a window, at a position of the sequence. -/
theorem k_window (z : Fin 2048) (hz : z.val + 128 = n.val * 128 + j.val) :
    val_main_v6 (F := Ideal) x1 (ix5 b n j g d) = x1 (ix3 b z ⟨g.val * 64 + d.val, by omega⟩) := by
  unfold val_main_v6
  pointwise
  by_cases h1 : j.val < 128
  · refine (dif_pos h1).trans ?_
    rw [val_main_v3_apply]
    refine (congrArg (val_main_v2 (F := Ideal) x1) (eq_ix5 _)).trans (pad_at b ⟨j.val, h1⟩ g d x1 _ ⟨n.val, by omega⟩ z ?_)
    simp only; omega
  refine (dif_neg h1).trans ?_
  by_cases h2 : j.val - 128 < 128
  · refine (dif_pos h2).trans ?_
    rw [val_main_v4_apply]
    refine (congrArg (val_main_v2 (F := Ideal) x1) (eq_ix5 _)).trans (pad_at b ⟨j.val - 128, h2⟩ g d x1 _ ⟨1 + n.val, by omega⟩ z ?_)
    simp only; omega
  · refine (dif_neg h2).trans ?_
    rw [val_main_v5_apply]
    refine (congrArg (val_main_v2 (F := Ideal) x1) (eq_ix5 _)).trans (pad_at b ⟨j.val - 128 - 128, by omega⟩ g d x1 _ ⟨2 + n.val, by omega⟩ z ?_)
    simp only; omega

/-- The values likewise. -/
theorem v_window (z : Fin 2048) (hz : z.val + 128 = n.val * 128 + j.val) :
    val_main_v12 (F := Ideal) x2 (ix5 b n j g d) = x2 (ix3 b z ⟨g.val * 64 + d.val, by omega⟩) := by
  unfold val_main_v12
  pointwise
  by_cases h1 : j.val < 128
  · refine (dif_pos h1).trans ?_
    rw [val_main_v9_apply]
    refine (congrArg (val_main_v8 (F := Ideal) x2) (eq_ix5 _)).trans (pad_at b ⟨j.val, h1⟩ g d x2 _ ⟨n.val, by omega⟩ z ?_)
    simp only; omega
  refine (dif_neg h1).trans ?_
  by_cases h2 : j.val - 128 < 128
  · refine (dif_pos h2).trans ?_
    rw [val_main_v10_apply]
    refine (congrArg (val_main_v8 (F := Ideal) x2) (eq_ix5 _)).trans (pad_at b ⟨j.val - 128, h2⟩ g d x2 _ ⟨1 + n.val, by omega⟩ z ?_)
    simp only; omega
  · refine (dif_neg h2).trans ?_
    rw [val_main_v11_apply]
    refine (congrArg (val_main_v8 (F := Ideal) x2) (eq_ix5 _)).trans (pad_at b ⟨j.val - 128 - 128, by omega⟩ g d x2 _ ⟨2 + n.val, by omega⟩ z ?_)
    simp only; omega

/-- The greatest score of a query. -/
theorem max_row : val_main_v69 (F := Ideal) x0 x1 (ix5 b n g h r)
   = Finset.fold max ⊥ (fun j => val_main_v66 (F := Ideal) x0 x1 (ix6 b n g h r j)) Finset.univ := by
  have hb : (val_main_cst_10 (F := Ideal) (Shape.Idx.first Gen.h_S_) : EReal) = ⊥ := by
    rw [val_main_cst_10_apply]
    show Ideal.ofBits .f32 0xFF800000#32 = ⊥
    simp [Ideal.ofBits, Ideal.ieee]
  unfold val_main_v69
  generalize val_main_v66 (F := Ideal) x0 x1 = y
  pointwise
  rw [hb]
  refine Finset.fold_filter_eq_fold_of_fiber (ι := S24x16x2x4x128x384.Idx) max _ (fun k : Fin 384 => ix6 b n g h r k) (fun _ _ e => congrFun e 5) (fun i => ?_) ⊥ y
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- The array reshaped back, at an index. -/
theorem result_at (p : Fin 2048) (e : Fin 512) : val_main_v89 (F := Ideal) x0 x1 x2 x3 (ix3 b p e)
    = val_main_v88 (F := Ideal) x0 x1 x2 x3 (ix6 b ⟨p.val / 128, by omega⟩ ⟨p.val % 128, by omega⟩ ⟨e.val / 256, by omega⟩ ⟨e.val / 64 % 4, by omega⟩ ⟨e.val % 64, by omega⟩) := by
  unfold val_main_v89
  generalize val_main_v88 (F := Ideal) x0 x1 x2 x3 = y
  refine shapeCast_apply y _ _ _ ?_
  rw [Shape.rowMajor_val_three, Shape.rowMajor_val_six]
  show ((((b.val * 16 + p.val / 128) * 128 + p.val % 128) * 2 + e.val / 256) * 4 + e.val / 64 % 4) * 64 + e.val % 64
    = (b.val * 2048 + p.val) * 512 + e.val
  omega

/-- The products of queries and keys. -/
theorem v53_at : val_main_v53 (F := Ideal) x0 x1 (ix6 b n g h r j) = ∑ d : Fin 64, val_main_v6 (F := Ideal) x1 (ix5 b n j g d) * val_main_v0 (F := Ideal) x0 (ix6 b n r g h d) := by
  rw [val_main_v53_apply, val_main_v52_apply]
  refine Finset.sum_congr rfl fun k _ => ?_
  exact congrArg₂ (· * ·) (congrArg _ (eq_ix5 _)) (congrArg _ (ValueIdx.eq_ix6 _))

/-- The slopes. -/
theorem slope_at : (val_main_v19 (F := Ideal) (ix2 g h) : EReal) = (((1 / 2 : ℝ) ^ (g.val * 4 + h.val + 1) : ℝ) : EReal) := by
  simp only [val_main_v19_apply, val_main_v18_apply, val_main_v17_apply, val_main_v16_apply, val_main_v15_apply, val_main_v14_apply, val_main_v13_apply, val_main_cst_apply, val_main_c_1_apply]
  have key : ∀ q : Fin 8, Ideal.div (Ideal.ofBits .f32 0x3F800000#32) ((((IntOp.shli ArithUnit.host (2#32) (BitVec.ofNat 32 q.val)).toInt : ℝ)) : EReal)
      = (((1 / 2 : ℝ) ^ (q.val + 1) : ℝ) : EReal) := by
    intro q
    have h1 : Ideal.ofBits .f32 0x3F800000#32 = ((1 : ℝ) : EReal) := by
      simp [Ideal.ofBits, Ideal.ieee, -EReal.coe_mul]; norm_num
    have h2 : (IntOp.shli ArithUnit.host (2#32) (BitVec.ofNat 32 q.val)).toInt = 2 ^ (q.val + 1) := by
      revert q; decide
    rw [h1, h2]
    have h3 : (((2 ^ (q.val + 1) : ℤ) : ℝ) : EReal) = (((2 : ℝ) ^ (q.val + 1) : ℝ) : EReal) := by norm_num
    rw [h3, Ideal.div, if_neg (by exact_mod_cast (pow_pos (by norm_num : (0 : ℝ) < 2) _).ne'), ← EReal.coe_inv, ← EReal.coe_mul]
    congr 1
    rw [one_mul, one_div, inv_pow]
  exact key ⟨g.val * 4 + h.val, by omega⟩

/-- A number that fits a signed 32-bit word is what the word reads as. -/
theorem bmod_of_range (x : ℤ) (h0 : -2147483648 ≤ x) (h1 : x < 2147483648) : x.bmod 4294967296 = x := by
  rw [Int.bmod_def]; omega

/-- The distance of a query and a key of its window. -/
theorem dist_at : (val_main_v29 (F := Ideal) (ix2 r j)).toInt = ((j.val : ℤ) - 128 - r.val).natAbs := by
  simp only [val_main_v29_apply, val_main_v28_apply, val_main_v27_apply, val_main_v26_apply, val_main_v25_apply, val_main_v24_apply, val_main_v23_apply,
    val_main_v22_apply, val_main_v21_apply, val_main_v20_apply, val_main_c_2_apply]
  show (IntOp.absi (IntOp.subi (IntOp.subi (BitVec.ofNat 32 j.val) (BitVec.ofNat 32 128)) (BitVec.ofNat 32 r.val))).toInt = _
  have hx : (IntOp.subi (IntOp.subi (BitVec.ofNat 32 j.val) (BitVec.ofNat 32 128)) (BitVec.ofNat 32 r.val)).toInt = (j.val : ℤ) - 128 - r.val := by
    simp only [IntOp.subi, BitVec.toInt_sub, BitVec.toInt_ofNat', Nat.reducePow]
    rw [bmod_of_range j.val (by omega) (by omega), bmod_of_range ((128 : ℕ) : ℤ) (by omega) (by omega), bmod_of_range r.val (by omega) (by omega),
      bmod_of_range (_ - ((128 : ℕ) : ℤ)) (by omega) (by omega), bmod_of_range _ (by omega) (by omega)]
    rfl
  unfold IntOp.absi
  split_ifs with hm
  · rw [BitVec.toInt_neg, hx]
    rw [BitVec.msb_eq_toInt, hx, decide_eq_true_iff] at hm
    simp only [Nat.reducePow]
    rw [bmod_of_range _ (by omega) (by omega)]
    omega
  · rw [hx]
    rw [BitVec.msb_eq_toInt, hx, decide_eq_true_iff] at hm
    omega

/-- Where the mask is open: the key is at most 128 positions away, and within the sequence. -/
theorem mask_at : (val_main_v51 (F := Ideal) (ix3 n r j)) = if ((j.val : ℤ) - 128 - r.val).natAbs ≤ 128 ∧ 0 ≤ (n.val : ℤ) * 128 - 128 + j.val ∧ (n.val : ℤ) * 128 - 128 + j.val < 2048 then 1#1 else 0#1 := by
  have hz : (IntOp.addi (IntOp.subi (IntOp.muli (BitVec.ofNat 32 n.val) (BitVec.ofNat 32 128)) (BitVec.ofNat 32 128)) (BitVec.ofNat 32 j.val)).toInt = (n.val : ℤ) * 128 - 128 + j.val := by
    simp only [IntOp.subi, IntOp.addi, IntOp.muli, BitVec.toInt_sub, BitVec.toInt_add, BitVec.toInt_mul, BitVec.toInt_ofNat', Nat.reducePow]
    rw [bmod_of_range j.val (by omega) (by omega), bmod_of_range ((128 : ℕ) : ℤ) (by omega) (by omega), bmod_of_range n.val (by omega) (by omega),
      bmod_of_range (_ * ((128 : ℕ) : ℤ)) (by omega) (by omega), bmod_of_range (_ - ((128 : ℕ) : ℤ)) (by omega) (by omega), bmod_of_range _ (by omega) (by omega)]
    rfl
  have h1 : IntOp.cmpi .sle (val_main_v29 (F := Ideal) (ix2 r j)) 128#32 = if ((j.val : ℤ) - 128 - r.val).natAbs ≤ 128 then 1#1 else 0#1 := by
    have := dist_at r j
    generalize val_main_v29 (F := Ideal) (ix2 r j) = w at this
    show BitVec.ofBool (w.sle 128#32) = _
    rw [BitVec.sle_eq_decide, this, show (128#32).toInt = 128 from by decide]
    split_ifs with hc
    · rw [decide_eq_true (by omega)]; rfl
    · rw [decide_eq_false (by omega)]; rfl
  simp only [val_main_v51_apply, val_main_v50_apply, val_main_v49_apply, val_main_v48_apply, val_main_v47_apply, val_main_v46_apply, val_main_v45_apply, val_main_v44_apply,
    val_main_v43_apply, val_main_v42_apply, val_main_v41_apply, val_main_v40_apply, val_main_v39_apply, val_main_v38_apply, val_main_v37_apply, val_main_v36_apply, val_main_v35_apply, val_main_v34_apply,
    val_main_v33_apply, val_main_v32_apply, val_main_v31_apply, val_main_v30_apply, val_main_v21_apply, val_main_c_3_apply, val_main_c_4_apply, val_main_c_5_apply, val_main_c_6_apply, val_main_c_7_apply]
  rw [show idx_main_v42 (idx_main_v49 (ix3 n r j)) = ix2 r j from eq_ix2 _, h1]
  show IntOp.andi _ (IntOp.andi (IntOp.cmpi .sge (IntOp.addi (IntOp.subi (IntOp.muli (BitVec.ofNat 32 n.val) (BitVec.ofNat 32 128)) (BitVec.ofNat 32 128)) (BitVec.ofNat 32 j.val)) 0#32)
    (IntOp.cmpi .slt (IntOp.addi (IntOp.subi (IntOp.muli (BitVec.ofNat 32 n.val) (BitVec.ofNat 32 128)) (BitVec.ofNat 32 128)) (BitVec.ofNat 32 j.val)) 2048#32)) = _
  generalize IntOp.addi (IntOp.subi (IntOp.muli (BitVec.ofNat 32 n.val) (BitVec.ofNat 32 128)) (BitVec.ofNat 32 128)) (BitVec.ofNat 32 j.val) = w at hz ⊢
  have h2 : IntOp.cmpi .sge w 0#32 = if 0 ≤ (n.val : ℤ) * 128 - 128 + j.val then 1#1 else 0#1 := by
    show BitVec.ofBool ((0#32).sle w) = _
    rw [BitVec.sle_eq_decide, hz, show (0#32).toInt = 0 from by decide]
    split_ifs with hc
    · rw [decide_eq_true hc]; rfl
    · rw [decide_eq_false hc]; rfl
  have h3 : IntOp.cmpi .slt w 2048#32 = if (n.val : ℤ) * 128 - 128 + j.val < 2048 then 1#1 else 0#1 := by
    show BitVec.ofBool (w.slt 2048#32) = _
    rw [BitVec.slt_eq_decide, hz, show (2048#32).toInt = 2048 from by decide]
    split_ifs with hc
    · rw [decide_eq_true hc]; rfl
    · rw [decide_eq_false hc]; rfl
  rw [h2, h3]
  split_ifs <;> first | rfl | (exfalso; omega)

/-- The sink of a head. -/
theorem sink_at : val_main_v71 (F := Ideal) x3 (ix5 b n g h r) = x3 (ix1 ⟨g.val * 4 + h.val, by omega⟩) := by
  rw [val_main_v71_apply, val_main_v70_apply, val_main_v68_apply, val_main_v67_apply]
  exact congrArg x3 (eq_ix1 _)

/-- The score of a query and a key of its window. -/
def score : EReal :=
  if ((j.val : ℤ) - 128 - r.val).natAbs ≤ 128 ∧ 0 ≤ (n.val : ℤ) * 128 - 128 + j.val ∧ (n.val : ℤ) * 128 - 128 + j.val < 2048 then
    (∑ d : Fin 64, (val_main_v6 (F := Ideal) x1 (ix5 b n j g d) : EReal) * val_main_v0 (F := Ideal) x0 (ix6 b n r g h d)) * ((1 / 8 : ℝ) : EReal)
      - (((1 / 2 : ℝ) ^ (g.val * 4 + h.val + 1) : ℝ) : EReal) * ((((j.val : ℤ) - 128 - r.val).natAbs : ℝ) : EReal)
  else ⊥

/-- The scores, scaled, biased and masked. -/
theorem score_at : val_main_v66 (F := Ideal) x0 x1 (ix6 b n g h r j) = score x0 x1 b n r j g h := by
  have hm : val_main_call2_v1 (F := Ideal) (ix6 b n g h r j) = val_main_v51 (F := Ideal) (ix3 n r j) := by
    rw [val_main_call2_v1_apply, val_main_v65_apply]
    exact congrArg _ (eq_ix3 _)
  have hb : (val_main_call2_v2 (F := Ideal) (ix6 b n g h r j) : EReal) = ⊥ := by
    rw [val_main_call2_v2_apply, val_main_call2_v0_apply, val_main_cst_9_apply]
    show Ideal.ofBits .f32 0xFF800000#32 = ⊥
    simp [Ideal.ofBits, Ideal.ieee]
  have hs : (val_main_v63 (F := Ideal) (ix6 b n g h r j) : EReal) = (((1 / 2 : ℝ) ^ (g.val * 4 + h.val + 1) : ℝ) : EReal) * ((((j.val : ℤ) - 128 - r.val).natAbs : ℝ) : EReal) := by
    rw [val_main_v63_apply, val_main_v62_apply, val_main_v61_apply, val_main_v60_apply, val_main_v59_apply, val_main_v58_apply, val_main_v57_apply, val_main_v56_apply]
    refine congrArg₂ (fun u v : EReal => u * v) ((congrArg (val_main_v19 (F := Ideal)) (eq_ix2 _)).trans (slope_at g h)) ?_
    refine (congrArg (fun i => ((((val_main_v29 (F := Ideal) i).toInt : ℝ)) : EReal)) (eq_ix2 _)).trans ?_
    refine (congrArg (fun i : ℤ => ((i : ℝ) : EReal)) (dist_at r j)).trans ?_
    norm_num
  have hc : (val_main_v54 (F := Ideal) (ix6 b n g h r j) : EReal) = ((1 / 8 : ℝ) : EReal) := by
    rw [val_main_v54_apply, val_main_cst_8_apply]
    show Ideal.ofBits .f32 0x3E000000#32 = _
    simp [Ideal.ofBits, Ideal.ieee, -EReal.coe_mul]; norm_num
  rw [val_main_v66_apply, hm, hb, mask_at, val_main_v64_apply, hs, val_main_v55_apply, hc, v53_at]
  unfold score
  split_ifs <;> rfl

/-- The greatest of the scores and the sink's. -/
theorem max_at : val_main_v72 (F := Ideal) x0 x1 x3 (ix5 b n g h r)
    = rowMax (fun j => score x0 x1 b n r j g h) (x3 (ix1 ⟨g.val * 4 + h.val, by omega⟩)) := by
  rw [val_main_v72_apply, sink_at, max_row]
  simp only [score_at]
  rfl

/-- The exponential of a score less the greatest. -/
theorem exp_at : val_main_v76 (F := Ideal) x0 x1 x3 (ix6 b n g h r j)
    = Ideal.exp (score x0 x1 b n r j g h - rowMax (fun j => score x0 x1 b n r j g h) (x3 (ix1 ⟨g.val * 4 + h.val, by omega⟩))) := by
  have e : idx_main_v73 (idx_main_v74 (ix6 b n g h r j)) = ix5 b n g h r := eq_ix5 _
  rw [val_main_v76_apply, val_main_v75_apply, val_main_v74_apply, val_main_v73_apply, e, max_at, score_at]
  rfl

/-- The sum of the exponentials, the sink's among them. -/
theorem sum_at : val_main_v82 (F := Ideal) x0 x1 x3 (ix5 b n g h r)
    = ∑ j, Ideal.exp (score x0 x1 b n r j g h - rowMax (fun j => score x0 x1 b n r j g h) (x3 (ix1 ⟨g.val * 4 + h.val, by omega⟩)))
      + Ideal.exp (x3 (ix1 ⟨g.val * 4 + h.val, by omega⟩) - rowMax (fun j => score x0 x1 b n r j g h) (x3 (ix1 ⟨g.val * 4 + h.val, by omega⟩))) := by
  have hk : val_main_v79 (F := Ideal) x3 (ix5 b n g h r) = x3 (ix1 ⟨g.val * 4 + h.val, by omega⟩) := by
    rw [val_main_v79_apply, val_main_v78_apply, val_main_v68_apply, val_main_v67_apply]
    exact congrArg x3 (eq_ix1 _)
  have h0 : (val_main_cst_11 (F := Ideal) (Shape.Idx.first Gen.h_S_) : EReal) = 0 := by
    show Ideal.ofBits .f32 0x00000000#32 = 0
    simp [Ideal.ofBits, Ideal.ieee]
  have hs : ∀ k, val_main_v76 (F := Ideal) x0 x1 x3 (idx_main_v77 (ix5 b n g h r) k) = Ideal.exp (score x0 x1 b n r k g h - rowMax (fun j => score x0 x1 b n r j g h) (x3 (ix1 ⟨g.val * 4 + h.val, by omega⟩))) :=
    fun k => (congrArg (val_main_v76 (F := Ideal) x0 x1 x3) (ValueIdx.eq_ix6 _)).trans (exp_at x0 x1 x3 b n r k g h)
  rw [val_main_v82_apply, val_main_v81_apply, val_main_v80_apply, hk, max_at, val_main_v77_apply]
  simp only [hs]
  refine congrArg₂ (fun u v : EReal => u + v) ?_ rfl
  refine (congrArg (fun u : EReal => u + _) h0).trans (zero_add _)

/-- The products with the values. -/
theorem values_at : val_main_v83 (F := Ideal) x0 x1 x2 x3 (ValueIdx.ix6 b n g d h r)
    = ∑ j, Ideal.exp (score x0 x1 b n r j g h - rowMax (fun j => score x0 x1 b n r j g h) (x3 (ix1 ⟨g.val * 4 + h.val, by omega⟩)))
        * val_main_v12 (F := Ideal) x2 (ix5 b n j g d) := by
  rw [val_main_v83_apply]
  refine Finset.sum_congr rfl fun k _ => ?_
  have e3 : ridx_main_v83 (ValueIdx.ix6 b n g d h r) k = ix6 b n g h r k := ValueIdx.eq_ix6 _
  have e4 : lidx_main_v83 (ValueIdx.ix6 b n g d h r) k = ix5 b n k g d := eq_ix5 _
  rw [e3, e4, exp_at]
  exact mul_comm _ _

/-- The average, by its block, head and lane. -/
theorem average_at : val_main_v88 (F := Ideal) x0 x1 x2 x3 (ix6 b n r g h d)
      = softAvg (fun j => score x0 x1 b n r j g h) (fun j => val_main_v12 (F := Ideal) x2 (ix5 b n j g d)) (x3 (ix1 ⟨g.val * 4 + h.val, by omega⟩)) := by
  have e1 : idx_main_v84 (ix6 b n r g h d) = ValueIdx.ix6 b n g d h r := ValueIdx.eq_ix6 _
  have e2 : idx_main_v85 (idx_main_v86 (idx_main_v87 (ix6 b n r g h d))) = ix5 b n g h r := eq_ix5 _
  rw [val_main_v88_apply, val_main_v84_apply, e1, val_main_v87_apply, val_main_v86_apply, val_main_v85_apply, e2, sum_at, values_at]
  rfl

/-- The reference's result at an index: the average of the window's values under the softmax of the scores. -/
theorem ref_at (p : Fin 2048) (e : Fin 512) : val_main_v89 (F := Ideal) x0 x1 x2 x3 (ix3 b p e)
    = softAvg (fun j => score x0 x1 b ⟨p.val / 128, by omega⟩ ⟨p.val % 128, by omega⟩ j ⟨e.val / 256, by omega⟩ ⟨e.val / 64 % 4, by omega⟩)
        (fun j => val_main_v12 (F := Ideal) x2 (ix5 b ⟨p.val / 128, by omega⟩ j ⟨e.val / 256, by omega⟩ ⟨e.val % 64, by omega⟩))
        (x3 (ix1 ⟨e.val / 64, by omega⟩)) := by
  rw [result_at]
  have hk : x3 (ix1 ⟨e.val / 64, by omega⟩) = x3 (ix1 ⟨e.val / 256 * 4 + e.val / 64 % 4, by omega⟩) :=
    congrArg (fun q : Fin 8 => x3 (ix1 q)) (Fin.ext (by simp only; omega))
  rw [hk]
  exact average_at x0 x1 x2 x3 b _ _ ⟨e.val / 256, by omega⟩ ⟨e.val / 64 % 4, by omega⟩ ⟨e.val % 64, by omega⟩

end Cert.ReferenceIdeal.Attn

end
-- ==== Proof.AttnBlock.lean ====
/- What the window-attention kernel computes for one block of 128 queries and one pair of heads, read at an index:
   the sum over the block-diagonal keys and values falls apart into the two heads', and each is the softmax average
   of Proof/AttnWindow.lean. -/
module

public import proofs.«01_k».proof.Proof.Gen.KernelIdeal.Skeleton
public import proofs.«01_k».proof.Proof.AttnWindow
public import Idealize.ShloMosaic.Lib.Pointwise

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

/-- One block of queries against one window of keys and values, as the kernel's first block of a trip computes it. -/
def band {F : FTy → Type} [FloatOps F] (sa sb : Elt F .f32) (q : Vec F S1x128x128 .bf16) (k v : Vec F S1x384x128 .bf16)
    (b : Vec F S1x128x768 .f32) : FVec F S1x128x128 .f32 :=
  k0_pay7 sa sb (k0_pay4 v) (k0_pay5 q k b) (k0_pay6 q k b)

/-- The second block of a trip is computed by the same operations. -/
theorem band_second {F : FTy → Type} [FloatOps F] (sa sb : Elt F .f32) (q : Vec F S1x128x128 .bf16) (k v : Vec F S1x384x128 .bf16)
    (b : Vec F S1x128x768 .f32) :
    k0_pay1 sa sb (k0_pay10 v) (k0_pay12 q k b) (k0_pay13 q k b) (k0_pay14 q k b) (k0_pay15 sa q k b) = band sa sb q k v b := rfl

/-- Minus infinity, as the kernel's maximum starts. -/
theorem ofBits_neg_inf : Ideal.ofBits .f32 0xFF800000#32 = (⊥ : EReal) := by
  simp [Ideal.ofBits, Ideal.ieee]

/-- The kernel's lane test: whether a lane is in the lower half. -/
theorem lane_lt (x : Fin 128) : IntOp.cmpi .slt (BitVec.ofNat 32 x.val) 64#32 = if x.val < 64 then 1#1 else 0#1 := by
  revert x; decide

/-- A select by the lane test. -/
theorem select_lane {α : Type} (x : Fin 128) (a b : α) :
    Scalar.select (IntOp.cmpi .slt (BitVec.ofNat 32 x.val) 64#32) a b = if x.val < 64 then a else b := by
  rw [lane_lt]; by_cases h : x.val < 64 <;> simp [h, Scalar.select]

variable (sa sb : Elt Ideal .f32) (q : Vec Ideal S1x128x128 .bf16) (k v : Vec Ideal S1x384x128 .bf16)
    (b : Vec Ideal S1x128x768 .f32)

/-- The scores of the pair's first head. -/
theorem score_lo (r : Fin 128) (j : Fin 384) :
    k0_pay5 q k b (ix2 r ⟨j.val, by omega⟩)
      = ∑ d : Fin 64, q (ix3 0 r ⟨d.val, by omega⟩) * k (ix3 0 j ⟨d.val, by omega⟩) + b (ix3 0 r ⟨j.val, by omega⟩) := by
  pointwise [Gen.k0_pay5, Gen.k0_pay2, Gen.k0_pay3]
  simp only [select_lane]
  rw [sum_halves]
  congr 1
  have h2 : ∀ d : Fin 64, ¬ (64 + d.val < 64) := fun d => by omega
  simp only [Fin.isLt, j.isLt, dite_true, if_true, h2, if_false, mul_zero, Finset.sum_const_zero, add_zero]

/-- The scores of the pair's second head. -/
theorem score_hi (r : Fin 128) (j : Fin 384) :
    k0_pay5 q k b (ix2 r ⟨384 + j.val, by omega⟩)
      = ∑ d : Fin 64, q (ix3 0 r ⟨64 + d.val, by omega⟩) * k (ix3 0 j ⟨64 + d.val, by omega⟩) + b (ix3 0 r ⟨384 + j.val, by omega⟩) := by
  pointwise [Gen.k0_pay5, Gen.k0_pay2, Gen.k0_pay3]
  simp only [select_lane]
  rw [sum_halves]
  congr 1
  have h2 : ∀ d : Fin 64, ¬ (64 + d.val < 64) := fun d => by omega
  have h3 : ¬ (384 + j.val < 384) := by omega
  simp only [Fin.isLt, h3, dite_false, if_true, h2, if_false, mul_zero, Finset.sum_const_zero, zero_add]

/-- The values of the first head, and zero in the second's lanes. -/
theorem value_lo (j : Fin 384) (l : Fin 128) :
    k0_pay4 v (ix2 ⟨j.val, by omega⟩ l) = if l.val < 64 then v (ix3 0 j l) else 0 := by
  pointwise [Gen.k0_pay4, Gen.k0_pay2, Gen.k0_pay3]
  simp only [select_lane, j.isLt, dite_true]

/-- The upper half of the doubled values: the second head's lanes. -/
theorem value_hi (j : Fin 384) (l : Fin 128) :
    k0_pay4 v (ix2 ⟨384 + j.val, by omega⟩ l) = if l.val < 64 then 0 else v (ix3 0 j l) := by
  pointwise [Gen.k0_pay4, Gen.k0_pay2, Gen.k0_pay3]
  have h3 : ¬ (384 + j.val < 384) := by omega
  simp only [select_lane, h3, dite_false]

/-- A block at an index of the first head's lanes. -/
theorem band_lo (r l : Fin 128) (hl : l.val < 64) :
    band sa sb q k v b (ix3 0 r l)
      = softAvg (fun j => ∑ d : Fin 64, q (ix3 0 r ⟨d.val, by omega⟩) * k (ix3 0 j ⟨d.val, by omega⟩) + b (ix3 0 r ⟨j.val, by omega⟩))
          (fun j => v (ix3 0 j l)) sa := by
  unfold band
  pointwise [Gen.k0_pay7, Gen.k0_pay6]
  simp only [select_lane, hl, if_true, value_lo, value_hi, mul_zero, Finset.sum_const_zero, add_zero, score_lo, ofBits_neg_inf]
  rfl

/-- A block at an index of the second head's lanes. -/
theorem band_hi (r l : Fin 128) (hl : ¬ l.val < 64) :
    band sa sb q k v b (ix3 0 r l)
      = softAvg (fun j => ∑ d : Fin 64, q (ix3 0 r ⟨64 + d.val, by omega⟩) * k (ix3 0 j ⟨64 + d.val, by omega⟩) + b (ix3 0 r ⟨384 + j.val, by omega⟩))
          (fun j => v (ix3 0 j l)) sb := by
  unfold band
  pointwise [Gen.k0_pay7, Gen.k0_pay6]
  simp only [select_lane, hl, if_false, value_lo, value_hi, mul_zero, Finset.sum_const_zero, zero_add, score_hi, ofBits_neg_inf]
  rfl

end Cert.KernelIdeal.Attn

end
-- ==== Proof.AttnPieces.lean ====
/- The stores the window-attention kernel makes in its output block, listed: each is `band` of the queries, keys,
   values and bias it loads. -/
module

public import proofs.«01_k».proof.Proof.Gen.KernelIdeal.Value
public import proofs.«01_k».proof.Proof.AttnBlock

@[expose] public section

set_option maxRecDepth 16384

noncomputable section

namespace Cert.KernelIdeal.Attn

open Cert.KernelIdeal Cert.KernelIdeal.Gen Cert.Attn Idealize.ShloMosaic Idealize.ShloMosaic.TcCoe Idealize.ShloMosaic.Tactic Idealize.SL.Sem

variable {F : FTy → Type} [FloatOps F] [Named F]
  (c : Dev nD) (i : grid0.Coords) (arg2 : Memref sig .tc .smem S8 .f32) (harg2 : arg2.IsWhole) (arg3 : Memref sig .tc .smem S8 .f32) (harg3 : arg3.IsWhole) (arg4 : Memref sig .tc .vmem S3x128x384 .f32) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .f32) (harg8 : arg8.IsWhole) (arg9 : Memref sig .tc .vmem S3x128x768 .f32) (harg9 : arg9.IsWhole)

/-- The stores of one trip, last first: the block of 128 queries after the block of 128 queries before it. -/
theorem trip_pieces (sa sb : Elt F .f32) (X5 : BufTy.Contents (Elt F) arg5.view.ty) (X6 : BufTy.Contents (Elt F) arg6.view.ty)
    (X7 : BufTy.Contents (Elt F) arg7.view.ty) (X9 : BufTy.Contents (Elt F) arg9.view.ty) (k : Fin k0_t1_loop.trips) :
    tripL_k0_t1 (F := F) Variants.none c none i arg2 harg2 arg3 harg3 arg4 harg4 arg5 harg5 arg6 harg6 arg7 harg7 arg8 harg8 arg9 harg9 sa sb X5 X6 X7 X9 k
      = [⟨Rect.unit (s := S1x2048x128) (k0_off3 k 1#32) S1x128x128.size (k0_off3_inb k 1),
          band sa sb (View.ld (arg5.view.read (Elt F) X5) (Rect.unit (s := S1x2048x128) (k0_off3 k 1#32) S1x128x128.size (k0_off3_inb k 1)))
            (View.ld (arg6.view.read (Elt F) X6) (Rect.unit (s := S1x2048x128) (k0_off4 k 1#32) S1x384x128.size (k0_off4_inb k 1)))
            (View.ld (arg7.view.read (Elt F) X7) (Rect.unit (s := S1x2048x128) (k0_off4 k 1#32) S1x384x128.size (k0_off4_inb k 1)))
            (View.ld (arg9.view.read (Elt F) X9) (Rect.unit (s := S3x128x768) (k0_off5 k 1#32) S1x128x768.size (k0_off5_inb k 1)))⟩,
        ⟨Rect.unit (s := S1x2048x128) (k0_off3 k 0#32) S1x128x128.size (k0_off3_inb k 0),
          band sa sb (View.ld (arg5.view.read (Elt F) X5) (Rect.unit (s := S1x2048x128) (k0_off3 k 0#32) S1x128x128.size (k0_off3_inb k 0)))
            (View.ld (arg6.view.read (Elt F) X6) (Rect.unit (s := S1x2048x128) (k0_off4 k 0#32) S1x384x128.size (k0_off4_inb k 0)))
            (View.ld (arg7.view.read (Elt F) X7) (Rect.unit (s := S1x2048x128) (k0_off4 k 0#32) S1x384x128.size (k0_off4_inb k 0)))
            (View.ld (arg9.view.read (Elt F) X9) (Rect.unit (s := S3x128x768) (k0_off5 k 0#32) S1x128x768.size (k0_off5_inb k 0)))⟩] := by
  unfold tripL_k0_t1 trip_k0_t1
  dsimp only
  rfl

/-- The stores that fill the scratch block with the bias, last first. -/
def biasPieces (sa sb : Elt F .f32) (x2 : Vec F S3x128x384 .f32) : List (View.Piece (Elt F) S3x128x768 .f32) :=
  [⟨Rect.unit (s := S3x128x768) ![2, 0, 384] S1x128x384.size inb_S3x128x768_S1x128x384_2_0_384,
      k0_pay25 sb (View.ld x2 (Rect.unit (s := S3x128x384) ![2, 0, 0] S1x128x384.size inb_S3x128x384_S1x128x384_2_0_0))⟩,
    ⟨Rect.unit (s := S3x128x768) ![2, 0, 0] S1x128x384.size inb_S3x128x768_S1x128x384_2_0_0,
      k0_pay24 sa (View.ld x2 (Rect.unit (s := S3x128x384) ![2, 0, 0] S1x128x384.size inb_S3x128x384_S1x128x384_2_0_0))⟩,
    ⟨Rect.unit (s := S3x128x768) ![1, 0, 384] S1x128x384.size inb_S3x128x768_S1x128x384_1_0_384,
      k0_pay22 sb (k0_pay19 (View.ld x2 (Rect.unit (s := S3x128x384) ![1, 0, 0] S1x128x384.size inb_S3x128x384_S1x128x384_1_0_0)))⟩,
    ⟨Rect.unit (s := S3x128x768) ![1, 0, 0] S1x128x384.size inb_S3x128x768_S1x128x384_1_0_0,
      k0_pay21 sa (k0_pay19 (View.ld x2 (Rect.unit (s := S3x128x384) ![1, 0, 0] S1x128x384.size inb_S3x128x384_S1x128x384_1_0_0)))⟩,
    ⟨Rect.unit (s := S3x128x768) ![0, 0, 384] S1x128x384.size inb_S3x128x768_S1x128x384_0_0_384,
      k0_pay18 sb (View.ld x2 (Rect.unit (s := S3x128x384) ![0, 0, 0] S1x128x384.size inb_S3x128x384_S1x128x384_0_0_0))⟩,
    ⟨Rect.unit (s := S3x128x768) ![0, 0, 0] S1x128x384.size inb_S3x128x768_S1x128x384_0_0_0,
      k0_pay17 sa (View.ld x2 (Rect.unit (s := S3x128x384) ![0, 0, 0] S1x128x384.size inb_S3x128x384_S1x128x384_0_0_0))⟩]

/-- The word of a table of eight at the offset a grid point computes. -/
def word (off : Fin 1 → ℕ) (inb : ∀ a, off a + S1.size a ≤ S8.size a) (x : Vec F S8 .f32) : Elt F .f32 :=
  View.ld x (Rect.unit (s := S8) off S1.size inb) (Shape.Idx.first (Nat.lt_of_lt_of_eq Nat.one_pos numel1_S1.symm))

variable (x0 : Vec F S8 .f32) (x1 : Vec F S8 .f32) (x2 : Vec F S3x128x384 .f32) (x3 : Vec F S1x2048x128 .bf16) (x4 : Vec F S1x2048x128 .bf16) (x5 : Vec F S1x2048x128 .bf16)

/-- The stores of the whole body are those of the loop, over the bias the body filled in first. -/
theorem run_pieces :
    (kernelRun0_A c i arg2 harg2 arg3 harg3 arg4 harg4 arg5 harg5 arg6 harg6 arg7 harg7 arg8 harg8 arg9 harg9 x0 x1 x2 x3 x4 x5).1
      = pb_k0_t1 Variants.none c none i arg2 harg2 arg3 harg3 arg4 harg4 arg5 harg5 arg6 harg6 arg7 harg7 arg8 harg8 arg9 harg9
          (word (k0_off1 i) (k0_off1_inb i) x1) (word (k0_off2 i) (k0_off2_inb i) x1)
          (harg5.unread x3) (harg6.unread x4) (harg7.unread x5)
          (arg9.view.writes (Elt F) arg9.view.junk
            (biasPieces (word (k0_off1 i) (k0_off1_inb i) x0) (word (k0_off2 i) (k0_off2_inb i) x0) x2))
          k0_t1_loop.trips := by
  unfold kernelRun0_A
  dsimp only
  sl_unfold_words
  simp only [View.readAt_eq_ld, harg2.read_unread, harg3.read_unread, harg4.read_unread]
  rfl

end Cert.KernelIdeal.Attn

end
-- ==== Proof.AttnOut.lean ====
/- The output block of the window-attention kernel at an index, as a function of the blocks it reads: query `p`, lane
   `l` is the softmax average over the window of 384 keys that the query's block of 128 reads. -/
module

public import proofs.«01_k».proof.Proof.AttnPieces
public import Idealize.ShloMosaic.Lib.Pipeline.ValueKit.Tiles

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

/-- The first key of the window that block `n` of the queries reads. -/
def winStart (n : ℕ) : ℕ := min (n * 128 - 128) 1664

/-- The distance table block `n` uses: one for the first block, one for the last, one for those between. -/
def geom (n : ℕ) : ℕ := if n = 0 then 1 else if n = 15 then 2 else 0

/-- Every window ends inside the sequence. -/
theorem winStart_le (n : ℕ) : winStart n ≤ 1664 := min_le_right _ _

/-- There are three tables of distances. -/
theorem geom_lt (n : ℕ) : geom n < 3 := by unfold geom; split_ifs <;> omega

/-- The first row of a block of queries. -/
theorem off3_eq : ∀ (k : Fin k0_t1_loop.trips) (n : Fin 2), k0_off3 k (BitVec.ofNat 32 n.val) = ![0, (2 * k.val + n.val) * 128, 0] := by
  decide +kernel

/-- The first row of its window. -/
theorem off4_eq : ∀ (k : Fin k0_t1_loop.trips) (n : Fin 2), k0_off4 k (BitVec.ofNat 32 n.val) = ![0, winStart (2 * k.val + n.val), 0] := by
  decide +kernel

/-- The table of its distances. -/
theorem off5_eq : ∀ (k : Fin k0_t1_loop.trips) (n : Fin 2), k0_off5 k (BitVec.ofNat 32 n.val) = ![geom (2 * k.val + n.val), 0, 0] := by
  decide +kernel

/-- The first head of a pair. -/
theorem off1_eq (i : grid0.Coords) : k0_off1 i = ![2 * (i 1).val] := by
  have h : ∀ a : Fin 4, k0_off1 (fun b => match b with | ⟨0, _⟩ => (0 : Fin 24) | ⟨1, _⟩ => a) = ![2 * a.val] := by decide +kernel
  exact h (i 1)

/-- The second head of a pair. -/
theorem off2_eq (i : grid0.Coords) : k0_off2 i = ![2 * (i 1).val + 1] := by
  have h : ∀ a : Fin 4, k0_off2 (fun b => match b with | ⟨0, _⟩ => (0 : Fin 24) | ⟨1, _⟩ => a) = ![2 * a.val + 1] := by decide +kernel
  exact h (i 1)

/-- The loop runs eight times. -/
theorem trips_le (k : Fin k0_t1_loop.trips) : k.val < 8 := Nat.lt_of_lt_of_eq k.isLt (by decide +kernel)

/-- A word read from a table of eight. -/
theorem word_eq (off : Fin 1 → ℕ) (inb : ∀ a, off a + S1.size a ≤ S8.size a) (x : Vec Ideal S8 .f32) (n : Fin 8) (h : off 0 = n.val) :
    word off inb x = x (ix1 n) := by
  unfold word
  refine View.ld_unit_apply_of x off S1.size inb _ (ix1 n) (fun a => ?_)
  match a with
  | ⟨0, _⟩ =>
    show n.val = off 0 + ((Shape.Idx.first _ : (Rect.unit (s := S8) off S1.size inb).shape.Idx) 0).val
    have : ((Shape.Idx.first (Nat.lt_of_lt_of_eq Nat.one_pos numel1_S1.symm) : (Rect.unit (s := S8) off S1.size inb).shape.Idx) 0).val < 1 :=
      ((Shape.Idx.first (Nat.lt_of_lt_of_eq Nat.one_pos numel1_S1.symm) : (Rect.unit (s := S8) off S1.size inb).shape.Idx) 0).isLt
    omega

/-- A distance, or infinity where it is more than half the window. -/
def capped (d : EReal) : EReal := if d ≤ 128 then d else ⊤

/-- The window's reach is 128. -/
theorem ofBits_128 : Ideal.ofBits .f32 0x43000000#32 = (128 : EReal) := by
  simp [Ideal.ofBits, Ideal.ieee, -EReal.coe_mul]; norm_num
  rfl

/-- The named mask is +∞. -/
theorem named_mask : (Named.named κ "mask" 0x7149F2CA#32 : Ideal .f32) = (⊤ : EReal) :=
  IdealRules.named_const.ideal_named_scalar _ _ _ _ rfl

/-- The bias: the distance times minus the slope, the first head's in the first 384 columns. -/
def biasAt (sa sb : Elt Ideal .f32) (x2 : Vec Ideal S3x128x384 .f32) (y : S3x128x768.Idx) : Elt Ideal .f32 :=
  (capped (x2 (ix3 (y 0) (y 1) ⟨(y 2).val % 384, Nat.mod_lt _ (by omega)⟩)) * (0 - if (y 2).val < 384 then sa else sb) : EReal)

section Payloads

variable (s : Elt Ideal .f32) (v : Vec Ideal S1x128x384 .f32) (r : Fin 128) (j : Fin 384)

/-- A bias: a capped distance times minus the slope. -/
theorem pay_25 : k0_pay25 s v (ix3 0 r j) = (capped (v (ix3 0 r j)) * (0 - s) : EReal) := by
  pointwise [k0_pay25, k0_pay23]
  rw [ofBits_128, named_mask]; rfl
/-- A bias: a capped distance times minus the slope. -/
theorem pay_24 : k0_pay24 s v (ix3 0 r j) = (capped (v (ix3 0 r j)) * (0 - s) : EReal) := by
  pointwise [k0_pay24, k0_pay23]
  rw [ofBits_128, named_mask]; rfl
/-- A bias: a capped distance times minus the slope. -/
theorem pay_22 : k0_pay22 s (k0_pay19 v) (ix3 0 r j) = (capped (v (ix3 0 r j)) * (0 - s) : EReal) := by
  pointwise [k0_pay22, k0_pay20, k0_pay19]
  rw [ofBits_128, named_mask]; rfl
/-- A bias: a capped distance times minus the slope. -/
theorem pay_21 : k0_pay21 s (k0_pay19 v) (ix3 0 r j) = (capped (v (ix3 0 r j)) * (0 - s) : EReal) := by
  pointwise [k0_pay21, k0_pay20, k0_pay19]
  rw [ofBits_128, named_mask]; rfl
/-- A bias: a capped distance times minus the slope. -/
theorem pay_18 : k0_pay18 s v (ix3 0 r j) = (capped (v (ix3 0 r j)) * (0 - s) : EReal) := by
  pointwise [k0_pay18, k0_pay16]
  rw [ofBits_128, named_mask]; rfl
/-- A bias: a capped distance times minus the slope. -/
theorem pay_17 : k0_pay17 s v (ix3 0 r j) = (capped (v (ix3 0 r j)) * (0 - s) : EReal) := by
  pointwise [k0_pay17, k0_pay16]
  rw [ofBits_128, named_mask]; rfl

end Payloads

/-- One store of the bias, at an index: a whole table of distances times minus a slope, in one half of the columns. -/
theorem bias_piece (sa sb : Elt Ideal .f32) (x2 : Vec Ideal S3x128x384 .f32) (s : Elt Ideal .f32) (g : ℕ) (hg : g < 3) (c : ℕ)
    (inb : ∀ a, ![g, 0, c] a + S1x128x384.size a ≤ S3x128x768.size a) (inb' : ∀ a, ![g, 0, 0] a + S1x128x384.size a ≤ S3x128x384.size a)
    (w : Vec Ideal S1x128x384 .f32)
    (hw : ∀ r j, w (ix3 0 r j) = (capped (View.ld x2 (Rect.unit (s := S3x128x384) ![g, 0, 0] S1x128x384.size inb') (ix3 0 r j)) * (0 - s) : EReal))
    (hs : c = 0 ∧ s = sa ∨ c = 384 ∧ s = sb) (x : S1x128x384.Idx) :
    w x = biasAt sa sb x2 ((Rect.unit (s := S3x128x768) ![g, 0, c] S1x128x384.size inb).emb x) := by
  obtain ⟨u, r, j, rfl⟩ : ∃ (u : Fin 1) (r : Fin 128) (j : Fin 384), x = ix3 u r j := ⟨x 0, x 1, x 2, ValueIdx.eq_ix3 x⟩
  obtain rfl : u = 0 := Subsingleton.elim _ _
  have hj := j.isLt
  rw [hw, View.ld_unit_apply_of x2 _ _ _ _ (ix3 ⟨g, hg⟩ r j) (fun a => by
    match a with | ⟨0, _⟩ => rfl | ⟨1, _⟩ => exact (Nat.zero_add _).symm | ⟨2, _⟩ => exact (Nat.zero_add _).symm)]
  unfold biasAt
  refine congrArg₂ (fun a b : EReal => capped a * (0 - b)) (congrArg x2 (funext fun a => Fin.ext ?_)) ?_
  · match a with
    | ⟨0, _⟩ => rfl
    | ⟨1, _⟩ => exact (show r.val = 0 + 1 * r.val by omega)
    | ⟨2, _⟩ =>
      refine (show j.val = (c + 1 * j.val) % 384 from ?_)
      omega
  · show s = if c + 1 * j.val < 384 then sa else sb
    split_ifs <;> rcases hs with ⟨h, h'⟩ | ⟨h, h'⟩ <;> first | exact h' | omega

/-- What the scratch block holds after it is filled is the bias. -/
theorem bias_read (sa sb : Elt Ideal .f32) (x2 : Vec Ideal S3x128x384 .f32) (y : S3x128x768.Idx) :
    View.canon (biasPieces sa sb x2) y = biasAt sa sb x2 y := by
  refine View.canon_apply_of_pieces (biasAt sa sb x2) _ ?_ y ?_
  · intro p hp x
    unfold biasPieces at hp
    simp only [List.mem_cons, List.not_mem_nil, or_false] at hp
    rcases hp with rfl | rfl | rfl | rfl | rfl | rfl
    · exact bias_piece sa sb x2 sb 2 (by omega) 384 inb_S3x128x768_S1x128x384_2_0_384 inb_S3x128x384_S1x128x384_2_0_0 _ (pay_25 sb _) (Or.inr ⟨rfl, rfl⟩) x
    · exact bias_piece sa sb x2 sa 2 (by omega) 0 inb_S3x128x768_S1x128x384_2_0_0 inb_S3x128x384_S1x128x384_2_0_0 _ (pay_24 sa _) (Or.inl ⟨rfl, rfl⟩) x
    · exact bias_piece sa sb x2 sb 1 (by omega) 384 inb_S3x128x768_S1x128x384_1_0_384 inb_S3x128x384_S1x128x384_1_0_0 _ (pay_22 sb _) (Or.inr ⟨rfl, rfl⟩) x
    · exact bias_piece sa sb x2 sa 1 (by omega) 0 inb_S3x128x768_S1x128x384_1_0_0 inb_S3x128x384_S1x128x384_1_0_0 _ (pay_21 sa _) (Or.inl ⟨rfl, rfl⟩) x
    · exact bias_piece sa sb x2 sb 0 (by omega) 384 inb_S3x128x768_S1x128x384_0_0_384 inb_S3x128x384_S1x128x384_0_0_0 _ (pay_18 sb _) (Or.inr ⟨rfl, rfl⟩) x
    · exact bias_piece sa sb x2 sa 0 (by omega) 0 inb_S3x128x768_S1x128x384_0_0_0 inb_S3x128x384_S1x128x384_0_0_0 _ (pay_17 sa _) (Or.inl ⟨rfl, rfl⟩) x
  · have h0 : (y 0).val < 3 := (y 0).isLt
    have h1 : (y 1).val < 128 := (y 1).isLt
    have h2 : (y 2).val < 768 := (y 2).isLt
    have key : ∀ (g c : ℕ) (inb) (w), (y 0).val = g → c ≤ (y 2).val → (y 2).val < c + 384 →
        (⟨Rect.unit (s := S3x128x768) ![g, 0, c] S1x128x384.size inb, w⟩ : View.Piece (Elt Ideal) S3x128x768 .f32) ∈ biasPieces sa sb x2 →
        ∃ p ∈ biasPieces sa sb x2, y ∈ p.1.set := by
      intro g c inb w hg hc hc' hm
      refine ⟨_, hm, (Rect.mem_set_unit (inb := inb)).2 fun a => ?_⟩
      match a with
      | ⟨0, _⟩ => exact (show g ≤ (y 0).val ∧ (y 0).val < g + 1 by omega)
      | ⟨1, _⟩ => exact (show 0 ≤ (y 1).val ∧ (y 1).val < 0 + 128 by omega)
      | ⟨2, _⟩ => exact (show c ≤ (y 2).val ∧ (y 2).val < c + 384 by omega)
    have e : (y 0).val = 0 ∨ (y 0).val = 1 ∨ (y 0).val = 2 := by omega
    rcases e with e | e | e <;> rcases Nat.lt_or_ge (y 2).val 384 with hc | hc
    · exact key 0 0 _ _ e (by omega) (by omega) (by unfold biasPieces; repeat (first | exact List.mem_cons_self | apply List.mem_cons_of_mem))
    · exact key 0 384 _ _ e (by omega) (by omega) (by unfold biasPieces; repeat (first | exact List.mem_cons_self | apply List.mem_cons_of_mem))
    · exact key 1 0 _ _ e (by omega) (by omega) (by unfold biasPieces; repeat (first | exact List.mem_cons_self | apply List.mem_cons_of_mem))
    · exact key 1 384 _ _ e (by omega) (by omega) (by unfold biasPieces; repeat (first | exact List.mem_cons_self | apply List.mem_cons_of_mem))
    · exact key 2 0 _ _ e (by omega) (by omega) (by unfold biasPieces; repeat (first | exact List.mem_cons_self | apply List.mem_cons_of_mem))
    · exact key 2 384 _ _ e (by omega) (by omega) (by unfold biasPieces; repeat (first | exact List.mem_cons_self | apply List.mem_cons_of_mem))

/-- `band` at an index, both heads at once. -/
theorem band_at (sa sb : Elt Ideal .f32) (q : Vec Ideal S1x128x128 .bf16) (k v : Vec Ideal S1x384x128 .bf16)
    (b : Vec Ideal S1x128x768 .f32) (r l : Fin 128) :
    band sa sb q k v b (ix3 0 r l)
      = softAvg (fun j => ∑ d : Fin 64, q (ix3 0 r ⟨l.val / 64 * 64 + d.val, by omega⟩) * k (ix3 0 j ⟨l.val / 64 * 64 + d.val, by omega⟩)
            + b (ix3 0 r ⟨l.val / 64 * 384 + j.val, by omega⟩))
          (fun j => v (ix3 0 j l)) (if l.val < 64 then sa else sb) := by
  by_cases hl : l.val < 64
  · rw [band_lo sa sb q k v b r l hl, if_pos hl]
    have h : l.val / 64 = 0 := by omega
    simp only [h, Nat.zero_mul, Nat.zero_add]
  · rw [band_hi sa sb q k v b r l hl, if_neg hl]
    have h : l.val / 64 = 1 := by omega
    simp only [h, Nat.one_mul]

/-- The block's value at an index. -/
def blockAt (sa sb ka kb : Elt Ideal .f32) (x2 : Vec Ideal S3x128x384 .f32) (x3 x4 x5 : Vec Ideal S1x2048x128 .bf16)
    (y : S1x2048x128.Idx) : Elt Ideal .f32 :=
  softAvg (fun j => ∑ d : Fin 64, x3 (ix3 0 (y 1) ⟨(y 2).val / 64 * 64 + d.val, by have : (y 2).val < 128 := (y 2).isLt; omega⟩)
          * x4 (ix3 0 ⟨winStart ((y 1).val / 128) + j.val, by have := winStart_le ((y 1).val / 128); omega⟩ ⟨(y 2).val / 64 * 64 + d.val, by have : (y 2).val < 128 := (y 2).isLt; omega⟩)
        + capped (x2 (ix3 ⟨geom ((y 1).val / 128), geom_lt _⟩ ⟨(y 1).val % 128, Nat.mod_lt _ (by omega)⟩ j)) * (0 - if (y 2).val < 64 then sa else sb))
      (fun j => x5 (ix3 0 ⟨winStart ((y 1).val / 128) + j.val, by have := winStart_le ((y 1).val / 128); omega⟩ (y 2)))
      (if (y 2).val < 64 then ka else kb)

/-- A block of 128 queries, at an index, when its operands are the rows the block's number says. -/
theorem block_core (sa sb ka kb : Elt Ideal .f32) (x2 : Vec Ideal S3x128x384 .f32) (x3 x4 x5 : Vec Ideal S1x2048x128 .bf16)
    (n : ℕ) (hn : n < 16) (hw : winStart n ≤ 1664) (hg : geom n < 3) (r l : Fin 128)
    (Q : Vec Ideal S1x128x128 .bf16) (K V : Vec Ideal S1x384x128 .bf16) (B : Vec Ideal S1x128x768 .f32)
    (hQ : ∀ d, Q (ix3 0 r d) = x3 (ix3 0 ⟨n * 128 + r.val, by omega⟩ d))
    (hK : ∀ j d, K (ix3 0 j d) = x4 (ix3 0 ⟨winStart n + j.val, by omega⟩ d))
    (hV : ∀ j, V (ix3 0 j l) = x5 (ix3 0 ⟨winStart n + j.val, by omega⟩ l))
    (hB : ∀ j, B (ix3 0 r j) = biasAt sa sb x2 (ix3 ⟨geom n, hg⟩ r j)) :
    band ka kb Q K V B (ix3 0 r l) = blockAt sa sb ka kb x2 x3 x4 x5 (ix3 0 ⟨n * 128 + r.val, by omega⟩ l) := by
  have hr := r.isLt
  have hl := l.isLt
  have hb : ∀ j : Fin 384, B (ix3 0 r ⟨l.val / 64 * 384 + j.val, by omega⟩)
      = (capped (x2 (ix3 ⟨geom n, hg⟩ r j)) * (0 - if l.val < 64 then sa else sb) : EReal) := fun j => by
    have hj := j.isLt
    rw [hB]
    unfold biasAt
    refine congrArg₂ (fun a b : EReal => capped a * (0 - b)) (congrArg x2 (funext fun a => Fin.ext ?_)) ?_
    · match a with
      | ⟨0, _⟩ => rfl
      | ⟨1, _⟩ => rfl
      | ⟨2, _⟩ => exact (show (l.val / 64 * 384 + j.val) % 384 = j.val by omega)
    · refine if_congr ?_ rfl rfl
      show l.val / 64 * 384 + j.val < 384 ↔ l.val < 64
      omega
  have h1 : (n * 128 + r.val) / 128 = n := by omega
  have h2 : (n * 128 + r.val) % 128 = r.val := by omega
  have h0 : ∀ (m : ℕ) (hm : m < 2048) (a : Fin 128), ((ix3 0 ⟨m, hm⟩ a : S1x2048x128.Idx) 1).val = m := fun _ _ _ => rfl
  have h0'' : ∀ (m : Fin 2048) (a : Fin 128), ((ix3 0 m a : S1x2048x128.Idx) 1) = m := fun _ _ => rfl
  have h0' : ∀ (m : Fin 2048) (a : Fin 128), ((ix3 0 m a : S1x2048x128.Idx) 2) = a := fun _ _ => rfl
  rw [band_at]
  unfold blockAt
  simp only [h0, h0', h0'', h1, h2, hQ, hK, hV, hb]

/-- A block of 128 queries stores, at each index, the block's value. -/
theorem piece_at (sa sb ka kb : Elt Ideal .f32) (x2 : Vec Ideal S3x128x384 .f32) (x3 x4 x5 : Vec Ideal S1x2048x128 .bf16)
    (b : Vec Ideal S3x128x768 .f32) (hb : ∀ y, b y = biasAt sa sb x2 y) (n : ℕ) (hn : n < 16)
    (o3 o4 o5 : Fin 3 → ℕ) (i3 : ∀ a, o3 a + S1x128x128.size a ≤ S1x2048x128.size a) (i4 : ∀ a, o4 a + S1x384x128.size a ≤ S1x2048x128.size a)
    (i5 : ∀ a, o5 a + S1x128x768.size a ≤ S3x128x768.size a)
    (e3 : o3 = ![0, n * 128, 0]) (e4 : o4 = ![0, winStart n, 0]) (e5 : o5 = ![geom n, 0, 0]) (x : S1x128x128.Idx) :
    band ka kb (View.ld x3 (Rect.unit (s := S1x2048x128) o3 S1x128x128.size i3)) (View.ld x4 (Rect.unit (s := S1x2048x128) o4 S1x384x128.size i4))
        (View.ld x5 (Rect.unit (s := S1x2048x128) o4 S1x384x128.size i4)) (View.ld b (Rect.unit (s := S3x128x768) o5 S1x128x768.size i5)) x
      = blockAt sa sb ka kb x2 x3 x4 x5 ((Rect.unit (s := S1x2048x128) o3 S1x128x128.size i3).emb x) := by
  subst e3 e4 e5
  obtain ⟨u, r, l, rfl⟩ : ∃ (u : Fin 1) (r : Fin 128) (l : Fin 128), x = ix3 u r l := ⟨x 0, x 1, x 2, ValueIdx.eq_ix3 x⟩
  obtain rfl : u = 0 := Subsingleton.elim _ _
  have hr := r.isLt
  have hl := l.isLt
  have hw := winStart_le n
  have hg := geom_lt n
  have hemb : (Rect.unit (s := S1x2048x128) ![0, n * 128, 0] S1x128x128.size i3).emb (ix3 0 r l) = ix3 0 ⟨n * 128 + r.val, by omega⟩ l := by
    refine funext fun a => Fin.ext ?_
    match a with
    | ⟨0, _⟩ => rfl
    | ⟨1, _⟩ => exact (show n * 128 + 1 * r.val = n * 128 + r.val by omega)
    | ⟨2, _⟩ => exact (show 0 + 1 * l.val = l.val by omega)
  rw [hemb]
  have hkv : ∀ (X : Vec Ideal S1x2048x128 .bf16) (j : Fin 384) (d : Fin 128),
      View.ld X (Rect.unit (s := S1x2048x128) ![0, winStart n, 0] S1x384x128.size i4) (ix3 0 j d)
        = X (ix3 0 ⟨winStart n + j.val, by omega⟩ d) := fun X j d =>
    View.ld_unit_apply_of X _ _ _ _ _ fun a => by
      match a with | ⟨0, _⟩ => rfl | ⟨1, _⟩ => rfl | ⟨2, _⟩ => exact (Nat.zero_add _).symm
  refine block_core sa sb ka kb x2 x3 x4 x5 n hn hw hg r l _ _ _ _ (fun d => ?_) (hkv x4) (fun j => hkv x5 j l) (fun j => ?_)
  · exact View.ld_unit_apply_of x3 _ _ _ _ _ fun a => by
      match a with | ⟨0, _⟩ => rfl | ⟨1, _⟩ => rfl | ⟨2, _⟩ => exact (Nat.zero_add _).symm
  · refine (View.ld_unit_apply_of b _ _ _ _ (ix3 ⟨geom n, hg⟩ r j) fun a => ?_).trans (hb _)
    match a with | ⟨0, _⟩ => rfl | ⟨1, _⟩ => exact (Nat.zero_add _).symm | ⟨2, _⟩ => exact (Nat.zero_add _).symm

section Run

variable
  (c : Dev nD) (i : grid0.Coords) (arg2 : Memref sig .tc .smem S8 .f32) (harg2 : arg2.IsWhole) (arg3 : Memref sig .tc .smem S8 .f32) (harg3 : arg3.IsWhole) (arg4 : Memref sig .tc .vmem S3x128x384 .f32) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .f32) (harg8 : arg8.IsWhole) (arg9 : Memref sig .tc .vmem S3x128x768 .f32) (harg9 : arg9.IsWhole)
  (x0 : Vec Ideal S8 .f32) (x1 : Vec Ideal S8 .f32) (x2 : Vec Ideal S3x128x384 .f32) (x3 : Vec Ideal S1x2048x128 .bf16) (x4 : Vec Ideal S1x2048x128 .bf16) (x5 : Vec Ideal S1x2048x128 .bf16)

/-- Every store of the first `n` trips has, at each index, the block's value. -/
theorem loop_at (sa sb ka kb : Elt Ideal .f32) (n : ℕ) (hn : n ≤ k0_t1_loop.trips) :
    ∀ p ∈ pb_k0_t1 (F := Ideal) Variants.none c none i arg2 harg2 arg3 harg3 arg4 harg4 arg5 harg5 arg6 harg6 arg7 harg7 arg8 harg8 arg9 harg9
          ka kb (harg5.unread x3) (harg6.unread x4) (harg7.unread x5)
          (arg9.view.writes (Elt Ideal) arg9.view.junk (biasPieces sa sb x2)) n,
      ∀ x : p.1.shape.Idx, p.2 x = blockAt sa sb ka kb x2 x3 x4 x5 (p.1.emb x) := by
  induction n with
  | zero => intro p hp; exact absurd hp (List.not_mem_nil)
  | succ n ih =>
    intro p hp
    have hk : n < k0_t1_loop.trips := hn
    rw [show n + 1 = (⟨n, hk⟩ : Fin k0_t1_loop.trips).val + 1 from rfl, pb_k0_t1_succ, List.mem_append] at hp
    rcases hp with hp | hp
    · have h8 := trips_le ⟨n, hk⟩
      rw [trip_pieces, harg5.read_unread, harg6.read_unread, harg7.read_unread, View.read_writes_junk_eq_canon] at hp
      simp only [List.mem_cons, List.not_mem_nil, or_false] at hp
      rcases hp with rfl | rfl
      · exact fun x => piece_at sa sb ka kb x2 x3 x4 x5 _ (bias_read sa sb x2) (2 * n + 1) (by simp only at h8; omega) _ _ _ _ _ _
          (off3_eq ⟨n, hk⟩ 1) (off4_eq ⟨n, hk⟩ 1) (off5_eq ⟨n, hk⟩ 1) x
      · exact fun x => piece_at sa sb ka kb x2 x3 x4 x5 _ (bias_read sa sb x2) (2 * n + 0) (by simp only at h8; omega) _ _ _ _ _ _
          (off3_eq ⟨n, hk⟩ 0) (off4_eq ⟨n, hk⟩ 0) (off5_eq ⟨n, hk⟩ 0) x
    · exact ih (Nat.le_of_lt hk) p hp

/-- The output block at an index: the first head of the pair is word `2·h` of the slopes and sinks, the second the next. -/
theorem out_at (y : S1x2048x128.Idx) :
    out0_A_6 c i arg2 harg2 arg3 harg3 arg4 harg4 arg5 harg5 arg6 harg6 arg7 harg7 arg8 harg8 arg9 harg9 x0 x1 x2 x3 x4 x5 y
      = blockAt (x0 (ix1 ⟨2 * (i 1).val, by have : (i 1).val < 4 := (i 1).isLt; omega⟩)) (x0 (ix1 ⟨2 * (i 1).val + 1, by have : (i 1).val < 4 := (i 1).isLt; omega⟩))
          (x1 (ix1 ⟨2 * (i 1).val, by have : (i 1).val < 4 := (i 1).isLt; omega⟩)) (x1 (ix1 ⟨2 * (i 1).val + 1, by have : (i 1).val < 4 := (i 1).isLt; omega⟩))
          x2 x3 x4 x5 y := by
  unfold out0_A_6
  rw [View.read_writes_junk_eq_canon]
  have hi : (i 1).val < 4 := (i 1).isLt
  have w1 : ∀ x : Vec Ideal S8 .f32, word (k0_off1 i) (k0_off1_inb i) x = x (ix1 ⟨2 * (i 1).val, by omega⟩) := fun x =>
    word_eq _ _ x _ (by rw [off1_eq]; rfl)
  have w2 : ∀ x : Vec Ideal S8 .f32, word (k0_off2 i) (k0_off2_inb i) x = x (ix1 ⟨2 * (i 1).val + 1, by omega⟩) := fun x =>
    word_eq _ _ x _ (by rw [off2_eq]; rfl)
  refine View.canon_apply_of_pieces (blockAt _ _ _ _ x2 x3 x4 x5) _ ?_ y (cover0_A_6 c i arg2 harg2 arg3 harg3 arg4 harg4 arg5 harg5 arg6 harg6 arg7 harg7 arg8 harg8 arg9 harg9 x0 x1 x2 x3 x4 x5 y)
  rw [run_pieces, w1, w1, w2, w2]
  exact loop_at c i arg2 harg2 arg3 harg3 arg4 harg4 arg5 harg5 arg6 harg6 arg7 harg7 arg8 harg8 arg9 harg9 x2 x3 x4 x5 _ _ _ _ _ le_rfl

end Run

end Cert.KernelIdeal.Attn

end
-- ==== Proof.AttnHost.lean ====
/- The arrays the window-attention call finds: the scaled queries, the keys and values with each head's lanes twice,
   the distances and the slopes, each at an index. -/
module

public import proofs.«01_k».proof.Proof.AttnOut
public import Idealize.ShloMosaic.Lib.StableHlo.ReadAt

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)

/-- The scale is 1/8. -/
theorem ofBits_eighth : Ideal.ofBits .f32 0x3E000000#32 = ((1 / 8 : ℝ) : EReal) := by
  simp [Ideal.ofBits, Ideal.ieee, -EReal.coe_mul]; norm_num

/-- The queries, scaled. -/
theorem q_at (b : Fin 24) (p : Fin 2048) (d : Fin 512) :
    V m c main_v2 (ix3 b p d) = @HMul.hMul EReal EReal EReal _ (m ((c : Thread nD τ).loc main_arg0) (ix3 b p d)) ((1 / 8 : ℝ) : EReal) := by
  unfold V
  after_reads_at
  rw [ofBits_eighth]

/-- The keys: lanes of each key head twice. -/
theorem k_at (b : Fin 24) (p : Fin 2048) (d : Fin 256) :
    V m c main_v6 (ix3 b p d) = m ((c : Thread nD τ).loc main_arg1) (ix3 b p ⟨d.val / 128 * 64 + d.val % 64, by omega⟩) := by
  have key : ∀ e e' : Fin 128, e.val = e'.val →
      m ((c : Thread nD τ).loc main_arg1) (ix3 b p e) = m ((c : Thread nD τ).loc main_arg1) (ix3 b p e') := fun e e' h => by rw [Fin.ext h]
  have hd := d.isLt
  unfold V
  after_reads_at
  split_ifs <;> after_reads_at <;> refine key _ _ ?_ <;> simp only [] <;> omega

/-- The values likewise. -/
theorem v_at (b : Fin 24) (p : Fin 2048) (d : Fin 256) :
    V m c main_v10 (ix3 b p d) = m ((c : Thread nD τ).loc main_arg2) (ix3 b p ⟨d.val / 128 * 64 + d.val % 64, by omega⟩) := by
  have key : ∀ e e' : Fin 128, e.val = e'.val →
      m ((c : Thread nD τ).loc main_arg2) (ix3 b p e) = m ((c : Thread nD τ).loc main_arg2) (ix3 b p e') := fun e e' h => by rw [Fin.ext h]
  have hd := d.isLt
  unfold V
  after_reads_at
  split_ifs <;> after_reads_at <;> refine key _ _ ?_ <;> simp only [] <;> omega

/-- The position of a table's first query less the position of the first key of its window. -/
def rel (g : ℕ) : ℤ := if g = 0 then 128 else if g = 1 then 0 else 256

/-- A distance, as the host computes it in 32-bit words. -/
theorem dist_word (a : ℕ) (ha : a ≤ 256) (r : Fin 128) (j : Fin 384) :
    (FloatOps.sitofp .f32 (IntOp.absi (IntOp.subi (IntOp.addi (BitVec.ofNat 32 a) (BitVec.ofNat 32 r.val)) (BitVec.ofNat 32 j.val))) : Ideal .f32)
      = ((((a : ℤ) + (r.val : ℤ) - (j.val : ℤ)).natAbs : ℝ) : EReal) := by
  have hr := r.isLt
  have hj := j.isLt
  have h : (IntOp.absi (IntOp.subi (IntOp.addi (BitVec.ofNat 32 a) (BitVec.ofNat 32 r.val)) (BitVec.ofNat 32 j.val))).toInt
      = (((a : ℤ) + (r.val : ℤ) - (j.val : ℤ)).natAbs : ℤ) := by
    have e : ∀ x : ℤ, -2147483648 ≤ x → x < 2147483648 → x.bmod 4294967296 = x := fun x h0 h1 => by
      rw [Int.bmod_def]; omega
    have hx : (IntOp.subi (IntOp.addi (BitVec.ofNat 32 a) (BitVec.ofNat 32 r.val)) (BitVec.ofNat 32 j.val)).toInt = (a : ℤ) + r.val - j.val := by
      simp only [IntOp.subi, IntOp.addi, BitVec.toInt_sub, BitVec.toInt_add, BitVec.toInt_ofNat', Nat.reducePow]
      rw [e a (by omega) (by omega), e r.val (by omega) (by omega), e (_ + _) (by omega) (by omega), e j.val (by omega) (by omega), e _ (by omega) (by omega)]
    unfold IntOp.absi
    split_ifs with hm
    · rw [BitVec.toInt_neg, hx]
      rw [BitVec.msb_eq_toInt, hx, decide_eq_true_iff] at hm
      simp only [Nat.reducePow]
      rw [e _ (by omega) (by omega)]
      omega
    · rw [hx]
      rw [BitVec.msb_eq_toInt, hx, decide_eq_true_iff] at hm
      omega
  refine (show _ = (((IntOp.absi (IntOp.subi (IntOp.addi (BitVec.ofNat 32 a) (BitVec.ofNat 32 r.val)) (BitVec.ofNat 32 j.val))).toInt : ℝ) : EReal) from rfl).trans ?_
  rw [h]
  norm_num

/-- The distances. -/
theorem dist_at (g : Fin 3) (r : Fin 128) (j : Fin 384) :
    V m c main_v31 (ix3 g r j) = (((rel g.val + (r.val : ℤ) - (j.val : ℤ)).natAbs : ℝ) : EReal) := by
  unfold V
  after_reads_at
  have hg := g.isLt
  split_ifs <;> (try after_reads_at)
  · rw [dist_word 128 (by omega), rel, if_pos (by omega)]; norm_num
  · rw [dist_word 128 (by omega), rel, if_pos (by omega)]; norm_num
  · rw [dist_word 0 (by omega), rel, if_neg (by omega), if_pos (by omega)]; norm_num
  · rw [dist_word 0 (by omega), rel, if_neg (by omega), if_pos (by omega)]; norm_num
  · rw [dist_word 256 (by omega), rel, if_neg (by omega), if_neg (by omega)]; norm_num
  · rw [dist_word 256 (by omega), rel, if_neg (by omega), if_neg (by omega)]; norm_num

/-- The slopes. -/
theorem slope_at (h : Fin 8) :
    V m c main_cst (ix1 h) = (((1 / 2 : ℝ) ^ (h.val + 1) : ℝ) : EReal) := by
  unfold V
  after_reads_at
  have e : S8.rowMajor (ix1 h) = h := Fin.ext (by simp [Shape.rowMajor_val_one])
  rw [e]
  fin_cases h <;> simp [lit0, Ideal.ofBits, Ideal.ieee, -EReal.coe_mul] <;> norm_num

end Cert.KernelIdeal.Attn

end
-- ==== Proof.AttnArray.lean ====
/- The array the window attention leaves, at an index. -/
module

public import proofs.«01_k».proof.Proof.AttnHost
public import proofs.«01_k».proof.Proof.Gen.KernelIdeal.Value
public import Idealize.ShloMosaic.Lib.Pipeline.ValueKit

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)

/-- Which block of each array a grid point reads and writes. -/
theorem block_index : ∀ t : Fin grid0.N,
    win0_0.index t = ![0] ∧ win0_1.index t = ![0] ∧ win0_2.index t = ![0, 0, 0]
    ∧ win0_3.index t = ![(grid0.coords t 0).val, 0, (grid0.coords t 1).val]
    ∧ win0_4.index t = ![(grid0.coords t 0).val, 0, (grid0.coords t 1).val / 2]
    ∧ win0_5.index t = ![(grid0.coords t 0).val, 0, (grid0.coords t 1).val / 2]
    ∧ win0_6.index t = ![(grid0.coords t 0).val, 0, (grid0.coords t 1).val] := by
  decide +kernel

/-- Attention of one query over the 384 keys of the window the kernel loads for it: `q` scaled, `k`, `v` and the sinks as given. -/
def attnAt (q : S24x2048x512.Idx → EReal) (k v : S24x2048x128.Idx → EReal) (sk : S8.Idx → EReal)
    (b : Fin 24) (p : Fin 2048) (e : Fin 512) : EReal :=
  softAvg
    (fun j : Fin 384 => (∑ d : Fin 64, q (ix3 b p ⟨e.val / 64 * 64 + d.val, by omega⟩) * ((1 / 8 : ℝ) : EReal)
        * k (ix3 b ⟨winStart (p.val / 128) + j.val, by have := winStart_le (p.val / 128); omega⟩ ⟨e.val / 256 * 64 + d.val, by omega⟩))
      + capped (((rel (geom (p.val / 128)) + ((p.val % 128 : ℕ) : ℤ) - (j.val : ℤ)).natAbs : ℝ) : EReal)
        * (0 - (((1 / 2 : ℝ) ^ (e.val / 64 + 1) : ℝ) : EReal)))
    (fun j : Fin 384 => v (ix3 b ⟨winStart (p.val / 128) + j.val, by have := winStart_le (p.val / 128); omega⟩ ⟨e.val / 256 * 64 + e.val % 64, by omega⟩))
    (sk (ix1 ⟨e.val / 64, by omega⟩))

variable (t : Fin cfg0.N)

/-- The slopes, whole at every point. -/
theorem block_slope (h : Fin 8) : iblk m c 0 t (ix1 h) = (((1 / 2 : ℝ) ^ (h.val + 1) : ℝ) : EReal) := by
  refine Eq.trans ?_ (slope_at m c h)
  blk_ext [iblk, block_index t]

/-- The sinks, whole at every point. -/
theorem block_sink (h : Fin 8) : iblk m c 1 t (ix1 h) = m ((c : Thread nD τ).loc main_arg3) (ix1 h) := by
  rw [← V_main_arg3 m c]
  blk_ext [iblk, block_index t]

/-- The distances, whole at every point. -/
theorem block_dist (g : Fin 3) (r : Fin 128) (j : Fin 384) :
    iblk m c 2 t (ix3 g r j) = (((rel g.val + (r.val : ℤ) - (j.val : ℤ)).natAbs : ℝ) : EReal) := by
  refine Eq.trans ?_ (dist_at m c g r j)
  blk_ext [iblk, block_index t]

/-- A point's queries: one batch row and two heads. -/
theorem block_q (p : Fin 2048) (d : Fin 128) (b : Fin 24) (hb : b.val = (grid0.coords t 0).val)
    (e : Fin 512) (he : e.val = (grid0.coords t 1).val * 128 + d.val) :
    iblk m c 3 t (ix3 0 p d) = @HMul.hMul EReal EReal EReal _ (m ((c : Thread nD τ).loc main_arg0) (ix3 b p e)) ((1 / 8 : ℝ) : EReal) := by
  refine Eq.trans ?_ (q_at m c b p e)
  blk_ext [iblk, block_index t]

/-- A point's keys: one head, its lanes twice. -/
theorem block_k (p : Fin 2048) (d : Fin 128) (b : Fin 24) (hb : b.val = (grid0.coords t 0).val)
    (e : Fin 128) (he : e.val = (grid0.coords t 1).val / 2 * 64 + d.val % 64) :
    iblk m c 4 t (ix3 0 p d) = m ((c : Thread nD τ).loc main_arg1) (ix3 b p e) := by
  have h1 : (grid0.coords t 1).val < 4 := (grid0.coords t 1).isLt
  have hk := k_at m c b p ⟨(grid0.coords t 1).val / 2 * 128 + d.val, by omega⟩
  have e1 : (⟨((grid0.coords t 1).val / 2 * 128 + d.val) / 128 * 64 + ((grid0.coords t 1).val / 2 * 128 + d.val) % 64, by omega⟩ : Fin 128) = e :=
    Fin.ext (by simp only; omega)
  rw [e1] at hk
  refine Eq.trans ?_ hk
  blk_ext [iblk, block_index t]

/-- A point's values: one head, its lanes twice. -/
theorem block_v (p : Fin 2048) (d : Fin 128) (b : Fin 24) (hb : b.val = (grid0.coords t 0).val)
    (e : Fin 128) (he : e.val = (grid0.coords t 1).val / 2 * 64 + d.val % 64) :
    iblk m c 5 t (ix3 0 p d) = m ((c : Thread nD τ).loc main_arg2) (ix3 b p e) := by
  have h1 : (grid0.coords t 1).val < 4 := (grid0.coords t 1).isLt
  have hk := v_at m c b p ⟨(grid0.coords t 1).val / 2 * 128 + d.val, by omega⟩
  have e1 : (⟨((grid0.coords t 1).val / 2 * 128 + d.val) / 128 * 64 + ((grid0.coords t 1).val / 2 * 128 + d.val) % 64, by omega⟩ : Fin 128) = e :=
    Fin.ext (by simp only; omega)
  rw [e1] at hk
  refine Eq.trans ?_ hk
  blk_ext [iblk, block_index t]

/-- The block's value from its operands at the indices it reads. -/
theorem blockAt_of (q : S24x2048x512.Idx → EReal) (k v : S24x2048x128.Idx → EReal) (sk : S8.Idx → EReal)
    (b : Fin 24) (e : Fin 512) (sa sb ka kb : EReal)
    (x2 : S3x128x384.Idx → EReal) (x3 : S1x2048x128.Idx → EReal) (x4 x5 : S1x2048x128.Idx → EReal) (y : S1x2048x128.Idx)
    (hS : (if (y 2).val < 64 then sa else sb) = (((1 / 2 : ℝ) ^ (e.val / 64 + 1) : ℝ) : EReal))
    (hK : (if (y 2).val < 64 then ka else kb) = sk (ix1 ⟨e.val / 64, by omega⟩))
    (h2 : ∀ g r j, x2 (ix3 g r j) = (((rel g.val + (r.val : ℤ) - (j.val : ℤ)).natAbs : ℝ) : EReal))
    (h3 : ∀ (p : Fin 2048) (d : Fin 128) (f : Fin 512), f.val = e.val / 64 * 64 + d.val % 64 → d.val / 64 = (y 2).val / 64 →
      x3 (ix3 0 p d) = q (ix3 b p f) * ((1 / 8 : ℝ) : EReal))
    (h4 : ∀ (p : Fin 2048) (d : Fin 128) (f : Fin 128), f.val = e.val / 256 * 64 + d.val % 64 → x4 (ix3 0 p d) = k (ix3 b p f))
    (h5 : ∀ (p : Fin 2048) (d : Fin 128) (f : Fin 128), f.val = e.val / 256 * 64 + d.val % 64 → x5 (ix3 0 p d) = v (ix3 b p f))
    (he : e.val % 64 = (y 2).val % 64) :
    blockAt sa sb ka kb x2 x3 x4 x5 y = attnAt q k v sk b (y 1) e := by
  have hy : (y 2).val < 128 := (y 2).isLt
  unfold blockAt attnAt
  rw [hS, hK]
  congr 1
  · funext j
    congr 1
    · refine Finset.sum_congr rfl fun d _ => ?_
      exact congrArg₂ (· * ·)
        (h3 (y 1) ⟨(y 2).val / 64 * 64 + d.val, by omega⟩ ⟨e.val / 64 * 64 + d.val, by omega⟩ (by simp only; omega) (by simp only; omega))
        (h4 _ ⟨(y 2).val / 64 * 64 + d.val, by omega⟩ ⟨e.val / 256 * 64 + d.val, by omega⟩ (by simp only; omega))
    · rw [h2]
  · funext j
    exact h5 _ (y 2) ⟨e.val / 256 * 64 + e.val % 64, by omega⟩ (by simp only; omega)

/-- What a point computes, at an index of its block, is the attention at that index of the array. -/
theorem block_attn (y : S1x2048x128.Idx) (b : Fin 24) (p : Fin 2048) (e : Fin 512)
    (hb : b.val = (grid0.coords t 0).val) (hp : p.val = (y 1).val) (he : e.val = (grid0.coords t 1).val * 128 + (y 2).val)
    (h0 : 2 * (grid0.coords t 1).val < 8) (h1 : 2 * (grid0.coords t 1).val + 1 < 8) :
    blockAt (iblk m c 0 t (ix1 ⟨2 * (grid0.coords t 1).val, h0⟩)) (iblk m c 0 t (ix1 ⟨2 * (grid0.coords t 1).val + 1, h1⟩))
      (iblk m c 1 t (ix1 ⟨2 * (grid0.coords t 1).val, h0⟩)) (iblk m c 1 t (ix1 ⟨2 * (grid0.coords t 1).val + 1, h1⟩))
      (iblk m c 2 t) (iblk m c 3 t) (iblk m c 4 t) (iblk m c 5 t) y
    = attnAt (m ((c : Thread nD τ).loc main_arg0)) (m ((c : Thread nD τ).loc main_arg1)) (m ((c : Thread nD τ).loc main_arg2))
      (m ((c : Thread nD τ).loc main_arg3)) b p e := by
  have h2 : (y 2).val < 128 := (y 2).isLt
  have hpe : p = y 1 := Fin.ext hp
  subst hpe
  rw [block_slope, block_slope, block_sink, block_sink]
  refine blockAt_of _ _ _ _ b e _ _ _ _ _ _ _ _ y ?_ ?_ ?_ ?_ ?_ ?_ ?_
  · split_ifs
    · rw [show e.val / 64 = 2 * (grid0.coords t 1).val by omega]
    · rw [show e.val / 64 = 2 * (grid0.coords t 1).val + 1 by omega]
  · split_ifs
    · exact congrArg (fun q : Fin 8 => m ((c : Thread nD τ).loc main_arg3) (ix1 q)) (Fin.ext (by simp only; omega))
    · exact congrArg (fun q : Fin 8 => m ((c : Thread nD τ).loc main_arg3) (ix1 q)) (Fin.ext (by simp only; omega))
  · exact fun g r j => block_dist m c t g r j
  · exact fun p d f hf hd => block_q m c t p d b hb f (by omega)
  · exact fun p d f hf => block_k m c t p d b hb f (by omega)
  · exact fun p d f hf => block_v m c t p d b hb f (by omega)
  · omega

/-- The kernel's result. -/
theorem final_at : (dats m 0 c).arrAt 6 cfg0.N = fun i : S24x2048x512.Idx =>
    attnAt (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 6 _ (by decide +kernel) fun t hf y => ?_
  blk_simp
  rw [after0_6]
  unfold outsAt0
  rw [out_at]
  refine block_attn m c t y _ _ _ ?_ ?_ ?_ _ _ <;> blk_simp [block_index t]

end Cert.KernelIdeal.Attn

end
-- ==== Proof.AttnEq.lean ====
/- The window attention's two texts compute one array. -/
module

public import proofs.«01_k».proof.Proof.AttnRef
public import proofs.«01_k».proof.Proof.AttnArray

@[expose] public section

set_option maxRecDepth 16384

noncomputable section

namespace Cert.Attn

open Idealize.ShloMosaic Cert.KernelIdeal.Attn

/-- Only the values of scores that are not masked count. -/
theorem softAvg_congr (s s' w w' : Fin 384 → EReal) (k k' : EReal) (hk : k = k') (hs : ∀ j, s j = s' j) (hw : ∀ j, s j ≠ ⊥ → w j = w' j) :
    softAvg s w k = softAvg s' w' k' := by
  obtain rfl : s = s' := funext hs
  subst hk
  unfold softAvg
  refine congrArg₂ Ideal.div (Finset.sum_congr rfl fun j _ => ?_) rfl
  by_cases h : s j = ⊥
  · rw [h, exp_bot_sub, zero_mul, zero_mul]
  · rw [hw j h]

/-- A distance past the window takes a score to −∞ under a positive slope. -/
theorem far_score (s : EReal) (c : ℝ) (hc : 0 < c) : s + ⊤ * (0 - (c : EReal)) = ⊥ := by
  rw [zero_sub, EReal.top_mul_of_neg (by rw [← EReal.coe_neg]; exact_mod_cast neg_neg_of_pos hc), EReal.add_bot]

variable (q : Cert.KernelIdeal.S24x2048x512.Idx → EReal) (k v : Cert.KernelIdeal.S24x2048x128.Idx → EReal) (sk : Cert.KernelIdeal.S8.Idx → EReal)
  (b : Fin 24) (p : Fin 2048) (e : Fin 512)

/-- The score of a query and the key at position `z`, −∞ where `z` is more than 128 positions away or outside the sequence. -/
def scoreAt (z : ℤ) : EReal :=
  if h : (0 ≤ z ∧ z < 2048) ∧ (z - p.val).natAbs ≤ 128 then
    (∑ d : Fin 64, q (ix3 b p ⟨e.val / 64 * 64 + d.val, by omega⟩) * k (ix3 b ⟨z.toNat, by omega⟩ ⟨e.val / 256 * 64 + d.val, by omega⟩)) * ((1 / 8 : ℝ) : EReal)
      - (((1 / 2 : ℝ) ^ (e.val / 64 + 1) : ℝ) : EReal) * (((z - p.val).natAbs : ℝ) : EReal)
  else ⊥

/-- The value at position `z`. -/
def valueAt (z : ℤ) : EReal :=
  if h : 0 ≤ z ∧ z < 2048 then v (ix3 b ⟨z.toNat, by omega⟩ ⟨e.val / 256 * 64 + e.val % 64, by omega⟩) else 0

/-- Outside a window that takes in the keys within 128 positions, every score is −∞. -/
theorem score_outside (a : ℤ) (ha : ∀ z : ℤ, 0 ≤ z → z < 2048 → (z - p.val).natAbs ≤ 128 → a ≤ z ∧ z < a + 384)
    (z : ℤ) (hz : ¬ (a ≤ z ∧ z < a + 384)) : scoreAt q k b p e z = ⊥ :=
  dif_neg fun h => hz (ha z h.1.1 h.1.2 h.2)

/-- A distance is at most 128 as an extended real where it is as a natural number. -/
theorem le_window (D : ℕ) : ((D : ℝ) : EReal) ≤ 128 ↔ D ≤ 128 := by
  have h : (128 : EReal) = ((128 : ℝ) : EReal) := rfl
  rw [h, EReal.coe_le_coe_iff]
  exact Nat.cast_le_ofNat

/-- The kernel's window begins at the position that its block's distances take it to begin at. -/
theorem rel_geom (n : ℕ) (hn : n < 16) : rel (geom n) = (n : ℤ) * 128 - (winStart n : ℤ) := by
  unfold rel geom winStart
  interval_cases n <;> simp

/-- The kernel's array, over the positions of the sequence. -/
theorem kernel_form : attnAt q k v sk b p e
    = softAvg (fun j => scoreAt q k b p e ((winStart (p.val / 128) : ℤ) + j.val)) (fun j => valueAt v b e ((winStart (p.val / 128) : ℤ) + j.val)) (sk (ix1 ⟨e.val / 64, by omega⟩)) := by
  have hw := winStart_le (p.val / 128)
  unfold attnAt
  refine softAvg_congr _ _ _ _ _ _ rfl (fun j => ?_) (fun j _ => ?_)
  · have hj := j.isLt
    have hd : (rel (geom (p.val / 128)) + ((p.val % 128 : ℕ) : ℤ) - (j.val : ℤ)).natAbs = ((winStart (p.val / 128) : ℤ) + j.val - p.val).natAbs := by
      rw [rel_geom _ (by omega)]; omega
    rw [hd]
    unfold scoreAt capped
    rw [sum_mul_scale (1 / 8) (by norm_num)]
    by_cases hc : ((winStart (p.val / 128) : ℤ) + j.val - p.val).natAbs ≤ 128
    · rw [if_pos ((le_window _).mpr hc), dif_pos ⟨⟨by omega, by omega⟩, hc⟩]
      rw [zero_sub, mul_neg, ← sub_eq_add_neg, mul_comm (((((winStart (p.val / 128) : ℤ) + j.val - p.val).natAbs : ℝ)) : EReal)]
      congr 3
    · rw [if_neg (fun h => hc ((le_window _).mp h)), dif_neg (fun h => hc h.2)]
      exact far_score _ _ (by positivity)
  · unfold valueAt
    have hj := j.isLt
    rw [dif_pos ⟨by omega, by omega⟩]
    exact congrArg (fun z : Fin 2048 => v (ix3 b z _)) (Fin.ext (by simp only; omega))

open Cert.ReferenceIdeal.Attn in
/-- The reference's array, over the positions of the sequence. -/
theorem reference_form : Cert.ReferenceIdeal.Read.val_main_v89 (F := Ideal) q k v sk (ix3 b p e)
    = softAvg (fun j => scoreAt q k b p e ((((p.val / 128 : ℕ) : ℤ) * 128 - 128) + j.val)) (fun j => valueAt v b e ((((p.val / 128 : ℕ) : ℤ) * 128 - 128) + j.val)) (sk (ix1 ⟨e.val / 64, by omega⟩)) := by
  rw [ref_at]
  have hs : ∀ j : Fin 384, score q k b ⟨p.val / 128, by omega⟩ ⟨p.val % 128, by omega⟩ j ⟨e.val / 256, by omega⟩ ⟨e.val / 64 % 4, by omega⟩
      = scoreAt q k b p e ((((p.val / 128 : ℕ) : ℤ) * 128 - 128) + j.val) := by
    intro j
    have hj := j.isLt
    unfold score scoreAt
    have hd : ((j.val : ℤ) - 128 - ((p.val % 128 : ℕ) : ℤ)).natAbs = ((((p.val / 128 : ℕ) : ℤ) * 128 - 128) + j.val - p.val).natAbs := by omega
    simp only []
    rw [hd]
    by_cases hc : (0 ≤ (((p.val / 128 : ℕ) : ℤ) * 128 - 128) + j.val ∧ (((p.val / 128 : ℕ) : ℤ) * 128 - 128) + j.val < 2048) ∧ ((((p.val / 128 : ℕ) : ℤ) * 128 - 128) + j.val - p.val).natAbs ≤ 128
    · rw [if_pos ⟨hc.2, hc.1.1, hc.1.2⟩, dif_pos hc]
      have he : e.val / 256 * 4 + e.val / 64 % 4 = e.val / 64 := by omega
      rw [he]
      congr 2
      refine Finset.sum_congr rfl fun d _ => ?_
      rw [k_window (z := ⟨((((p.val / 128 : ℕ) : ℤ) * 128 - 128) + j.val).toNat, by omega⟩) (hz := by simp only; omega), q_block, mul_comm]
      congr 2
      exact congrArg₂ (fun (a : Fin 2048) (c : Fin 512) => ix3 b a c) (Fin.ext (by simp only; omega)) (Fin.ext (by simp only; omega))
    · rw [if_neg (fun h => hc ⟨⟨h.2.1, h.2.2⟩, h.1⟩), dif_neg hc]
  refine softAvg_congr _ _ _ _ _ _ rfl hs (fun j hj => ?_)
  rw [hs j] at hj
  unfold scoreAt at hj
  by_cases hc : (0 ≤ (((p.val / 128 : ℕ) : ℤ) * 128 - 128) + j.val ∧ (((p.val / 128 : ℕ) : ℤ) * 128 - 128) + j.val < 2048) ∧ ((((p.val / 128 : ℕ) : ℤ) * 128 - 128) + j.val - p.val).natAbs ≤ 128
  · unfold valueAt
    rw [dif_pos hc.1]
    exact v_window (z := ⟨((((p.val / 128 : ℕ) : ℤ) * 128 - 128) + j.val).toNat, by omega⟩) (hz := by simp only; omega) ..
  · rw [dif_neg hc] at hj
    exact absurd rfl hj

/-- The two arrays are one. -/
theorem attn_eq : attnAt q k v sk b p e = Cert.ReferenceIdeal.Read.val_main_v89 (F := Ideal) q k v sk (ix3 b p e) := by
  have hw : winStart (p.val / 128) = min (p.val / 128 * 128 - 128) 1664 := rfl
  rw [kernel_form, reference_form]
  exact softAvg_shift _ _ _ _ _
    (fun z hz => score_outside q k b p e _ (fun z h0 h1 h2 => by omega) z hz)
    (fun z hz => score_outside q k b p e _ (fun z h0 h1 h2 => by omega) z hz)

end Cert.Attn

end
-- ==== Proof.AttnClaim.lean ====
/- The window attention's value claim. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnEq

@[expose] public section

noncomputable section

namespace Cert.Attn

open Idealize.ShloMosaic Idealize.SL.Sem

/-- The reference's result is the array that the kernel writes, index by index. -/
theorem arrays_eq (q : Cert.KernelIdeal.S24x2048x512.Idx → EReal) (k v : Cert.KernelIdeal.S24x2048x128.Idx → EReal)
    (sk : Cert.KernelIdeal.S8.Idx → EReal) :
    Cert.ReferenceIdeal.Read.val_main_v89 (F := Ideal) q k v sk
      = fun i => Cert.KernelIdeal.Attn.attnAt q k v sk (i 0) (i 1) (i 2) := by
  funext i
  exact (congrArg (Cert.ReferenceIdeal.Read.val_main_v89 (F := Ideal) q k v sk) (eq_ix3 i)).trans (attn_eq q k v sk (i 0) (i 1) (i 2)).symm

/-- The kernel and the reference end with equal results and leave their arguments as they were. -/
theorem algebraic : Cert.algebraic_KernelIdeal_ReferenceIdeal := fun m ρ m' ρ' _ hag =>
  ⟨fun c => (Cert.KernelIdeal.Gen.dats m 0 c).arrAt 6 Cert.KernelIdeal.cfg0.N, Cert.KernelIdeal.Value.run_blocks m ρ,
    (θ_run _ _ _).mono (fun _ h c => ⟨(h c).1.trans (by
        rw [Cert.ReferenceIdeal.Read.val_main_v89_eq, (hag c).1, (hag c).2.1, (hag c).2.2.1, (hag c).2.2.2, arrays_eq]
        exact (Cert.KernelIdeal.Attn.final_at m c).symm), (h c).2⟩)
      (Cert.ReferenceIdeal.Value.run m' ρ')⟩

/-- The named mask is the constant that the kernel's text has. -/
theorem preserves : Cert.preserves_Kernel_KernelIdeal :=
  IdealRules.named_const.statement Cert.KernelIdeal.κ "mask" .f32 0x7149F2CA#32 ⊤ rfl

end Cert.Attn

end
-- ==== Proof.MixOut.lean ====
/- What a block of rows of the mixing call leaves in its block of the normalized rows. -/
module

public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Mix

open Idealize.ShloMosaic

/-- The mean of `n` values, `n` given as the constant that the sum is divided by. -/
def mean {n : ℕ} (d : EReal) (v : Fin n → EReal) : EReal := Ideal.div (∑ k, v k) d

/-- One entry of a row over its root mean square, scaled. -/
def rms (v g : Fin 512 → EReal) (k : Fin 512) : EReal :=
  v k * Ideal.rsqrt (mean (Ideal.ofBits .f32 0x44000000#32) (fun j => v j * v j) + Ideal.ofBits .f32 0x3727C5AC#32) * g k

/-- The projection of two groups' rows, each over its root mean square, side by side: the sum over the first 512 inputs and
    that over the last 512. -/
def projected (a b g g' : Fin 512 → EReal) (w : Fin 1024 → EReal) : EReal :=
  (∑ k : Fin 512, rms a g k * w ⟨k.val, by omega⟩) + ∑ k : Fin 512, rms b g' k * w ⟨512 + k.val, by omega⟩

/-- A row less its mean. -/
def centred (h : Fin 1024 → EReal) (n : Fin 1024) : EReal := h n - mean (Ideal.ofBits .f32 0x44800000#32) h

/-- The layer norm of a row. -/
def normed (h g b : Fin 1024 → EReal) (n : Fin 1024) : EReal :=
  centred h n * Ideal.rsqrt (mean (Ideal.ofBits .f32 0x44800000#32) (fun j => centred h j * centred h j) + Ideal.ofBits .f32 0x3727C5AC#32) * g n + b n

/-- The mixed and normalized row `r` at column `n`: the layer norm of the scaled input and the projection. -/
def mixAt {R : ℕ} (x : Fin R → Fin 1024 → EReal) (a b : Fin R → Fin 512 → EReal) (g : Fin 1024 → EReal) (w : Fin 1024 → Fin 1024 → EReal)
    (lg lb : Fin 1024 → EReal) (r : Fin R) (n : Fin 1024) : EReal :=
  normed (fun k => Ideal.ofBits .f32 0x3FB504F3#32 * x r k
    + projected (a r) (b r) (fun j => g ⟨j.val, by omega⟩) (fun j => g ⟨512 + j.val, by omega⟩) (fun j => w j k)) lg lb n

end Cert.Mix

namespace Cert.Kernel3Ideal.Mix

open Cert.Kernel3Ideal Cert.Kernel3Ideal.Gen Cert.Mix
open Idealize.ShloMosaic Idealize.ShloMosaic.TcCoe Idealize.ShloMosaic.Tactic Idealize.SL.Sem

/-- The projection of a row, from the loaded blocks. -/
theorem pay3_at (a b : Vec Ideal S512x512 .f32) (g g' : Vec Ideal S1x512 .f32) (w : Vec Ideal S1024x1024 .bf16) (r : Fin 512) (n : Fin 1024) :
    k0_pay3 (F := Ideal) a g b g' w (ix2 r n)
      = projected (fun j => a (ix2 r j)) (fun j => b (ix2 r j)) (fun j => g (ix2 0 j)) (fun j => g' (ix2 0 j)) (fun k => w (ix2 k n)) := by
  pointwise [Gen.k0_pay3]
  rfl

/-- The layer norm of a row, from the projection and the loaded blocks. -/
theorem pay5_at (p x : FVec Ideal S512x1024 .f32) (g b : Vec Ideal S1x1024 .f32) (r : Fin 512) (n : Fin 1024) :
    k0_pay5 (F := Ideal) p x (Ideal.ofBits .f32 0x3FB504F3#32) g b (ix2 r n)
      = normed (fun k => Ideal.ofBits .f32 0x3FB504F3#32 * x (ix2 r k) + p (ix2 r k)) (fun k => g (ix2 0 k)) (fun k => b (ix2 0 k)) n := by
  pointwise [Gen.k0_pay5]
  rfl

/-- The rows that a point normalizes, from its blocks. -/
theorem rows_at (x0 : Vec Ideal S512x1024 .f32) (x1 x2 : Vec Ideal S512x512 .f32) (x3 : Vec Ideal S1x1024 .f32) (x4 : Vec Ideal S1024x1024 .bf16)
    (x5 x6 : Vec Ideal S1x1024 .f32) (x7 : Vec Ideal S1024x256 .bf16) (x8 : Vec Ideal S1x128 .f32) (r : Fin 512) (n : Fin 1024) :
    k0_pay5 (F := Ideal) (k0_pay24 x0 x1 x2 x3 x4 x5 x6 x7 x8) (k0_pay25 x0 x1 x2 x3 x4 x5 x6 x7 x8) (Ideal.ofBits .f32 0x3FB504F3#32)
        (View.ld x5 r0_5) (View.ld x6 r0_5) (ix2 r n)
      = mixAt (fun r k => x0 (ix2 r k)) (fun r k => x1 (ix2 r k)) (fun r k => x2 (ix2 r k)) (fun k => x3 (ix2 0 k)) (fun j k => x4 (ix2 j k))
        (fun k => x5 (ix2 0 k)) (fun k => x6 (ix2 0 k)) r n := by
  have z : ∀ a : Fin 2, (![0, 0] : Fin 2 → ℕ) a = 0 := fun a => by fin_cases a <;> rfl
  have e0 : View.ld x0 r0_4 = x0 := View.ld_unit_lit (S := S512x1024) _ x0 z
  have e1 : ∀ x : Vec Ideal S512x512 .f32, View.ld x r0_0 = x := fun x => View.ld_unit_lit (S := S512x512) _ x z
  have e4 : View.ld x4 r0_3 = x4 := View.ld_unit_lit (S := S1024x1024) _ x4 z
  have e5 : ∀ x : Vec Ideal S1x1024 .f32, View.ld x r0_5 = x := fun x => View.ld_unit_lit (S := S1x1024) _ x z
  have g1 : ∀ j : Fin 512, View.ld x3 r0_1 (ix2 0 j) = x3 (ix2 0 ⟨j.val, by omega⟩) := fun j =>
    View.ld_unit_apply_of x3 ![0, 0] S1x512.size _ _ _ fun a => by fin_cases a <;> simp
  have g2 : ∀ j : Fin 512, View.ld x3 r0_2 (ix2 0 j) = x3 (ix2 0 ⟨512 + j.val, by omega⟩) := fun j =>
    View.ld_unit_apply_of x3 ![0, 512] S1x512.size _ _ _ fun a => by fin_cases a <;> simp
  have hp : ∀ (r : Fin 512) (k : Fin 1024), k0_pay24 (F := Ideal) x0 x1 x2 x3 x4 x5 x6 x7 x8 (ix2 r k)
      = projected (fun j => x1 (ix2 r j)) (fun j => x2 (ix2 r j)) (fun j => x3 (ix2 0 ⟨j.val, by omega⟩)) (fun j => x3 (ix2 0 ⟨512 + j.val, by omega⟩))
        (fun j => x4 (ix2 j k)) := fun r k => by
    unfold k0_pay24
    rw [pay3_at, e1, e1, e4]
    simp only [g1, g2]
  have hx : k0_pay25 (F := Ideal) x0 x1 x2 x3 x4 x5 x6 x7 x8 = x0 := by
    unfold k0_pay25
    rw [e0]
    funext i
    pointwise [Gen.k0_pay4]
  rw [hx, e5, e5]
  refine (pay5_at _ _ _ _ _ _).trans ?_
  exact congrArg (fun h => normed h (fun k => x5 (ix2 0 k)) (fun k => x6 (ix2 0 k)) n) (funext fun k => congrArg (_ + ·) (hp r k))

/-- What a point stores in its block of normalized rows, at an index. -/
theorem out_at (x0 : Vec Ideal S512x1024 .f32) (x1 x2 : Vec Ideal S512x512 .f32) (x3 : Vec Ideal S1x1024 .f32) (x4 : Vec Ideal S1024x1024 .bf16)
    (x5 x6 : Vec Ideal S1x1024 .f32) (x7 : Vec Ideal S1024x256 .bf16) (x8 : Vec Ideal S1x128 .f32) (y : S512x1024.Idx) :
    out0_9 (F := Ideal) x0 x1 x2 x3 x4 x5 x6 x7 x8 y
      = mixAt (fun r k => x0 (ix2 r k)) (fun r k => x1 (ix2 r k)) (fun r k => x2 (ix2 r k)) (fun k => x3 (ix2 0 k)) (fun j k => x4 (ix2 j k))
        (fun k => x5 (ix2 0 k)) (fun k => x6 (ix2 0 k)) (y 0) (y 1) := by
  have z : ∀ a : Fin 2, (![0, 0] : Fin 2 → ℕ) a = 0 := fun a => by fin_cases a <;> rfl
  unfold out0_9
  refine (congrFun (View.canon_cons_unit_lit (S := S512x1024) _ _ [] z) y).trans ?_
  exact (congrArg _ (eq_ix2 y)).trans (rows_at x0 x1 x2 x3 x4 x5 x6 x7 x8 (y 0) (y 1))

end Cert.Kernel3Ideal.Mix

end
-- ==== Proof.MixClaim.lean ====
/- The array of normalized rows that the mixing call leaves, at an index, and its reference's. -/
module

public import proofs.«01_k».proof.Defs
public import proofs.«01_k».proof.Proof.MixOut
public import proofs.«01_k».proof.Proof.Gen.Reference3Ideal.Read
public import proofs.«01_k».proof.Proof.Gen.Reference3Ideal.Run
public import Idealize.ShloMosaic.Lib.StableHlo.ReadAt

@[expose] public section

set_option maxRecDepth 16384

noncomputable section

namespace Cert.Mix

open Idealize.ShloMosaic

/-- Row `s` of the flattened sequences is in sequence `s / 2048` … -/
def seqOf (s : Fin 49152) : Fin 24 := ⟨s.val / 2048, by omega⟩
/-- … at position `s % 2048`. -/
def posOf (s : Fin 49152) : Fin 2048 := ⟨s.val % 2048, by omega⟩

/-- Row `s`, column `n` of the layer's mixed rows, from the arguments. -/
def layerAt (x : Cert.Kernel3Ideal.S24x2048x1024.Idx → EReal) (a b : Cert.Kernel3Ideal.S24x2048x512.Idx → EReal)
    (g : Cert.Kernel3Ideal.S1024.Idx → EReal) (w : Cert.Kernel3Ideal.S1024x1024.Idx → EReal) (lg lb : Cert.Kernel3Ideal.S1024.Idx → EReal)
    (s : Fin 49152) (n : Fin 1024) : EReal :=
  mixAt (fun r k => x (ix3 (seqOf r) (posOf r) k)) (fun r k => a (ix3 (seqOf r) (posOf r) k)) (fun r k => b (ix3 (seqOf r) (posOf r) k))
    (fun k => g (ix1 k)) (fun j k => w (ix2 j k)) (fun k => lg (ix1 k)) (fun k => lb (ix1 k)) s n

end Cert.Mix

namespace Cert.Kernel3Ideal.Mix

open Cert.Kernel3Ideal Cert.Kernel3Ideal.Gen Cert.Mix
open Idealize.ShloMosaic Idealize.ShloMosaic.TcCoe Idealize.ShloMosaic.Tactic Idealize.SL.Sem

variable (m : (ℓ : Loc nD τ sig) → Buf (Elt Ideal) ℓ) (c : Dev nD)

/-- The input's rows … -/
theorem x_at (s : Fin 49152) (k : Fin 1024) : V m c main_v10 (ix2 s k) = m ((c : Thread nD τ).loc main_arg0) (ix3 (seqOf s) (posOf s) k) := by
  unfold V
  after_reads_at
  rfl

/-- … one group of heads' … -/
theorem a_at (s : Fin 49152) (k : Fin 512) : V m c main_v11 (ix2 s k) = m ((c : Thread nD τ).loc main_arg1) (ix3 (seqOf s) (posOf s) k) := by
  unfold V
  after_reads_at
  rfl

/-- … and the other's. -/
theorem b_at (s : Fin 49152) (k : Fin 512) : V m c main_v12 (ix2 s k) = m ((c : Thread nD τ).loc main_arg2) (ix3 (seqOf s) (posOf s) k) := by
  unfold V
  after_reads_at
  rfl

/-- The scales of the heads' rows. -/
theorem g_at (k : Fin 1024) : V m c main_v13 (ix2 0 k) = m ((c : Thread nD τ).loc main_arg3) (ix1 k) := by
  unfold V
  after_reads_at

/-- The projection's weights. -/
theorem w_at (j k : Fin 1024) : V m c main_v14 (ix2 j k) = m ((c : Thread nD τ).loc main_arg4) (ix2 j k) := by
  unfold V
  after_reads_at

/-- The layer norm's scales … -/
theorem lg_at (k : Fin 1024) : V m c main_v15 (ix2 0 k) = m ((c : Thread nD τ).loc main_arg5) (ix1 k) := by
  unfold V
  after_reads_at

/-- … and offsets. -/
theorem lb_at (k : Fin 1024) : V m c main_v16 (ix2 0 k) = m ((c : Thread nD τ).loc main_arg6) (ix1 k) := by
  unfold V
  after_reads_at

/-- Which block of each array a point reads and writes. -/
theorem block_index : ∀ t : Fin grid0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_9.index t = ![t.val, 0] := by
  decide +kernel

variable (t : Fin cfg0.N)

/-- A point's rows of the input … -/
theorem block_x (r : Fin 512) (k : Fin 1024) (s : Fin 49152) (hs : s.val = t.val * 512 + r.val) :
    iblk m c 0 t (ix2 r k) = m ((c : Thread nD τ).loc main_arg0) (ix3 (seqOf s) (posOf s) k) := by
  refine Eq.trans ?_ (x_at m c s k)
  blk_ext [iblk, block_index t]

/-- … of one group of heads … -/
theorem block_a (r : Fin 512) (k : Fin 512) (s : Fin 49152) (hs : s.val = t.val * 512 + r.val) :
    iblk m c 1 t (ix2 r k) = m ((c : Thread nD τ).loc main_arg1) (ix3 (seqOf s) (posOf s) k) := by
  refine Eq.trans ?_ (a_at m c s k)
  blk_ext [iblk, block_index t]

/-- … and of the other. -/
theorem block_b (r : Fin 512) (k : Fin 512) (s : Fin 49152) (hs : s.val = t.val * 512 + r.val) :
    iblk m c 2 t (ix2 r k) = m ((c : Thread nD τ).loc main_arg2) (ix3 (seqOf s) (posOf s) k) := by
  refine Eq.trans ?_ (b_at m c s k)
  blk_ext [iblk, block_index t]

/-- The scales of the heads' rows, whole at every point … -/
theorem block_g (k : Fin 1024) : iblk m c 3 t (ix2 0 k) = m ((c : Thread nD τ).loc main_arg3) (ix1 k) := by
  refine Eq.trans ?_ (g_at m c k)
  blk_ext [iblk, block_index t]

/-- … the projection's weights … -/
theorem block_w (j k : Fin 1024) : iblk m c 4 t (ix2 j k) = m ((c : Thread nD τ).loc main_arg4) (ix2 j k) := by
  refine Eq.trans ?_ (w_at m c j k)
  blk_ext [iblk, block_index t]

/-- … the layer norm's scales … -/
theorem block_lg (k : Fin 1024) : iblk m c 5 t (ix2 0 k) = m ((c : Thread nD τ).loc main_arg5) (ix1 k) := by
  refine Eq.trans ?_ (lg_at m c k)
  blk_ext [iblk, block_index t]

/-- … and its offsets. -/
theorem block_lb (k : Fin 1024) : iblk m c 6 t (ix2 0 k) = m ((c : Thread nD τ).loc main_arg6) (ix1 k) := by
  refine Eq.trans ?_ (lb_at m c k)
  blk_ext [iblk, block_index t]

/-- What a point stores in row `r` of its block is the layer's row at its place in the array. -/
theorem block_layer (y : S512x1024.Idx) (s : Fin 49152) (n : Fin 1024) (hs : s.val = t.val * 512 + (y 0).val) (hn : n.val = (y 1).val) :
    out0_9 (F := Ideal) (iblk m c 0 t) (iblk m c 1 t) (iblk m c 2 t) (iblk m c 3 t) (iblk m c 4 t) (iblk m c 5 t) (iblk m c 6 t) (iblk m c 7 t) (iblk m c 8 t) y
      = layerAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) s n := by
  obtain rfl : n = y 1 := Fin.ext hn
  rw [out_at]
  unfold layerAt mixAt
  simp only [block_g, block_w, block_lg, block_lb]
  have hx : ∀ k, iblk m c 0 t (ix2 (y 0) k) = m ((c : Thread nD τ).loc main_arg0) (ix3 (seqOf s) (posOf s) k) := fun k => block_x m c t _ _ s hs
  have ha : ∀ k, iblk m c 1 t (ix2 (y 0) k) = m ((c : Thread nD τ).loc main_arg1) (ix3 (seqOf s) (posOf s) k) := fun k => block_a m c t _ _ s hs
  have hb : ∀ k, iblk m c 2 t (ix2 (y 0) k) = m ((c : Thread nD τ).loc main_arg2) (ix3 (seqOf s) (posOf s) k) := fun k => block_b m c t _ _ s hs
  simp only [hx, ha, hb]

/-- The kernel's result. -/
theorem final_at : (dats m 0 c).arrAt 9 cfg0.N = fun i : S49152x1024.Idx =>
    layerAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (i 0) (i 1) := by
  refine (dats m 0 c).arrAt_eq_of_covers 9 _ (by decide +kernel) fun t hf y => ?_
  blk_simp
  rw [after0_9]
  refine block_layer m c t y _ _ ?_ ?_ <;> blk_simp [block_index t]

end Cert.Kernel3Ideal.Mix

namespace Cert.Reference3Ideal.Mix

open Cert.Reference3Ideal Cert.Reference3Ideal.Read Cert.Mix
open Idealize.ShloMosaic Idealize.ShloMosaic.TcCoe Idealize.ShloMosaic.Tactic

variable (x0 : S24x2048x1024.Idx → EReal) (x1 x2 : S24x2048x512.Idx → EReal) (x3 : S1024.Idx → EReal) (x4 : S1024x1024.Idx → EReal) (x5 x6 : S1024.Idx → EReal)

/-- The reference's projection, at an index. -/
theorem proj_at (b : Fin 24) (p : Fin 2048) (n : Fin 1024) : val_main_v31 (F := Ideal) x1 x2 x3 x4 (ix3 b p n)
    = projected (fun k => x1 (ix3 b p k)) (fun k => x2 (ix3 b p k)) (fun j => x3 (ix1 ⟨j.val, by omega⟩)) (fun j => x3 (ix1 ⟨512 + j.val, by omega⟩))
      (fun k => x4 (ix2 k n)) := by
  pointwise [val_main_v31, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4]
  rfl

/-- The reference's normalized rows, at an index of the sequences. -/
theorem norm_at (b : Fin 24) (p : Fin 2048) (n : Fin 1024) : val_main_v56 (F := Ideal) x0 x1 x2 x3 x4 x5 x6 (ix3 b p n)
    = normed (fun k => Ideal.ofBits .f32 0x3FB504F3#32 * x0 (ix3 b p k) + val_main_v31 (F := Ideal) x1 x2 x3 x4 (ix3 b p k))
      (fun k => x5 (ix1 k)) (fun k => x6 (ix1 k)) n := by
  pointwise [val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v39, val_main_v38,
    val_main_v37, val_main_v36, val_main_v35, val_main_v34, val_main_v33, val_main_v32, val_main_v30, val_main_v29,
    val_main_cst_5, val_main_cst_6, val_main_cst_7, val_main_cst_8, val_main_cst_9, val_main_cst_10]
  rfl

/-- The reference's result, at an index. -/
theorem result_at (s : Fin 49152) (n : Fin 1024) : val_main_v57 (F := Ideal) x0 x1 x2 x3 x4 x5 x6 (ix2 s n) = layerAt x0 x1 x2 x3 x4 x5 x6 s n := by
  have h : val_main_v57 (F := Ideal) x0 x1 x2 x3 x4 x5 x6 (ix2 s n) = val_main_v56 (F := Ideal) x0 x1 x2 x3 x4 x5 x6 (ix3 (seqOf s) (posOf s) n) := by
    pointwise [val_main_v57]
    rfl
  rw [h, norm_at]
  simp only [proj_at]
  rfl

/-- The whole array. -/
theorem arrays_eq : val_main_v57 (F := Ideal) x0 x1 x2 x3 x4 x5 x6 = fun i => layerAt x0 x1 x2 x3 x4 x5 x6 (i 0) (i 1) := by
  funext i
  exact (congrArg (val_main_v57 (F := Ideal) x0 x1 x2 x3 x4 x5 x6) (eq_ix2 i)).trans (result_at x0 x1 x2 x3 x4 x5 x6 (i 0) (i 1))

end Cert.Reference3Ideal.Mix

namespace Cert.Mix

open Idealize.ShloMosaic Idealize.ShloMosaic.TcCoe Idealize.SL.Sem

/-- The reference runs to its end and leaves its arguments as they were. -/
theorem reference_frame : Cert.quiescent_Reference3Ideal := fun m ρ _ =>
  (θ_run _ _ _).mono (fun r h => ⟨fun c => (h c).2, sem_eq_zero_of_no_sems (by decide) r.2⟩) (Cert.Reference3Ideal.Value.run m ρ)

/-- The kernel and the reference end with equal results and leave their arguments as they were. -/
theorem algebraic : Cert.algebraic_Kernel3Ideal_Reference3Ideal := fun m ρ m' ρ' _ hag =>
  ⟨fun c => (Cert.Kernel3Ideal.Gen.dats m 0 c).arrAt 9 Cert.Kernel3Ideal.cfg0.N,
    (θ_run _ _ _).mono (fun _ h c => ⟨(h c).1, (h c).2.2.2⟩) (Cert.Kernel3Ideal.Value.run_blocks m ρ),
    (θ_run _ _ _).mono (fun _ h c => ⟨(h c).1.trans (by
        obtain ⟨e0, e1, e2, e3, e4, e5, e6, -⟩ := hag c
        rw [Cert.Reference3Ideal.Read.val_main_v57_eq, e0, e1, e2, e3, e4, e5, e6, Cert.Reference3Ideal.Mix.arrays_eq]
        exact (Cert.Kernel3Ideal.Mix.final_at m c).symm), (h c).2⟩)
      (Cert.Reference3Ideal.Value.run m' ρ')⟩

/-- The two printed programs have the same text. -/
theorem preserves : Cert.preserves_Kernel3_Kernel3Ideal := trivial

end Cert.Mix

end
-- ==== Proof.ProjOut.lean ====
/- What a block of rows of the projection-in call leaves in its block of each result. -/
module

public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic Idealize.SL.Sem

/-- Row `r` of a block of the input times column `n` of the prepared weights. -/
def rowAt (x : Vec Ideal S1x512x1024 .f32) (w : Vec Ideal S1024x2560 .bf16) (r : Fin 512) (n : Fin 2560) : EReal :=
  ∑ k : Fin 1024, x (ix3 0 r k) * w (ix2 k n)

/-- A product of 512 columns, from the loaded blocks. -/
theorem pay6_at (x : Vec Ideal S1x512x1024 .f32) (w : Vec Ideal S1024x512 .bf16) (r n : Fin 512) :
    k0_pay6 (F := Ideal) x w (ix2 r n) = (∑ k : Fin 1024, x (ix3 0 r k) * w (ix2 k n) : EReal) := by
  pointwise [Gen.k0_pay6, Gen.k0_pay2]

/-- The same, stored as the window heads' queries. -/
theorem pay3_at (x : Vec Ideal S1x512x1024 .f32) (w : Vec Ideal S1024x512 .bf16) (b : Fin 1) (r n : Fin 512) :
    k0_pay3 (F := Ideal) x w (ix3 b r n) = (∑ k : Fin 1024, x (ix3 0 r k) * w (ix2 k n) : EReal) := by
  pointwise [Gen.k0_pay3, Gen.k0_pay2]

/-- A product of 256 columns, stored as the window heads' keys or values. -/
theorem pay4_at (x : Vec Ideal S1x512x1024 .f32) (w : Vec Ideal S1024x256 .bf16) (b : Fin 1) (r : Fin 512) (n : Fin 256) :
    k0_pay4 (F := Ideal) x w (ix3 b r n) = (∑ k : Fin 1024, x (ix3 0 r k) * w (ix2 k n) : EReal) := by
  pointwise [Gen.k0_pay4, Gen.k0_pay2]

/-- A product of 512 columns, stored whole. -/
theorem pay8_at (a : FVec Ideal S512x512 .bf16) (b b' : Fin 1) (r n : Fin 512) : k0_pay8 (F := Ideal) a (ix4 b b' r n) = a (ix2 r n) := by
  pointwise [Gen.k0_pay8]

/-- The four groups of 128 columns that are kept for the strided reads. -/
theorem pay9_at (a : FVec Ideal S512x512 .f32) (b : Fin 1) (r : Fin 512) (l : Fin 128) :
    k0_pay9 (F := Ideal) a (ix3 b r l) = a (ix2 r ⟨l.val, by omega⟩)
    ∧ k0_pay10 (F := Ideal) a (ix3 b r l) = a (ix2 r ⟨128 + l.val, by omega⟩)
    ∧ k0_pay11 (F := Ideal) a (ix3 b r l) = a (ix2 r ⟨256 + l.val, by omega⟩)
    ∧ k0_pay12 (F := Ideal) a (ix3 b r l) = a (ix2 r ⟨384 + l.val, by omega⟩) := by
  refine ⟨?_, ?_, ?_, ?_⟩
  · pointwise [Gen.k0_pay9]
  · pointwise [Gen.k0_pay10]
  · pointwise [Gen.k0_pay11]
  · pointwise [Gen.k0_pay12]

/-- A strided read of 32 rows, stored. -/
theorem pay1_at (v : Vec Ideal S1x32x128 .f32) (b b' : Fin 1) (p : Fin 32) (l : Fin 128) : k0_pay1 (F := Ideal) v (ix4 b b' p l) = v (ix3 0 p l) := by
  pointwise [Gen.k0_pay1]

/-- A strided read of 128 rows, stored. -/
theorem pay13_at (v : Vec Ideal S1x128x128 .f32) (b b' : Fin 1) (p l : Fin 128) : k0_pay13 (F := Ideal) v (ix4 b b' p l) = v (ix3 0 p l) := by
  pointwise [Gen.k0_pay13]

/-- The product at two names of one place. -/
theorem same_place (a : FVec Ideal S512x512 .f32) {r r' n n' : Fin 512} (hr : r.val = r'.val) (hn : n.val = n'.val) : a (ix2 r n) = a (ix2 r' n') := by
  rw [Fin.ext hr, Fin.ext hn]

/-- The stores that keep a product of 512 columns in four groups of 128, last first, over earlier ones. -/
def kept (a : FVec Ideal S512x512 .f32) (T : List (View.Piece (Elt Ideal) S4x512x128 .f32)) : List (View.Piece (Elt Ideal) S4x512x128 .f32) :=
  ⟨Rect.unit ![3, 0, 0] ![1, 512, 128] inb_S4x512x128_S1x512x128_3_0_0, k0_pay12 a⟩
    :: ⟨Rect.unit ![2, 0, 0] ![1, 512, 128] inb_S4x512x128_S1x512x128_2_0_0, k0_pay11 a⟩
    :: ⟨Rect.unit ![1, 0, 0] ![1, 512, 128] inb_S4x512x128_S1x512x128_1_0_0, k0_pay10 a⟩
    :: ⟨Rect.unit ![0, 0, 0] ![1, 512, 128] inb_S4x512x128_S1x512x128_0_0_0, k0_pay9 a⟩ :: T

/-- The product laid out in the four groups. -/
def groups (a : FVec Ideal S512x512 .f32) (z : S4x512x128.Idx) : EReal :=
  a (ix2 (z 1) ⟨128 * (z 0).val + (z 2).val, by have h0 : (z 0).val < 4 := (z 0).isLt; have h2 : (z 2).val < 128 := (z 2).isLt; omega⟩)

/-- They leave the product, whatever was stored before. -/
theorem kept_at (a : FVec Ideal S512x512 .f32) (T : List (View.Piece (Elt Ideal) S4x512x128 .f32)) (z : S4x512x128.Idx) :
    View.canon (kept a T) z = groups a z := by
  have key : View.canon (kept a [] ++ T) z = groups a z := by
    refine View.canon_append_of_piecesOf (groups a) T (kept a []) ?_ z (View.cover_of_tiled_head _ _ _ (by rfl) z)
    have e : ∀ x : (⟨3, ![1, 512, 128]⟩ : Shape).Idx, x = ix3 (x 0) (x 1) (x 2) := fun x => eq_ix3 x
    have e0 : ∀ x : (⟨3, ![1, 512, 128]⟩ : Shape).Idx, (x 0).val = 0 := fun x => Nat.lt_one_iff.mp (x 0).isLt
    refine ⟨fun x => ?_, fun x => ?_, fun x => ?_, fun x => ?_, trivial⟩
    · exact (congrArg _ (e x)).trans ((pay9_at a (x 0) (x 1) (x 2)).2.2.2.trans (same_place a (by simp) (by have h0 := e0 x; simp [h0])))
    · exact (congrArg _ (e x)).trans ((pay9_at a (x 0) (x 1) (x 2)).2.2.1.trans (same_place a (by simp) (by have h0 := e0 x; simp [h0])))
    · exact (congrArg _ (e x)).trans ((pay9_at a (x 0) (x 1) (x 2)).2.1.trans (same_place a (by simp) (by have h0 := e0 x; simp [h0])))
    · exact (congrArg _ (e x)).trans ((pay9_at a (x 0) (x 1) (x 2)).1.trans (same_place a (by simp) (by have h0 := e0 x; simp [h0])))
  exact key

/-- One store of every 4th row, at an index. -/
theorem tile4 (v : View sig .tc .vmem S4x512x128 .f32) (a : FVec Ideal S512x512 .f32) (T : List (View.Piece (Elt Ideal) S4x512x128 .f32)) (c r o : ℕ)
    (ho : o = 128 * c) (inb) (y : S1x4x128x512.Idx) (u : Fin 512) (hu : u.val = 4 * (y 2).val + (y 1).val) :
    View.TileAt (Val := Elt Ideal) (e := .bf16) y ![0, r, 0, o] ![1, 1, 128, 128]
      (k0_pay13 (F := Ideal) (v.readCov (kept a T) { off := ![c, r, 0], size := ![1, 128, 128], stride := ![1, 4, 1], inb := inb })) (a (ix2 u (y 3))) := by
  intro x hx
  have h0 : (x 1).val < 1 := (x 1).isLt
  have h1 : (y 1).val = r + (x 1).val := hx 1
  have h2 : (y 2).val = 0 + (x 2).val := hx 2
  have h3 : (y 3).val = o + (x 3).val := hx 3
  have e : x = ix4 (x 0) (x 1) (x 2) (x 3) := eq_ix4 x
  rw [e]
  refine (pay13_at _ _ _ _ _).trans ?_
  rw [View.readCov_eq_canon']
  refine (kept_at a T _).trans (same_place a ?_ ?_)
  · simp
    omega
  · simp
    omega

/-- One store of every 16th row, at an index. -/
theorem tile16 (v : View sig .tc .vmem S4x512x128 .f32) (a : FVec Ideal S512x512 .f32) (T : List (View.Piece (Elt Ideal) S4x512x128 .f32)) (c r o : ℕ)
    (ho : o = 128 * c) (inb) (y : S1x16x32x512.Idx) (u : Fin 512) (hu : u.val = 16 * (y 2).val + (y 1).val) :
    View.TileAt (Val := Elt Ideal) (e := .bf16) y ![0, r, 0, o] ![1, 1, 32, 128]
      (k0_pay1 (F := Ideal) (v.readCov (kept a T) { off := ![c, r, 0], size := ![1, 32, 128], stride := ![1, 16, 1], inb := inb })) (a (ix2 u (y 3))) := by
  intro x hx
  have h0 : (x 1).val < 1 := (x 1).isLt
  have h1 : (y 1).val = r + (x 1).val := hx 1
  have h2 : (y 2).val = 0 + (x 2).val := hx 2
  have h3 : (y 3).val = o + (x 3).val := hx 3
  have e : x = ix4 (x 0) (x 1) (x 2) (x 3) := eq_ix4 x
  rw [e]
  refine (pay1_at _ _ _ _ _).trans ?_
  rw [View.readCov_eq_canon']
  refine (kept_at a T _).trans (same_place a ?_ ?_)
  · simp
    omega
  · simp
    omega

variable (c : Dev nD) (i : grid0.Coords) (arg2 : Memref sig .tc .vmem S1x512x1024 .f32) (harg2 : arg2.IsWhole) (arg3 : Memref sig .tc .vmem S1024x2560 .bf16) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x1x512x512 .bf16) (harg7 : arg7.IsWhole) (arg8 : Memref sig .tc .vmem S1x1x512x512 .bf16) (harg8 : arg8.IsWhole) (arg9 : Memref sig .tc .vmem S1x1x512x512 .bf16) (harg9 : arg9.IsWhole) (arg10 : Memref sig .tc .vmem S1x4x128x512 .bf16) (harg10 : arg10.IsWhole) (arg11 : Memref sig .tc .vmem S1x4x128x512 .bf16) (harg11 : arg11.IsWhole) (arg12 : Memref sig .tc .vmem S1x4x128x512 .bf16) (harg12 : arg12.IsWhole) (arg13 : Memref sig .tc .vmem S1x16x32x512 .bf16) (harg13 : arg13.IsWhole) (arg14 : Memref sig .tc .vmem S1x16x32x512 .bf16) (harg14 : arg14.IsWhole) (arg15 : Memref sig .tc .vmem S1x16x32x512 .bf16) (harg15 : arg15.IsWhole) (arg16 : Memref sig .tc .vmem S4x512x128 .f32) (harg16 : arg16.IsWhole)
  (x0 : Vec Ideal S1x512x1024 .f32) (x1 : Vec Ideal S1024x2560 .bf16)

/-- The loaded block of rows is the block, and a loaded group of columns is that of the weights. -/
theorem load_at {N : ℕ} (o : ℕ) (inb) (inb') (r : Fin 512) (n : Fin N) (k : Fin 2560) (hk : k.val = o + n.val) :
    (∑ d : Fin 1024, View.ld x0 (Rect.unit (s := S1x512x1024) ![0, 0, 0] ![1, 512, 1024] inb) (ix3 0 r d)
      * View.ld x1 (Rect.unit (s := S1024x2560) ![0, o] ![1024, N] inb') (ix2 d n) : EReal) = rowAt x0 x1 r k := by
  refine Finset.sum_congr rfl fun d _ => ?_
  rw [View.ld_unit_apply_of x0 ![0, 0, 0] ![1, 512, 1024] inb (ix3 0 r d) (ix3 0 r d) fun a => by fin_cases a <;> simp,
    View.ld_unit_apply_of x1 ![0, o] ![1024, N] inb' (ix2 d n) (ix2 d k) fun a => by fin_cases a <;> simp [hk]]

/-- So a product of 512 columns holds those rows. -/
theorem product_at (o : ℕ) (inb) (inb') (r n : Fin 512) (k : Fin 2560) (hk : k.val = o + n.val) :
    k0_pay6 (F := Ideal) (View.ld x0 (Rect.unit (s := S1x512x1024) ![0, 0, 0] ![1, 512, 1024] inb))
      (View.ld x1 (Rect.unit (s := S1024x2560) ![0, o] ![1024, 512] inb')) (ix2 r n) = rowAt x0 x1 r k :=
  (pay6_at _ _ r n).trans (load_at x0 x1 o inb inb' r n k hk)

/-- A point's block of window queries: rows of its product. -/
theorem out2_at (y : S1x512x512.Idx) (n : Fin 2560) (hn : n.val = 0 + (y 2).val) : out0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 (y 1) n := by
  unfold out0_A_2
  rw [View.read_writes_junk_eq_canon]
  unfold kernelRun0_A
  dsimp only
  sl_unfold_words
  simp only [View.readAt_eq_ld, harg2.read_unread, harg3.read_unread]
  refine (congrFun (View.canon_cons_unit_lit (S := S1x512x512) _ _ [] (fun a => by fin_cases a <;> rfl)) y).trans ?_
  refine (congrArg _ (eq_ix3 y)).trans ((pay3_at _ _ _ _ _).trans ?_)
  exact load_at x0 x1 0 _ _ _ _ n hn

/-- A point's block of window keys: rows of its product. -/
theorem out3_at (y : S1x512x256.Idx) (n : Fin 2560) (hn : n.val = 512 + (y 2).val) : out0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 (y 1) n := by
  unfold out0_A_3
  rw [View.read_writes_junk_eq_canon]
  unfold kernelRun0_A
  dsimp only
  sl_unfold_words
  simp only [View.readAt_eq_ld, harg2.read_unread, harg3.read_unread]
  refine (congrFun (View.canon_cons_unit_lit (S := S1x512x256) _ _ [] (fun a => by fin_cases a <;> rfl)) y).trans ?_
  refine (congrArg _ (eq_ix3 y)).trans ((pay4_at _ _ _ _ _).trans ?_)
  exact load_at x0 x1 512 _ _ _ _ n hn

/-- A point's block of window values: rows of its product. -/
theorem out4_at (y : S1x512x256.Idx) (n : Fin 2560) (hn : n.val = 768 + (y 2).val) : out0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 (y 1) n := by
  unfold out0_A_4
  rw [View.read_writes_junk_eq_canon]
  unfold kernelRun0_A
  dsimp only
  sl_unfold_words
  simp only [View.readAt_eq_ld, harg2.read_unread, harg3.read_unread]
  refine (congrFun (View.canon_cons_unit_lit (S := S1x512x256) _ _ [] (fun a => by fin_cases a <;> rfl)) y).trans ?_
  refine (congrArg _ (eq_ix3 y)).trans ((pay4_at _ _ _ _ _).trans ?_)
  exact load_at x0 x1 768 _ _ _ _ n hn

/-- A point's block of dilated queries, whole: rows of its product. -/
theorem out5_at (y : S1x1x512x512.Idx) (n : Fin 2560) (hn : n.val = 1024 + (y 3).val) : out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 (y 2) n := by
  unfold out0_A_5
  rw [View.read_writes_junk_eq_canon]
  unfold kernelRun0_A
  dsimp only
  sl_unfold_words
  simp only [View.readAt_eq_ld, harg2.read_unread, harg3.read_unread]
  refine (congrFun (View.canon_cons_unit_lit (S := S1x1x512x512) _ _ [] (fun a => by fin_cases a <;> rfl)) y).trans ?_
  refine (congrArg _ (eq_ix4 y)).trans ((pay8_at (k0_pay6 (F := Ideal) _ _) _ _ _ _).trans ((pay6_at _ _ _ _).trans ?_))
  exact load_at x0 x1 1024 _ _ _ _ n hn

/-- A point's block of dilated keys, whole: rows of its product. -/
theorem out6_at (y : S1x1x512x512.Idx) (n : Fin 2560) (hn : n.val = 1536 + (y 3).val) : out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 (y 2) n := by
  unfold out0_A_6
  rw [View.read_writes_junk_eq_canon]
  unfold kernelRun0_A
  dsimp only
  sl_unfold_words
  simp only [View.readAt_eq_ld, harg2.read_unread, harg3.read_unread]
  refine (congrFun (View.canon_cons_unit_lit (S := S1x1x512x512) _ _ [] (fun a => by fin_cases a <;> rfl)) y).trans ?_
  refine (congrArg _ (eq_ix4 y)).trans ((pay8_at (k0_pay6 (F := Ideal) _ _) _ _ _ _).trans ((pay6_at _ _ _ _).trans ?_))
  exact load_at x0 x1 1536 _ _ _ _ n hn

/-- A point's block of dilated values, whole: rows of its product. -/
theorem out7_at (y : S1x1x512x512.Idx) (n : Fin 2560) (hn : n.val = 2048 + (y 3).val) : out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 (y 2) n := by
  unfold out0_A_7
  rw [View.read_writes_junk_eq_canon]
  unfold kernelRun0_A
  dsimp only
  sl_unfold_words
  simp only [View.readAt_eq_ld, harg2.read_unread, harg3.read_unread]
  refine (congrFun (View.canon_cons_unit_lit (S := S1x1x512x512) _ _ [] (fun a => by fin_cases a <;> rfl)) y).trans ?_
  refine (congrArg _ (eq_ix4 y)).trans ((pay8_at (k0_pay6 (F := Ideal) _ _) _ _ _ _).trans ((pay6_at _ _ _ _).trans ?_))
  exact load_at x0 x1 2048 _ _ _ _ n hn

/-- A point's block of dilated queries, by four classes of positions: rows of its product. -/
theorem out8_at (y : S1x4x128x512.Idx) (u : Fin 512) (hu : u.val = 4 * (y 2).val + (y 1).val) (n : Fin 2560) (hn : n.val = 1024 + (y 3).val) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 u n := by
  have hc := cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y
  unfold out0_A_8
  rw [View.read_writes_junk_eq_canon]
  refine Eq.trans ?_ (product_at x0 x1 1024 inb_S1x512x1024_S1x512x1024_0_0_0 inb_S1024x2560_S1024x512_0_1024 u (y 3) n hn)
  refine View.canon_eq_of_allAt _ y _ hc ?_
  clear hc
  unfold kernelRun0_A
  dsimp only
  sl_unfold_words
  simp only [View.readAt_eq_ld, harg2.read_unread, harg3.read_unread]
  iterate 16 (refine View.allAt_cons_unit _ _ _ _ _ (by refine tile4 _ _ _ _ _ _ ?_ _ y u hu; rfl) ?_)
  exact View.allAt_nil _ _

/-- A point's block of dilated keys, by four classes of positions: rows of its product. -/
theorem out9_at (y : S1x4x128x512.Idx) (u : Fin 512) (hu : u.val = 4 * (y 2).val + (y 1).val) (n : Fin 2560) (hn : n.val = 1536 + (y 3).val) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 u n := by
  have hc := cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y
  unfold out0_A_9
  rw [View.read_writes_junk_eq_canon]
  refine Eq.trans ?_ (product_at x0 x1 1536 inb_S1x512x1024_S1x512x1024_0_0_0 inb_S1024x2560_S1024x512_0_1536 u (y 3) n hn)
  refine View.canon_eq_of_allAt _ y _ hc ?_
  clear hc
  unfold kernelRun0_A
  dsimp only
  sl_unfold_words
  simp only [View.readAt_eq_ld, harg2.read_unread, harg3.read_unread]
  iterate 16 (refine View.allAt_cons_unit _ _ _ _ _ (by refine tile4 _ _ _ _ _ _ ?_ _ y u hu; rfl) ?_)
  exact View.allAt_nil _ _

/-- A point's block of dilated values, by four classes of positions: rows of its product. -/
theorem out10_at (y : S1x4x128x512.Idx) (u : Fin 512) (hu : u.val = 4 * (y 2).val + (y 1).val) (n : Fin 2560) (hn : n.val = 2048 + (y 3).val) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 u n := by
  have hc := cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y
  unfold out0_A_10
  rw [View.read_writes_junk_eq_canon]
  refine Eq.trans ?_ (product_at x0 x1 2048 inb_S1x512x1024_S1x512x1024_0_0_0 inb_S1024x2560_S1024x512_0_2048 u (y 3) n hn)
  refine View.canon_eq_of_allAt _ y _ hc ?_
  clear hc
  unfold kernelRun0_A
  dsimp only
  sl_unfold_words
  simp only [View.readAt_eq_ld, harg2.read_unread, harg3.read_unread]
  iterate 16 (refine View.allAt_cons_unit _ _ _ _ _ (by refine tile4 _ _ _ _ _ _ ?_ _ y u hu; rfl) ?_)
  exact View.allAt_nil _ _

/-- A point's block of dilated queries, by sixteen classes: rows of its product. -/
theorem out11_at (y : S1x16x32x512.Idx) (u : Fin 512) (hu : u.val = 16 * (y 2).val + (y 1).val) (n : Fin 2560) (hn : n.val = 1024 + (y 3).val) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 u n := by
  have hc := cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y
  unfold out0_A_11
  rw [View.read_writes_junk_eq_canon]
  refine Eq.trans ?_ (product_at x0 x1 1024 inb_S1x512x1024_S1x512x1024_0_0_0 inb_S1024x2560_S1024x512_0_1024 u (y 3) n hn)
  refine View.canon_eq_of_allAt _ y _ hc ?_
  clear hc
  unfold kernelRun0_A
  dsimp only
  sl_unfold_words
  simp only [View.readAt_eq_ld, harg2.read_unread, harg3.read_unread]
  iterate 64 (refine View.allAt_cons_unit _ _ _ _ _ (by refine tile16 _ _ _ _ _ _ ?_ _ y u hu; rfl) ?_)
  exact View.allAt_nil _ _

/-- A point's block of dilated keys, by sixteen classes: rows of its product. -/
theorem out12_at (y : S1x16x32x512.Idx) (u : Fin 512) (hu : u.val = 16 * (y 2).val + (y 1).val) (n : Fin 2560) (hn : n.val = 1536 + (y 3).val) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 u n := by
  have hc := cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y
  unfold out0_A_12
  rw [View.read_writes_junk_eq_canon]
  refine Eq.trans ?_ (product_at x0 x1 1536 inb_S1x512x1024_S1x512x1024_0_0_0 inb_S1024x2560_S1024x512_0_1536 u (y 3) n hn)
  refine View.canon_eq_of_allAt _ y _ hc ?_
  clear hc
  unfold kernelRun0_A
  dsimp only
  sl_unfold_words
  simp only [View.readAt_eq_ld, harg2.read_unread, harg3.read_unread]
  iterate 64 (refine View.allAt_cons_unit _ _ _ _ _ (by refine tile16 _ _ _ _ _ _ ?_ _ y u hu; rfl) ?_)
  exact View.allAt_nil _ _

/-- A point's block of dilated values, by sixteen classes: rows of its product. -/
theorem out13_at (y : S1x16x32x512.Idx) (u : Fin 512) (hu : u.val = 16 * (y 2).val + (y 1).val) (n : Fin 2560) (hn : n.val = 2048 + (y 3).val) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y = rowAt x0 x1 u n := by
  have hc := cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 y
  unfold out0_A_13
  rw [View.read_writes_junk_eq_canon]
  refine Eq.trans ?_ (product_at x0 x1 2048 inb_S1x512x1024_S1x512x1024_0_0_0 inb_S1024x2560_S1024x512_0_2048 u (y 3) n hn)
  refine View.canon_eq_of_allAt _ y _ hc ?_
  clear hc
  unfold kernelRun0_A
  dsimp only
  sl_unfold_words
  simp only [View.readAt_eq_ld, harg2.read_unread, harg3.read_unread]
  iterate 64 (refine View.allAt_cons_unit _ _ _ _ _ (by refine tile16 _ _ _ _ _ _ ?_ _ y u hu; rfl) ?_)
  exact View.allAt_nil _ _

end Cert.Kernel4Ideal.Proj

end
-- ==== Proof.ProjHost.lean ====
/- The projection in: each result at an index as a row of the input times a column of the weights, the reference's
   results in that form, and the weights as the host lays them out for the call. -/
module

public import proofs.«01_k».proof.Defs
public import proofs.«01_k».proof.Proof.AttnHost
public import proofs.«01_k».proof.Proof.Gen.Kernel4Ideal.Frame.Runs
public import proofs.«01_k».proof.Proof.Gen.Reference4Ideal.Read
public import proofs.«01_k».proof.Proof.Gen.Reference4Ideal.Run
public import Idealize.ShloMosaic.Lib.StableHlo.ReadAt

@[expose] public section

set_option maxRecDepth 16384

noncomputable section

namespace Cert.Proj

open Idealize.ShloMosaic

/-- Row `p` of sequence `b` times column `n` of the weights. -/
def dotAt (x : Cert.Kernel4Ideal.S24x2048x1024.Idx → EReal) (w : Cert.Kernel4Ideal.S1024x2304.Idx → EReal)
    (b : Fin 24) (p : Fin 2048) (n : Fin 2304) : EReal := ∑ k : Fin 1024, x (ix3 b p k) * w (ix2 k n)

/-- The scale of the queries. -/
def eighth : EReal := Ideal.ofBits .f32 0x3E000000#32

/-- The column of key (or value) lane `n` when every head of 64 lanes stands twice: lane `n % 64` of head `n / 128`. -/
def headLane (n : ℕ) : ℕ := n / 128 * 64 + n % 64

/-- There are 128 such lanes. -/
theorem headLane_lt {n : ℕ} (h : n < 256) : headLane n < 128 := by unfold headLane; omega

/-- The scale may be taken after the sum. -/
theorem sum_mul_eighth {n : ℕ} (x y : Fin n → EReal) : ∑ d, x d * (y d * eighth) = (∑ d, x d * y d) * eighth := by
  unfold eighth
  rw [Cert.KernelIdeal.Attn.ofBits_eighth]
  refine (Finset.sum_congr rfl fun d _ => ?_).trans (Cert.Attn.sum_mul_scale (1 / 8) (by norm_num) x y)
  rw [← mul_assoc, mul_right_comm]

end Cert.Proj

namespace Cert.Reference4Ideal.Proj

open Cert.Reference4Ideal Cert.Reference4Ideal.Read Cert.Proj
open Idealize.ShloMosaic Idealize.ShloMosaic.TcCoe Idealize.ShloMosaic.Tactic

variable (x : S24x2048x1024.Idx → EReal) (w : S1024x2304.Idx → EReal)

/-- The reference's window queries, at an index. -/
theorem v37_at (b : Fin 24) (p : Fin 2048) (n : Fin 512) : val_main_v37 (F := Ideal) x w (ix3 b p n) = dotAt x w b p ⟨n.val, by omega⟩ * eighth := by
  pointwise [val_main_v37, val_main_v8, val_main_v7, val_main_v1, val_main_v0, val_main_cst]
  rfl

/-- Its window keys … -/
theorem v38_at (b : Fin 24) (p : Fin 2048) (n : Fin 256) : val_main_v38 (F := Ideal) x w (ix3 b p n) = dotAt x w b p ⟨512 + headLane n.val, by have h := headLane_lt n.isLt; omega⟩ := by
  pointwise [val_main_v38, val_main_v14, val_main_v13, val_main_v12, val_main_v11, val_main_v2, val_main_v0]
  rfl

/-- … and values. -/
theorem v39_at (b : Fin 24) (p : Fin 2048) (n : Fin 256) : val_main_v39 (F := Ideal) x w (ix3 b p n) = dotAt x w b p ⟨640 + headLane n.val, by have h := headLane_lt n.isLt; omega⟩ := by
  pointwise [val_main_v39, val_main_v18, val_main_v17, val_main_v16, val_main_v15, val_main_v3, val_main_v0]
  rfl

/-- Its dilated queries, by one class of positions. -/
theorem v40_at (b : Fin 24) (r : Fin 1) (p : Fin 2048) (n : Fin 512) : val_main_v40 (F := Ideal) x w (ix4 b r p n) = dotAt x w b ⟨p.val * 1 + r.val, by omega⟩ ⟨768 + n.val, by omega⟩ * eighth := by
  pointwise [val_main_v40, val_main_v20, val_main_v19, val_main_v10, val_main_v9, val_main_v4, val_main_v0, val_main_cst_0]
  rfl

/-- Its dilated keys, by one class of positions. -/
theorem v41_at (b : Fin 24) (r : Fin 1) (p : Fin 2048) (n : Fin 512) : val_main_v41 (F := Ideal) x w (ix4 b r p n) = dotAt x w b ⟨p.val * 1 + r.val, by omega⟩ ⟨1280 + n.val, by omega⟩ := by
  pointwise [val_main_v41, val_main_v22, val_main_v21, val_main_v5, val_main_v0]
  rfl

/-- Its dilated values, by one class of positions. -/
theorem v42_at (b : Fin 24) (r : Fin 1) (p : Fin 2048) (n : Fin 512) : val_main_v42 (F := Ideal) x w (ix4 b r p n) = dotAt x w b ⟨p.val * 1 + r.val, by omega⟩ ⟨1792 + n.val, by omega⟩ := by
  pointwise [val_main_v42, val_main_v24, val_main_v23, val_main_v6, val_main_v0]
  rfl

/-- Its dilated queries, by four classes of positions. -/
theorem v43_at (b : Fin 24) (r : Fin 4) (p : Fin 512) (n : Fin 512) : val_main_v43 (F := Ideal) x w (ix4 b r p n) = dotAt x w b ⟨p.val * 4 + r.val, by omega⟩ ⟨768 + n.val, by omega⟩ * eighth := by
  pointwise [val_main_v43, val_main_v26, val_main_v25, val_main_v10, val_main_v9, val_main_v4, val_main_v0, val_main_cst_0]
  rfl

/-- Its dilated keys, by four classes of positions. -/
theorem v44_at (b : Fin 24) (r : Fin 4) (p : Fin 512) (n : Fin 512) : val_main_v44 (F := Ideal) x w (ix4 b r p n) = dotAt x w b ⟨p.val * 4 + r.val, by omega⟩ ⟨1280 + n.val, by omega⟩ := by
  pointwise [val_main_v44, val_main_v28, val_main_v27, val_main_v5, val_main_v0]
  rfl

/-- Its dilated values, by four classes of positions. -/
theorem v45_at (b : Fin 24) (r : Fin 4) (p : Fin 512) (n : Fin 512) : val_main_v45 (F := Ideal) x w (ix4 b r p n) = dotAt x w b ⟨p.val * 4 + r.val, by omega⟩ ⟨1792 + n.val, by omega⟩ := by
  pointwise [val_main_v45, val_main_v30, val_main_v29, val_main_v6, val_main_v0]
  rfl

/-- Its dilated queries, by sixteen classes of positions. -/
theorem v46_at (b : Fin 24) (r : Fin 16) (p : Fin 128) (n : Fin 512) : val_main_v46 (F := Ideal) x w (ix4 b r p n) = dotAt x w b ⟨p.val * 16 + r.val, by omega⟩ ⟨768 + n.val, by omega⟩ * eighth := by
  pointwise [val_main_v46, val_main_v32, val_main_v31, val_main_v10, val_main_v9, val_main_v4, val_main_v0, val_main_cst_0]
  rfl

/-- Its dilated keys, by sixteen classes of positions. -/
theorem v47_at (b : Fin 24) (r : Fin 16) (p : Fin 128) (n : Fin 512) : val_main_v47 (F := Ideal) x w (ix4 b r p n) = dotAt x w b ⟨p.val * 16 + r.val, by omega⟩ ⟨1280 + n.val, by omega⟩ := by
  pointwise [val_main_v47, val_main_v34, val_main_v33, val_main_v5, val_main_v0]
  rfl

/-- Its dilated values, by sixteen classes of positions. -/
theorem v48_at (b : Fin 24) (r : Fin 16) (p : Fin 128) (n : Fin 512) : val_main_v48 (F := Ideal) x w (ix4 b r p n) = dotAt x w b ⟨p.val * 16 + r.val, by omega⟩ ⟨1792 + n.val, by omega⟩ := by
  pointwise [val_main_v48, val_main_v36, val_main_v35, val_main_v6, val_main_v0]
  rfl

end Cert.Reference4Ideal.Proj

namespace Cert.Kernel4Ideal.Proj

open Cert.Kernel4Ideal Cert.Kernel4Ideal.Gen Cert.Proj
open Idealize.ShloMosaic Idealize.ShloMosaic.TcCoe Idealize.ShloMosaic.Tactic Idealize.SL.Sem

variable (m : (ℓ : Loc nD τ sig) → Buf (Elt Ideal) ℓ) (c : Dev nD)

/-- The weights, by their columns' numbers. -/
theorem same_column (k : Fin 1024) {e e' : Fin 2304} (h : e.val = e'.val) :
    m ((c : Thread nD τ).loc main_arg1) (ix2 k e) = m ((c : Thread nD τ).loc main_arg1) (ix2 k e') := by rw [Fin.ext h]

/-- The prepared weights of the window queries: scaled. -/
theorem wq_at (k : Fin 1024) (n : Fin 512) : V m c main_v17 (ix2 k ⟨0 + n.val, by omega⟩) = @HMul.hMul EReal EReal EReal _ (m ((c : Thread nD τ).loc main_arg1) (ix2 k ⟨n.val, by omega⟩)) eighth := by
  have hn := n.isLt
  unfold V
  after_reads_at
  after_reads_at
  rfl

set_option maxHeartbeats 2000000 in
/-- Those of the window keys: every head twice. -/
theorem wk_at (k : Fin 1024) (n : Fin 256) : V m c main_v17 (ix2 k ⟨512 + n.val, by omega⟩) = m ((c : Thread nD τ).loc main_arg1) (ix2 k ⟨512 + headLane n.val, by have h := headLane_lt n.isLt; omega⟩) := by
  have hn := n.isLt
  unfold V
  after_reads_at
  after_reads_at
  split_ifs <;> after_reads_at <;> refine same_column m c k ?_ <;> simp only [headLane] <;> omega

set_option maxHeartbeats 2000000 in
/-- Those of the window values likewise. -/
theorem wv_at (k : Fin 1024) (n : Fin 256) : V m c main_v17 (ix2 k ⟨768 + n.val, by omega⟩) = m ((c : Thread nD τ).loc main_arg1) (ix2 k ⟨640 + headLane n.val, by have h := headLane_lt n.isLt; omega⟩) := by
  have hn := n.isLt
  unfold V
  after_reads_at
  split_ifs <;> first | (exfalso; omega) | skip
  after_reads_at
  split_ifs <;> after_reads_at <;> refine same_column m c k ?_ <;> simp only [headLane] <;> omega

/-- Those of the dilated queries: scaled. -/
theorem wbq_at (k : Fin 1024) (n : Fin 512) : V m c main_v17 (ix2 k ⟨1024 + n.val, by omega⟩) = @HMul.hMul EReal EReal EReal _ (m ((c : Thread nD τ).loc main_arg1) (ix2 k ⟨768 + n.val, by omega⟩)) eighth := by
  have hn := n.isLt
  unfold V
  after_reads_at
  split_ifs <;> first | (exfalso; omega) | skip
  after_reads_at
  refine congrArg (fun z : EReal => z * eighth) (same_column m c k ?_)
  simp only []
  omega

/-- Those of the dilated keys … -/
theorem wbk_at (k : Fin 1024) (n : Fin 512) : V m c main_v17 (ix2 k ⟨1536 + n.val, by omega⟩) = m ((c : Thread nD τ).loc main_arg1) (ix2 k ⟨1280 + n.val, by omega⟩) := by
  have hn := n.isLt
  unfold V
  after_reads_at
  split_ifs <;> first | (exfalso; omega) | skip
  after_reads_at
  refine same_column m c k ?_ <;> simp only [] <;> omega

/-- … and values. -/
theorem wbv_at (k : Fin 1024) (n : Fin 512) : V m c main_v17 (ix2 k ⟨2048 + n.val, by omega⟩) = m ((c : Thread nD τ).loc main_arg1) (ix2 k ⟨1792 + n.val, by omega⟩) := by
  have hn := n.isLt
  unfold V
  after_reads_at
  split_ifs <;> first | (exfalso; omega) | skip
  after_reads_at
  refine same_column m c k ?_ <;> simp only [] <;> omega

end Cert.Kernel4Ideal.Proj

end
-- ==== Proof.ProjClaim.lean ====
/- The twelve arrays that the projection call leaves, at an index, and its reference's. -/
module

public import proofs.«01_k».proof.Defs
public import proofs.«01_k».proof.Proof.ProjOut
public import proofs.«01_k».proof.Proof.ProjHost

@[expose] public section

set_option maxRecDepth 16384

noncomputable section

namespace Cert.Proj

open Idealize.ShloMosaic

variable (x : Cert.Kernel4Ideal.S24x2048x1024.Idx → EReal) (w : Cert.Kernel4Ideal.S1024x2304.Idx → EReal) (b : Fin 24) (p : Fin 2048)

/-- A window query's lane … -/
def windowQ (n : Fin 512) : EReal := dotAt x w b p ⟨n.val, by omega⟩ * eighth
/-- … a window key's … -/
def windowK (n : Fin 256) : EReal := dotAt x w b p ⟨512 + headLane n.val, by have h := headLane_lt n.isLt; omega⟩
/-- … a window value's. -/
def windowV (n : Fin 256) : EReal := dotAt x w b p ⟨640 + headLane n.val, by have h := headLane_lt n.isLt; omega⟩
/-- A dilated query's lane … -/
def dilatedQ (n : Fin 512) : EReal := dotAt x w b p ⟨768 + n.val, by omega⟩ * eighth
/-- … a dilated key's … -/
def dilatedK (n : Fin 512) : EReal := dotAt x w b p ⟨1280 + n.val, by omega⟩
/-- … a dilated value's. -/
def dilatedV (n : Fin 512) : EReal := dotAt x w b p ⟨1792 + n.val, by omega⟩

/-- The position that is number `p` of the one class … -/
def place1 (r : Fin 1) (p : Fin 2048) : Fin 2048 := ⟨p.val * 1 + r.val, by omega⟩
/-- … of class `r` of four … -/
def place4 (r : Fin 4) (p : Fin 512) : Fin 2048 := ⟨p.val * 4 + r.val, by omega⟩
/-- … of class `r` of sixteen. -/
def place16 (r : Fin 16) (p : Fin 128) : Fin 2048 := ⟨p.val * 16 + r.val, by omega⟩

end Cert.Proj

namespace Cert.Kernel4Ideal.Proj

open Cert.Kernel4Ideal Cert.Kernel4Ideal.Gen Cert.Proj
open Idealize.ShloMosaic Idealize.ShloMosaic.TcCoe Idealize.ShloMosaic.Tactic Idealize.SL.Sem

variable (m : (ℓ : Loc nD τ sig) → Buf (Elt Ideal) ℓ) (c : Dev nD)

/-- Which block of each array a point reads and writes. -/
theorem block_index : ∀ t : Fin grid0.N,
    win0_0.index t = ![t.val / 4, t.val % 4, 0] ∧ win0_1.index t = ![0, 0]
    ∧ win0_2.index t = ![t.val / 4, t.val % 4, 0] ∧ win0_3.index t = ![t.val / 4, t.val % 4, 0] ∧ win0_4.index t = ![t.val / 4, t.val % 4, 0]
    ∧ win0_5.index t = ![t.val / 4, 0, t.val % 4, 0]
    ∧ win0_6.index t = ![t.val / 4, 0, t.val % 4, 0]
    ∧ win0_7.index t = ![t.val / 4, 0, t.val % 4, 0]
    ∧ win0_8.index t = ![t.val / 4, 0, t.val % 4, 0]
    ∧ win0_9.index t = ![t.val / 4, 0, t.val % 4, 0]
    ∧ win0_10.index t = ![t.val / 4, 0, t.val % 4, 0]
    ∧ win0_11.index t = ![t.val / 4, 0, t.val % 4, 0]
    ∧ win0_12.index t = ![t.val / 4, 0, t.val % 4, 0]
    ∧ win0_13.index t = ![t.val / 4, 0, t.val % 4, 0] := by
  decide +kernel

variable (t : Fin cfg0.N)

/-- A point's rows of the input … -/
theorem block_x (r : Fin 512) (k : Fin 1024) (b : Fin 24) (p : Fin 2048) (hb : b.val = t.val / 4) (hp : p.val = t.val % 4 * 512 + r.val) :
    iblk m c 0 t (ix3 0 r k) = m ((c : Thread nD τ).loc main_arg0) (ix3 b p k) := by
  refine Eq.trans ?_ (congrFun (V_main_arg0 m c) (ix3 b p k))
  blk_ext [iblk, block_index t]

/-- … and the prepared weights, whole at every point. -/
theorem block_w (k : Fin 1024) (n : Fin 2560) : iblk m c 1 t (ix2 k n) = V m c main_v17 (ix2 k n) := by
  blk_ext [iblk, block_index t]

/-- A row of a point's product is the input's row times the prepared weights. -/
theorem row_at (r : Fin 512) (b : Fin 24) (p : Fin 2048) (hb : b.val = t.val / 4) (hp : p.val = t.val % 4 * 512 + r.val) (n : Fin 2560) :
    rowAt (iblk m c 0 t) (iblk m c 1 t) r n
      = ∑ k : Fin 1024, @HMul.hMul EReal EReal EReal _ (m ((c : Thread nD τ).loc main_arg0) (ix3 b p k)) (V m c main_v17 (ix2 k n)) := by
  unfold rowAt
  refine Finset.sum_congr rfl fun k _ => ?_
  rw [block_w m c t k n, block_x m c t r k b p hb hp]

/-- Its first 512 columns are the window queries … -/
theorem row_windowQ (r : Fin 512) (b : Fin 24) (p : Fin 2048) (n : Fin 512) (n' : Fin 2560) (hb : b.val = t.val / 4) (hp : p.val = t.val % 4 * 512 + r.val)
    (hn : n'.val = 0 + n.val) : rowAt (iblk m c 0 t) (iblk m c 1 t) r n' = windowQ (m ((c : Thread nD τ).loc main_arg0)) (m ((c : Thread nD τ).loc main_arg1)) b p n := by
  have hl : 0 + n.val < 2560 := by
    clear hn
    omega
  obtain rfl : n' = ⟨0 + n.val, hl⟩ := Fin.ext hn
  rw [row_at m c t r b p hb hp]
  simp only [wq_at m c]
  exact sum_mul_eighth _ _

/-- … the next 256 the window keys … -/
theorem row_windowK (r : Fin 512) (b : Fin 24) (p : Fin 2048) (n : Fin 256) (n' : Fin 2560) (hb : b.val = t.val / 4) (hp : p.val = t.val % 4 * 512 + r.val)
    (hn : n'.val = 512 + n.val) : rowAt (iblk m c 0 t) (iblk m c 1 t) r n' = windowK (m ((c : Thread nD τ).loc main_arg0)) (m ((c : Thread nD τ).loc main_arg1)) b p n := by
  have hl : 512 + n.val < 2560 := by
    clear hn
    omega
  obtain rfl : n' = ⟨512 + n.val, hl⟩ := Fin.ext hn
  rw [row_at m c t r b p hb hp]
  simp only [wk_at m c]
  rfl

/-- … the next the window values … -/
theorem row_windowV (r : Fin 512) (b : Fin 24) (p : Fin 2048) (n : Fin 256) (n' : Fin 2560) (hb : b.val = t.val / 4) (hp : p.val = t.val % 4 * 512 + r.val)
    (hn : n'.val = 768 + n.val) : rowAt (iblk m c 0 t) (iblk m c 1 t) r n' = windowV (m ((c : Thread nD τ).loc main_arg0)) (m ((c : Thread nD τ).loc main_arg1)) b p n := by
  have hl : 768 + n.val < 2560 := by
    clear hn
    omega
  obtain rfl : n' = ⟨768 + n.val, hl⟩ := Fin.ext hn
  rw [row_at m c t r b p hb hp]
  simp only [wv_at m c]
  rfl

/-- … then the dilated queries … -/
theorem row_dilatedQ (r : Fin 512) (b : Fin 24) (p : Fin 2048) (n : Fin 512) (n' : Fin 2560) (hb : b.val = t.val / 4) (hp : p.val = t.val % 4 * 512 + r.val)
    (hn : n'.val = 1024 + n.val) : rowAt (iblk m c 0 t) (iblk m c 1 t) r n' = dilatedQ (m ((c : Thread nD τ).loc main_arg0)) (m ((c : Thread nD τ).loc main_arg1)) b p n := by
  have hl : 1024 + n.val < 2560 := by
    clear hn
    omega
  obtain rfl : n' = ⟨1024 + n.val, hl⟩ := Fin.ext hn
  rw [row_at m c t r b p hb hp]
  simp only [wbq_at m c]
  exact sum_mul_eighth _ _

/-- … keys … -/
theorem row_dilatedK (r : Fin 512) (b : Fin 24) (p : Fin 2048) (n : Fin 512) (n' : Fin 2560) (hb : b.val = t.val / 4) (hp : p.val = t.val % 4 * 512 + r.val)
    (hn : n'.val = 1536 + n.val) : rowAt (iblk m c 0 t) (iblk m c 1 t) r n' = dilatedK (m ((c : Thread nD τ).loc main_arg0)) (m ((c : Thread nD τ).loc main_arg1)) b p n := by
  have hl : 1536 + n.val < 2560 := by
    clear hn
    omega
  obtain rfl : n' = ⟨1536 + n.val, hl⟩ := Fin.ext hn
  rw [row_at m c t r b p hb hp]
  simp only [wbk_at m c]
  rfl

/-- … and values. -/
theorem row_dilatedV (r : Fin 512) (b : Fin 24) (p : Fin 2048) (n : Fin 512) (n' : Fin 2560) (hb : b.val = t.val / 4) (hp : p.val = t.val % 4 * 512 + r.val)
    (hn : n'.val = 2048 + n.val) : rowAt (iblk m c 0 t) (iblk m c 1 t) r n' = dilatedV (m ((c : Thread nD τ).loc main_arg0)) (m ((c : Thread nD τ).loc main_arg1)) b p n := by
  have hl : 2048 + n.val < 2560 := by
    clear hn
    omega
  obtain rfl : n' = ⟨2048 + n.val, hl⟩ := Fin.ext hn
  rw [row_at m c t r b p hb hp]
  simp only [wbv_at m c]
  rfl

/-- A point's block of window queries, by the rows of its product. -/
theorem point2_at (y : S1x512x512.Idx) (n : Fin 2560) (hn : n.val = 0 + (y 2).val) :
    (outsAt0 m c t).1 y = rowAt (iblk m c 0 t) (iblk m c 1 t) (y 1) n := by
  have h := out2_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y n hn
  unfold outsAt0
  dsimp only
  exact h

/-- The kernel's window queries. -/
theorem final2_at : (dats m 0 c).arrAt 2 cfg0.N = fun i : S24x2048x512.Idx => windowQ (m ((c : Thread nD τ).loc main_arg0)) (m ((c : Thread nD τ).loc main_arg1)) (i 0) (i 1) (i 2) := by
  refine (dats m 0 c).arrAt_eq_of_covers 2 _ (by decide +kernel) fun t hf y => ?_
  have hl : (y 2).val < 512 := (y 2).isLt
  blk_simp
  rw [after0_2]
  refine (point2_at m c t y ⟨0 + (y 2).val, by omega⟩ rfl).trans (row_windowQ m c t _ _ _ _ _ ?_ ?_ ?_)
  all_goals blk_simp [block_index t]
/-- A point's block of window keys, by the rows of its product. -/
theorem point3_at (y : S1x512x256.Idx) (n : Fin 2560) (hn : n.val = 512 + (y 2).val) :
    (outsAt0 m c t).2.1 y = rowAt (iblk m c 0 t) (iblk m c 1 t) (y 1) n := by
  have h := out3_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y n hn
  unfold outsAt0
  dsimp only
  exact h

/-- The kernel's window keys. -/
theorem final3_at : (dats m 0 c).arrAt 3 cfg0.N = fun i : S24x2048x256.Idx => windowK (m ((c : Thread nD τ).loc main_arg0)) (m ((c : Thread nD τ).loc main_arg1)) (i 0) (i 1) (i 2) := by
  refine (dats m 0 c).arrAt_eq_of_covers 3 _ (by decide +kernel) fun t hf y => ?_
  have hl : (y 2).val < 256 := (y 2).isLt
  blk_simp
  rw [after0_3]
  refine (point3_at m c t y ⟨512 + (y 2).val, by omega⟩ rfl).trans (row_windowK m c t _ _ _ _ _ ?_ ?_ ?_)
  all_goals blk_simp [block_index t]
/-- A point's block of window values, by the rows of its product. -/
theorem point4_at (y : S1x512x256.Idx) (n : Fin 2560) (hn : n.val = 768 + (y 2).val) :
    (outsAt0 m c t).2.2.1 y = rowAt (iblk m c 0 t) (iblk m c 1 t) (y 1) n := by
  have h := out4_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y n hn
  unfold outsAt0
  dsimp only
  exact h

/-- The kernel's window values. -/
theorem final4_at : (dats m 0 c).arrAt 4 cfg0.N = fun i : S24x2048x256.Idx => windowV (m ((c : Thread nD τ).loc main_arg0)) (m ((c : Thread nD τ).loc main_arg1)) (i 0) (i 1) (i 2) := by
  refine (dats m 0 c).arrAt_eq_of_covers 4 _ (by decide +kernel) fun t hf y => ?_
  have hl : (y 2).val < 256 := (y 2).isLt
  blk_simp
  rw [after0_4]
  refine (point4_at m c t y ⟨768 + (y 2).val, by omega⟩ rfl).trans (row_windowV m c t _ _ _ _ _ ?_ ?_ ?_)
  all_goals blk_simp [block_index t]
/-- A point's block of dilated queries, whole, by the rows of its product. -/
theorem point5_at (y : S1x1x512x512.Idx) (n : Fin 2560) (hn : n.val = 1024 + (y 3).val) :
    (outsAt0 m c t).2.2.2.1 y = rowAt (iblk m c 0 t) (iblk m c 1 t) (y 2) n := by
  have h := out5_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y n hn
  unfold outsAt0
  dsimp only
  exact h

/-- The kernel's dilated queries, whole. -/
theorem final5_at : (dats m 0 c).arrAt 5 cfg0.N = fun i : S24x1x2048x512.Idx => dilatedQ (m ((c : Thread nD τ).loc main_arg0)) (m ((c : Thread nD τ).loc main_arg1)) (i 0) (place1 (i 1) (i 2)) (i 3) := by
  refine (dats m 0 c).arrAt_eq_of_covers 5 _ (by decide +kernel) fun t hf y => ?_
  have hl : (y 3).val < 512 := (y 3).isLt
  have h1 : (y 1).val < 1 := (y 1).isLt
  blk_simp
  rw [after0_5]
  refine (point5_at m c t y ⟨1024 + (y 3).val, by omega⟩ rfl).trans (row_dilatedQ m c t _ _ _ _ _ ?_ ?_ ?_)
  all_goals (try simp only [place1]); blk_simp [block_index t]; try omega
/-- A point's block of dilated keys, whole, by the rows of its product. -/
theorem point6_at (y : S1x1x512x512.Idx) (n : Fin 2560) (hn : n.val = 1536 + (y 3).val) :
    (outsAt0 m c t).2.2.2.2.1 y = rowAt (iblk m c 0 t) (iblk m c 1 t) (y 2) n := by
  have h := out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y n hn
  unfold outsAt0
  dsimp only
  exact h

/-- The kernel's dilated keys, whole. -/
theorem final6_at : (dats m 0 c).arrAt 6 cfg0.N = fun i : S24x1x2048x512.Idx => dilatedK (m ((c : Thread nD τ).loc main_arg0)) (m ((c : Thread nD τ).loc main_arg1)) (i 0) (place1 (i 1) (i 2)) (i 3) := by
  refine (dats m 0 c).arrAt_eq_of_covers 6 _ (by decide +kernel) fun t hf y => ?_
  have hl : (y 3).val < 512 := (y 3).isLt
  have h1 : (y 1).val < 1 := (y 1).isLt
  blk_simp
  rw [after0_6]
  refine (point6_at m c t y ⟨1536 + (y 3).val, by omega⟩ rfl).trans (row_dilatedK m c t _ _ _ _ _ ?_ ?_ ?_)
  all_goals (try simp only [place1]); blk_simp [block_index t]; try omega
/-- A point's block of dilated values, whole, by the rows of its product. -/
theorem point7_at (y : S1x1x512x512.Idx) (n : Fin 2560) (hn : n.val = 2048 + (y 3).val) :
    (outsAt0 m c t).2.2.2.2.2.1 y = rowAt (iblk m c 0 t) (iblk m c 1 t) (y 2) n := by
  have h := out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y n hn
  unfold outsAt0
  dsimp only
  exact h

/-- The kernel's dilated values, whole. -/
theorem final7_at : (dats m 0 c).arrAt 7 cfg0.N = fun i : S24x1x2048x512.Idx => dilatedV (m ((c : Thread nD τ).loc main_arg0)) (m ((c : Thread nD τ).loc main_arg1)) (i 0) (place1 (i 1) (i 2)) (i 3) := by
  refine (dats m 0 c).arrAt_eq_of_covers 7 _ (by decide +kernel) fun t hf y => ?_
  have hl : (y 3).val < 512 := (y 3).isLt
  have h1 : (y 1).val < 1 := (y 1).isLt
  blk_simp
  rw [after0_7]
  refine (point7_at m c t y ⟨2048 + (y 3).val, by omega⟩ rfl).trans (row_dilatedV m c t _ _ _ _ _ ?_ ?_ ?_)
  all_goals (try simp only [place1]); blk_simp [block_index t]; try omega
/-- A point's block of dilated queries, by four classes of positions, by the rows of its product. -/
theorem point8_at (y : S1x4x128x512.Idx) (u : Fin 512) (hu : u.val = 4 * (y 2).val + (y 1).val) (n : Fin 2560) (hn : n.val = 1024 + (y 3).val) :
    (outsAt0 m c t).2.2.2.2.2.2.1 y = rowAt (iblk m c 0 t) (iblk m c 1 t) u n := by
  have h := out8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y u hu n hn
  unfold outsAt0
  dsimp only
  exact h

/-- The kernel's dilated queries, by four classes of positions. -/
theorem final8_at : (dats m 0 c).arrAt 8 cfg0.N = fun i : S24x4x512x512.Idx => dilatedQ (m ((c : Thread nD τ).loc main_arg0)) (m ((c : Thread nD τ).loc main_arg1)) (i 0) (place4 (i 1) (i 2)) (i 3) := by
  refine (dats m 0 c).arrAt_eq_of_covers 8 _ (by decide +kernel) fun t hf y => ?_
  have hl : (y 3).val < 512 := (y 3).isLt
  have h1 : (y 1).val < 4 := (y 1).isLt
  have h2 : (y 2).val < 128 := (y 2).isLt
  blk_simp
  rw [after0_8]
  refine (point8_at m c t y ⟨4 * (y 2).val + (y 1).val, by omega⟩ rfl ⟨1024 + (y 3).val, by omega⟩ rfl).trans (row_dilatedQ m c t _ _ _ _ _ ?_ ?_ ?_)
  all_goals (try simp only [place4]); blk_simp [block_index t]; try omega
/-- A point's block of dilated keys, by four classes of positions, by the rows of its product. -/
theorem point9_at (y : S1x4x128x512.Idx) (u : Fin 512) (hu : u.val = 4 * (y 2).val + (y 1).val) (n : Fin 2560) (hn : n.val = 1536 + (y 3).val) :
    (outsAt0 m c t).2.2.2.2.2.2.2.1 y = rowAt (iblk m c 0 t) (iblk m c 1 t) u n := by
  have h := out9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y u hu n hn
  unfold outsAt0
  dsimp only
  exact h

/-- The kernel's dilated keys, by four classes of positions. -/
theorem final9_at : (dats m 0 c).arrAt 9 cfg0.N = fun i : S24x4x512x512.Idx => dilatedK (m ((c : Thread nD τ).loc main_arg0)) (m ((c : Thread nD τ).loc main_arg1)) (i 0) (place4 (i 1) (i 2)) (i 3) := by
  refine (dats m 0 c).arrAt_eq_of_covers 9 _ (by decide +kernel) fun t hf y => ?_
  have hl : (y 3).val < 512 := (y 3).isLt
  have h1 : (y 1).val < 4 := (y 1).isLt
  have h2 : (y 2).val < 128 := (y 2).isLt
  blk_simp
  rw [after0_9]
  refine (point9_at m c t y ⟨4 * (y 2).val + (y 1).val, by omega⟩ rfl ⟨1536 + (y 3).val, by omega⟩ rfl).trans (row_dilatedK m c t _ _ _ _ _ ?_ ?_ ?_)
  all_goals (try simp only [place4]); blk_simp [block_index t]; try omega
/-- A point's block of dilated values, by four classes of positions, by the rows of its product. -/
theorem point10_at (y : S1x4x128x512.Idx) (u : Fin 512) (hu : u.val = 4 * (y 2).val + (y 1).val) (n : Fin 2560) (hn : n.val = 2048 + (y 3).val) :
    (outsAt0 m c t).2.2.2.2.2.2.2.2.1 y = rowAt (iblk m c 0 t) (iblk m c 1 t) u n := by
  have h := out10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y u hu n hn
  unfold outsAt0
  dsimp only
  exact h

/-- The kernel's dilated values, by four classes of positions. -/
theorem final10_at : (dats m 0 c).arrAt 10 cfg0.N = fun i : S24x4x512x512.Idx => dilatedV (m ((c : Thread nD τ).loc main_arg0)) (m ((c : Thread nD τ).loc main_arg1)) (i 0) (place4 (i 1) (i 2)) (i 3) := by
  refine (dats m 0 c).arrAt_eq_of_covers 10 _ (by decide +kernel) fun t hf y => ?_
  have hl : (y 3).val < 512 := (y 3).isLt
  have h1 : (y 1).val < 4 := (y 1).isLt
  have h2 : (y 2).val < 128 := (y 2).isLt
  blk_simp
  rw [after0_10]
  refine (point10_at m c t y ⟨4 * (y 2).val + (y 1).val, by omega⟩ rfl ⟨2048 + (y 3).val, by omega⟩ rfl).trans (row_dilatedV m c t _ _ _ _ _ ?_ ?_ ?_)
  all_goals (try simp only [place4]); blk_simp [block_index t]; try omega
/-- A point's block of dilated queries, by sixteen classes, by the rows of its product. -/
theorem point11_at (y : S1x16x32x512.Idx) (u : Fin 512) (hu : u.val = 16 * (y 2).val + (y 1).val) (n : Fin 2560) (hn : n.val = 1024 + (y 3).val) :
    (outsAt0 m c t).2.2.2.2.2.2.2.2.2.1 y = rowAt (iblk m c 0 t) (iblk m c 1 t) u n := by
  have h := out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y u hu n hn
  unfold outsAt0
  dsimp only
  exact h

/-- The kernel's dilated queries, by sixteen classes. -/
theorem final11_at : (dats m 0 c).arrAt 11 cfg0.N = fun i : S24x16x128x512.Idx => dilatedQ (m ((c : Thread nD τ).loc main_arg0)) (m ((c : Thread nD τ).loc main_arg1)) (i 0) (place16 (i 1) (i 2)) (i 3) := by
  refine (dats m 0 c).arrAt_eq_of_covers 11 _ (by decide +kernel) fun t hf y => ?_
  have hl : (y 3).val < 512 := (y 3).isLt
  have h1 : (y 1).val < 16 := (y 1).isLt
  have h2 : (y 2).val < 32 := (y 2).isLt
  blk_simp
  rw [after0_11]
  refine (point11_at m c t y ⟨16 * (y 2).val + (y 1).val, by omega⟩ rfl ⟨1024 + (y 3).val, by omega⟩ rfl).trans (row_dilatedQ m c t _ _ _ _ _ ?_ ?_ ?_)
  all_goals (try simp only [place16]); blk_simp [block_index t]; try omega
/-- A point's block of dilated keys, by sixteen classes, by the rows of its product. -/
theorem point12_at (y : S1x16x32x512.Idx) (u : Fin 512) (hu : u.val = 16 * (y 2).val + (y 1).val) (n : Fin 2560) (hn : n.val = 1536 + (y 3).val) :
    (outsAt0 m c t).2.2.2.2.2.2.2.2.2.2.1 y = rowAt (iblk m c 0 t) (iblk m c 1 t) u n := by
  have h := out12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y u hu n hn
  unfold outsAt0
  dsimp only
  exact h

/-- The kernel's dilated keys, by sixteen classes. -/
theorem final12_at : (dats m 0 c).arrAt 12 cfg0.N = fun i : S24x16x128x512.Idx => dilatedK (m ((c : Thread nD τ).loc main_arg0)) (m ((c : Thread nD τ).loc main_arg1)) (i 0) (place16 (i 1) (i 2)) (i 3) := by
  refine (dats m 0 c).arrAt_eq_of_covers 12 _ (by decide +kernel) fun t hf y => ?_
  have hl : (y 3).val < 512 := (y 3).isLt
  have h1 : (y 1).val < 16 := (y 1).isLt
  have h2 : (y 2).val < 32 := (y 2).isLt
  blk_simp
  rw [after0_12]
  refine (point12_at m c t y ⟨16 * (y 2).val + (y 1).val, by omega⟩ rfl ⟨1536 + (y 3).val, by omega⟩ rfl).trans (row_dilatedK m c t _ _ _ _ _ ?_ ?_ ?_)
  all_goals (try simp only [place16]); blk_simp [block_index t]; try omega
/-- A point's block of dilated values, by sixteen classes, by the rows of its product. -/
theorem point13_at (y : S1x16x32x512.Idx) (u : Fin 512) (hu : u.val = 16 * (y 2).val + (y 1).val) (n : Fin 2560) (hn : n.val = 2048 + (y 3).val) :
    (outsAt0 m c t).2.2.2.2.2.2.2.2.2.2.2 y = rowAt (iblk m c 0 t) (iblk m c 1 t) u n := by
  have h := out13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) y u hu n hn
  unfold outsAt0
  dsimp only
  exact h

/-- The kernel's dilated values, by sixteen classes. -/
theorem final13_at : (dats m 0 c).arrAt 13 cfg0.N = fun i : S24x16x128x512.Idx => dilatedV (m ((c : Thread nD τ).loc main_arg0)) (m ((c : Thread nD τ).loc main_arg1)) (i 0) (place16 (i 1) (i 2)) (i 3) := by
  refine (dats m 0 c).arrAt_eq_of_covers 13 _ (by decide +kernel) fun t hf y => ?_
  have hl : (y 3).val < 512 := (y 3).isLt
  have h1 : (y 1).val < 16 := (y 1).isLt
  have h2 : (y 2).val < 32 := (y 2).isLt
  blk_simp
  rw [after0_13]
  refine (point13_at m c t y ⟨16 * (y 2).val + (y 1).val, by omega⟩ rfl ⟨2048 + (y 3).val, by omega⟩ rfl).trans (row_dilatedV m c t _ _ _ _ _ ?_ ?_ ?_)
  all_goals (try simp only [place16]); blk_simp [block_index t]; try omega
end Cert.Kernel4Ideal.Proj

namespace Cert.Reference4Ideal.Proj

open Cert.Reference4Ideal Cert.Reference4Ideal.Read Cert.Proj
open Idealize.ShloMosaic Idealize.ShloMosaic.TcCoe

variable (x : S24x2048x1024.Idx → EReal) (w : S1024x2304.Idx → EReal)

/-- The reference's window queries. -/
theorem array37 : val_main_v37 (F := Ideal) x w = fun i : S24x2048x512.Idx => windowQ x w (i 0) (i 1) (i 2) := by
  funext i
  exact (congrArg (val_main_v37 (F := Ideal) x w) (eq_ix3 i)).trans (v37_at x w (i 0) (i 1) (i 2))

/-- The reference's window keys. -/
theorem array38 : val_main_v38 (F := Ideal) x w = fun i : S24x2048x256.Idx => windowK x w (i 0) (i 1) (i 2) := by
  funext i
  exact (congrArg (val_main_v38 (F := Ideal) x w) (eq_ix3 i)).trans (v38_at x w (i 0) (i 1) (i 2))

/-- The reference's window values. -/
theorem array39 : val_main_v39 (F := Ideal) x w = fun i : S24x2048x256.Idx => windowV x w (i 0) (i 1) (i 2) := by
  funext i
  exact (congrArg (val_main_v39 (F := Ideal) x w) (eq_ix3 i)).trans (v39_at x w (i 0) (i 1) (i 2))

/-- The reference's dilated queries, whole. -/
theorem array40 : val_main_v40 (F := Ideal) x w = fun i : S24x1x2048x512.Idx => dilatedQ x w (i 0) (place1 (i 1) (i 2)) (i 3) := by
  funext i
  exact (congrArg (val_main_v40 (F := Ideal) x w) (eq_ix4 i)).trans (v40_at x w (i 0) (i 1) (i 2) (i 3))

/-- The reference's dilated keys, whole. -/
theorem array41 : val_main_v41 (F := Ideal) x w = fun i : S24x1x2048x512.Idx => dilatedK x w (i 0) (place1 (i 1) (i 2)) (i 3) := by
  funext i
  exact (congrArg (val_main_v41 (F := Ideal) x w) (eq_ix4 i)).trans (v41_at x w (i 0) (i 1) (i 2) (i 3))

/-- The reference's dilated values, whole. -/
theorem array42 : val_main_v42 (F := Ideal) x w = fun i : S24x1x2048x512.Idx => dilatedV x w (i 0) (place1 (i 1) (i 2)) (i 3) := by
  funext i
  exact (congrArg (val_main_v42 (F := Ideal) x w) (eq_ix4 i)).trans (v42_at x w (i 0) (i 1) (i 2) (i 3))

/-- The reference's dilated queries, by four classes of positions. -/
theorem array43 : val_main_v43 (F := Ideal) x w = fun i : S24x4x512x512.Idx => dilatedQ x w (i 0) (place4 (i 1) (i 2)) (i 3) := by
  funext i
  exact (congrArg (val_main_v43 (F := Ideal) x w) (eq_ix4 i)).trans (v43_at x w (i 0) (i 1) (i 2) (i 3))

/-- The reference's dilated keys, by four classes of positions. -/
theorem array44 : val_main_v44 (F := Ideal) x w = fun i : S24x4x512x512.Idx => dilatedK x w (i 0) (place4 (i 1) (i 2)) (i 3) := by
  funext i
  exact (congrArg (val_main_v44 (F := Ideal) x w) (eq_ix4 i)).trans (v44_at x w (i 0) (i 1) (i 2) (i 3))

/-- The reference's dilated values, by four classes of positions. -/
theorem array45 : val_main_v45 (F := Ideal) x w = fun i : S24x4x512x512.Idx => dilatedV x w (i 0) (place4 (i 1) (i 2)) (i 3) := by
  funext i
  exact (congrArg (val_main_v45 (F := Ideal) x w) (eq_ix4 i)).trans (v45_at x w (i 0) (i 1) (i 2) (i 3))

/-- The reference's dilated queries, by sixteen classes. -/
theorem array46 : val_main_v46 (F := Ideal) x w = fun i : S24x16x128x512.Idx => dilatedQ x w (i 0) (place16 (i 1) (i 2)) (i 3) := by
  funext i
  exact (congrArg (val_main_v46 (F := Ideal) x w) (eq_ix4 i)).trans (v46_at x w (i 0) (i 1) (i 2) (i 3))

/-- The reference's dilated keys, by sixteen classes. -/
theorem array47 : val_main_v47 (F := Ideal) x w = fun i : S24x16x128x512.Idx => dilatedK x w (i 0) (place16 (i 1) (i 2)) (i 3) := by
  funext i
  exact (congrArg (val_main_v47 (F := Ideal) x w) (eq_ix4 i)).trans (v47_at x w (i 0) (i 1) (i 2) (i 3))

/-- The reference's dilated values, by sixteen classes. -/
theorem array48 : val_main_v48 (F := Ideal) x w = fun i : S24x16x128x512.Idx => dilatedV x w (i 0) (place16 (i 1) (i 2)) (i 3) := by
  funext i
  exact (congrArg (val_main_v48 (F := Ideal) x w) (eq_ix4 i)).trans (v48_at x w (i 0) (i 1) (i 2) (i 3))

end Cert.Reference4Ideal.Proj

namespace Cert.Proj

open Idealize.ShloMosaic Idealize.ShloMosaic.TcCoe Idealize.SL.Sem

/-- The reference runs to its end and leaves its arguments as they were. -/
theorem reference_frame : Cert.quiescent_Reference4Ideal := fun m ρ _ =>
  (θ_run _ _ _).mono (fun r h => ⟨fun c => (h c).2.2.2.2.2.2.2.2.2.2.2.2, sem_eq_zero_of_no_sems (by decide) r.2⟩) (Cert.Reference4Ideal.Value.run m ρ)

set_option maxHeartbeats 4000000 in
/-- The kernel and the reference end with equal results and leave their arguments as they were. -/
theorem algebraic : Cert.algebraic_Kernel4Ideal_Reference4Ideal := fun m ρ m' ρ' _ hag =>
  ⟨fun c => (Cert.Kernel4Ideal.Gen.dats m 0 c).arrAt 2 Cert.Kernel4Ideal.cfg0.N, fun c => (Cert.Kernel4Ideal.Gen.dats m 0 c).arrAt 3 Cert.Kernel4Ideal.cfg0.N, fun c => (Cert.Kernel4Ideal.Gen.dats m 0 c).arrAt 4 Cert.Kernel4Ideal.cfg0.N, fun c => (Cert.Kernel4Ideal.Gen.dats m 0 c).arrAt 5 Cert.Kernel4Ideal.cfg0.N, fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N,
    (θ_run _ _ _).mono (fun _ h c => h c) (Cert.Kernel4Ideal.Value.run_blocks m ρ),
    (θ_run _ _ _).mono (fun _ h c => ⟨((h c).1).trans ((Cert.Reference4Ideal.Read.val_main_v37_eq _ _).trans ((congrArg₂ _ (hag c).1 (hag c).2).trans
        ((Cert.Reference4Ideal.Proj.array37 _ _).trans (Cert.Kernel4Ideal.Proj.final2_at m c).symm))),
      ((h c).2.1).trans ((Cert.Reference4Ideal.Read.val_main_v38_eq _ _).trans ((congrArg₂ _ (hag c).1 (hag c).2).trans
        ((Cert.Reference4Ideal.Proj.array38 _ _).trans (Cert.Kernel4Ideal.Proj.final3_at m c).symm))),
      ((h c).2.2.1).trans ((Cert.Reference4Ideal.Read.val_main_v39_eq _ _).trans ((congrArg₂ _ (hag c).1 (hag c).2).trans
        ((Cert.Reference4Ideal.Proj.array39 _ _).trans (Cert.Kernel4Ideal.Proj.final4_at m c).symm))),
      ((h c).2.2.2.1).trans ((Cert.Reference4Ideal.Read.val_main_v40_eq _ _).trans ((congrArg₂ _ (hag c).1 (hag c).2).trans
        ((Cert.Reference4Ideal.Proj.array40 _ _).trans (Cert.Kernel4Ideal.Proj.final5_at m c).symm))),
      ((h c).2.2.2.2.1).trans ((Cert.Reference4Ideal.Read.val_main_v41_eq _ _).trans ((congrArg₂ _ (hag c).1 (hag c).2).trans
        ((Cert.Reference4Ideal.Proj.array41 _ _).trans (Cert.Kernel4Ideal.Proj.final6_at m c).symm))),
      ((h c).2.2.2.2.2.1).trans ((Cert.Reference4Ideal.Read.val_main_v42_eq _ _).trans ((congrArg₂ _ (hag c).1 (hag c).2).trans
        ((Cert.Reference4Ideal.Proj.array42 _ _).trans (Cert.Kernel4Ideal.Proj.final7_at m c).symm))),
      ((h c).2.2.2.2.2.2.1).trans ((Cert.Reference4Ideal.Read.val_main_v43_eq _ _).trans ((congrArg₂ _ (hag c).1 (hag c).2).trans
        ((Cert.Reference4Ideal.Proj.array43 _ _).trans (Cert.Kernel4Ideal.Proj.final8_at m c).symm))),
      ((h c).2.2.2.2.2.2.2.1).trans ((Cert.Reference4Ideal.Read.val_main_v44_eq _ _).trans ((congrArg₂ _ (hag c).1 (hag c).2).trans
        ((Cert.Reference4Ideal.Proj.array44 _ _).trans (Cert.Kernel4Ideal.Proj.final9_at m c).symm))),
      ((h c).2.2.2.2.2.2.2.2.1).trans ((Cert.Reference4Ideal.Read.val_main_v45_eq _ _).trans ((congrArg₂ _ (hag c).1 (hag c).2).trans
        ((Cert.Reference4Ideal.Proj.array45 _ _).trans (Cert.Kernel4Ideal.Proj.final10_at m c).symm))),
      ((h c).2.2.2.2.2.2.2.2.2.1).trans ((Cert.Reference4Ideal.Read.val_main_v46_eq _ _).trans ((congrArg₂ _ (hag c).1 (hag c).2).trans
        ((Cert.Reference4Ideal.Proj.array46 _ _).trans (Cert.Kernel4Ideal.Proj.final11_at m c).symm))),
      ((h c).2.2.2.2.2.2.2.2.2.2.1).trans ((Cert.Reference4Ideal.Read.val_main_v47_eq _ _).trans ((congrArg₂ _ (hag c).1 (hag c).2).trans
        ((Cert.Reference4Ideal.Proj.array47 _ _).trans (Cert.Kernel4Ideal.Proj.final12_at m c).symm))),
      ((h c).2.2.2.2.2.2.2.2.2.2.2.1).trans ((Cert.Reference4Ideal.Read.val_main_v48_eq _ _).trans ((congrArg₂ _ (hag c).1 (hag c).2).trans
        ((Cert.Reference4Ideal.Proj.array48 _ _).trans (Cert.Kernel4Ideal.Proj.final13_at m c).symm))),
        (h c).2.2.2.2.2.2.2.2.2.2.2.2⟩)
      (Cert.Reference4Ideal.Value.run m' ρ')⟩

/-- The two printed programs have the same text. -/
theorem preserves : Cert.preserves_Kernel4_Kernel4Ideal := trivial

end Cert.Proj

end
-- ==== Proof.FfnBody.lean ====
/- The expert kernel's body, run once for each of its two paths: a used tile computes its expert's feed-forward, an unused
   one stores zeros. Over any values: all programs with this text take it from here. -/
module

public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of the tiles' experts, as the body is handed it. -/
abbrev tileM : Memref sig .tc .smem S416 .i32 := Memref.whole main_v11
/-- The number of used tiles, as the body is handed it. -/
abbrev usedM : Memref sig .tc .smem S1 .i32 := Memref.whole main_v14
/-- The rows' scratch. -/
abbrev rowsM : Memref sig .tc .vmem S256x1024 .f32 := Memref.whole cc0_scratch0
/-- A staging buffer of the output, through which a block's contents are named. -/
abbrev outV : View sig .tc .vmem S256x1x1024 .f32 := (Memref.whole cc0_stg4_0 : Memref sig .tc .vmem S256x1x1024 .f32).view

/-- The number of used tiles as the body loads it. -/
abbrev usedWord (T1 : S1.Idx → Elt F .i32) : BitVec 32 :=
  View.readAt (Elt F) (usedM).view (Rect.unit (s := S1) ![0] S1.size inb_S1_S1_0).toLoadRect T1 (Shape.Idx.first (numel1_S1.symm ▸ Nat.one_pos))

set_option backward.proofsInPublic true in
set_option maxHeartbeats 8000000 in
/-- A used tile: the pieces it stores into the output's block, with the proof that the body so runs, the tables and the inputs
    given back as they were and the scratch at some contents. -/
noncomputable def runUsed (c : Dev nD) (i : grid0.Coords) (arg3 : Memref sig .tc .vmem S256x1x1024 .f32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S256x1x1024 .f32) (harg7 : arg7.IsWhole)
    (T0 : S416.Idx → Elt F .i32) (T1 : S1.Idx → Elt F .i32)
    (x0 : S256x1x1024.Idx → Elt F .f32) (x1 x2 : S1x1x1024x512.Idx → Elt F .f32) (x3 : S1x1x512x1024.Idx → Elt F .f32)
    (h1 : k0_cond1 i (usedWord T1) = 1#1) (h2 : ¬k0_cond2 i (usedWord T1) = 1#1) :
    { out : List (View.Piece (Elt F) S256x1x1024 .f32) // ∀ K : PUnit → sProp 𝕄,
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tileM.view.loc (c : Thread nD τ) ↦{fullShare.right} T0)
          ∗ (usedM.view.loc (c : Thread nD τ) ↦{fullShare.right} T1)
          ∗ (∃ d, owns (c : Thread nD τ) arg7 fullShare d)
          ∗ (∃ f, rowsM.view.loc (c : Thread nD τ) ↦{fullShare} f)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tileM.view.loc (c : Thread nD τ) ↦{fullShare.right} T0)
          ∗ (usedM.view.loc (c : Thread nD τ) ↦{fullShare.right} T1)
              ∗ (∃ f, arg7.view.loc (c : Thread nD τ) ↦[arg7.view.set]{fullShare} arg7.view.writes (Elt F) f out)
              ∗ (∃ f, rowsM.view.loc (c : Thread nD τ) ↦{fullShare} f)) -∗ K ⟨⟩))
          ⊢ wp frame (wpE (defs₀ (F := F)) Variants.none c none) Set.univ
              (cc0_moe_ffn i tileM (Memref.isWhole_whole _) usedM (Memref.isWhole_whole _) arg3 harg3 arg4 harg4 arg5 harg5 arg6 harg6 arg7 harg7 rowsM (Memref.isWhole_whole _)) K } :=
  ⟨_, fun K => by
    unfold owns
    rw [cc0_moe_ffn_eq_skeleton]; unfold cc0_moe_ffn_skel
    iintro ⟨H0, H1, H2, H3, HT0, HT1, ⟨%d4, %f4, -, HO4⟩, ⟨%fs, HS0⟩, Hk⟩
    have hS0 : rowsM.IsWhole := Memref.isWhole_whole _
    have hT0 : tileM.IsWhole := Memref.isWhole_whole _
    have hT1 : usedM.IsWhole := Memref.isWhole_whole _
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    iexists _; iexact HS0⟩

/-- Its pieces cover the output's block. -/
theorem coverUsed (c : Dev nD) (i : grid0.Coords) (arg3 : Memref sig .tc .vmem S256x1x1024 .f32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S256x1x1024 .f32) (harg7 : arg7.IsWhole)
    (T0 : S416.Idx → Elt F .i32) (T1 : S1.Idx → Elt F .i32)
    (x0 : S256x1x1024.Idx → Elt F .f32) (x1 x2 : S1x1x1024x512.Idx → Elt F .f32) (x3 : S1x1x512x1024.Idx → Elt F .f32)
    (h1 : k0_cond1 i (usedWord T1) = 1#1) (h2 : ¬k0_cond2 i (usedWord T1) = 1#1) (y : S256x1x1024.Idx) :
    ∃ pc ∈ (runUsed c i arg3 harg3 arg4 harg4 arg5 harg5 arg6 harg6 arg7 harg7 T0 T1 x0 x1 x2 x3 h1 h2).1, y ∈ pc.1.set :=
  View.cover_of_tiledL (runUsed c i arg3 harg3 arg4 harg4 arg5 harg5 arg6 harg6 arg7 harg7 T0 T1 x0 x1 x2 x3 h1 h2).1 S256x1x1024.size (by sl_kernel_rfl) y

/-- What it leaves in the output's block. -/
def leftUsed (c : Dev nD) (i : grid0.Coords) (arg3 : Memref sig .tc .vmem S256x1x1024 .f32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S256x1x1024 .f32) (harg7 : arg7.IsWhole)
    (T0 : S416.Idx → Elt F .i32) (T1 : S1.Idx → Elt F .i32)
    (x0 : S256x1x1024.Idx → Elt F .f32) (x1 x2 : S1x1x1024x512.Idx → Elt F .f32) (x3 : S1x1x512x1024.Idx → Elt F .f32)
    (h1 : k0_cond1 i (usedWord T1) = 1#1) (h2 : ¬k0_cond2 i (usedWord T1) = 1#1) : S256x1x1024.Idx → Elt F .f32 :=
  outV.read (Elt F) (outV.writes (Elt F) outV.junk (runUsed c i arg3 harg3 arg4 harg4 arg5 harg5 arg6 harg6 arg7 harg7 T0 T1 x0 x1 x2 x3 h1 h2).1)

set_option backward.proofsInPublic true in
set_option maxHeartbeats 8000000 in
/-- An unused tile: the pieces it stores into the output's block, with the proof that the body so runs, the tables and the inputs
    given back as they were and the scratch at some contents. -/
noncomputable def runUnused (c : Dev nD) (i : grid0.Coords) (arg3 : Memref sig .tc .vmem S256x1x1024 .f32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S256x1x1024 .f32) (harg7 : arg7.IsWhole)
    (T0 : S416.Idx → Elt F .i32) (T1 : S1.Idx → Elt F .i32)
    (x0 : S256x1x1024.Idx → Elt F .f32) (x1 x2 : S1x1x1024x512.Idx → Elt F .f32) (x3 : S1x1x512x1024.Idx → Elt F .f32)
    (h1 : ¬k0_cond1 i (usedWord T1) = 1#1) (h2 : k0_cond2 i (usedWord T1) = 1#1) :
    { out : List (View.Piece (Elt F) S256x1x1024 .f32) // ∀ K : PUnit → sProp 𝕄,
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tileM.view.loc (c : Thread nD τ) ↦{fullShare.right} T0)
          ∗ (usedM.view.loc (c : Thread nD τ) ↦{fullShare.right} T1)
          ∗ (∃ d, owns (c : Thread nD τ) arg7 fullShare d)
          ∗ (∃ f, rowsM.view.loc (c : Thread nD τ) ↦{fullShare} f)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tileM.view.loc (c : Thread nD τ) ↦{fullShare.right} T0)
          ∗ (usedM.view.loc (c : Thread nD τ) ↦{fullShare.right} T1)
              ∗ (∃ f, arg7.view.loc (c : Thread nD τ) ↦[arg7.view.set]{fullShare} arg7.view.writes (Elt F) f out)
              ∗ (∃ f, rowsM.view.loc (c : Thread nD τ) ↦{fullShare} f)) -∗ K ⟨⟩))
          ⊢ wp frame (wpE (defs₀ (F := F)) Variants.none c none) Set.univ
              (cc0_moe_ffn i tileM (Memref.isWhole_whole _) usedM (Memref.isWhole_whole _) arg3 harg3 arg4 harg4 arg5 harg5 arg6 harg6 arg7 harg7 rowsM (Memref.isWhole_whole _)) K } :=
  ⟨_, fun K => by
    unfold owns
    rw [cc0_moe_ffn_eq_skeleton]; unfold cc0_moe_ffn_skel
    iintro ⟨H0, H1, H2, H3, HT0, HT1, ⟨%d4, %f4, -, HO4⟩, ⟨%fs, HS0⟩, Hk⟩
    have hS0 : rowsM.IsWhole := Memref.isWhole_whole _
    have hT0 : tileM.IsWhole := Memref.isWhole_whole _
    have hT1 : usedM.IsWhole := Memref.isWhole_whole _
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    iexists _; iexact HS0⟩

/-- Its pieces cover the output's block. -/
theorem coverUnused (c : Dev nD) (i : grid0.Coords) (arg3 : Memref sig .tc .vmem S256x1x1024 .f32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S256x1x1024 .f32) (harg7 : arg7.IsWhole)
    (T0 : S416.Idx → Elt F .i32) (T1 : S1.Idx → Elt F .i32)
    (x0 : S256x1x1024.Idx → Elt F .f32) (x1 x2 : S1x1x1024x512.Idx → Elt F .f32) (x3 : S1x1x512x1024.Idx → Elt F .f32)
    (h1 : ¬k0_cond1 i (usedWord T1) = 1#1) (h2 : k0_cond2 i (usedWord T1) = 1#1) (y : S256x1x1024.Idx) :
    ∃ pc ∈ (runUnused c i arg3 harg3 arg4 harg4 arg5 harg5 arg6 harg6 arg7 harg7 T0 T1 x0 x1 x2 x3 h1 h2).1, y ∈ pc.1.set :=
  View.cover_of_tiledL (runUnused c i arg3 harg3 arg4 harg4 arg5 harg5 arg6 harg6 arg7 harg7 T0 T1 x0 x1 x2 x3 h1 h2).1 S256x1x1024.size (by sl_kernel_rfl) y

/-- What it leaves in the output's block. -/
def leftUnused (c : Dev nD) (i : grid0.Coords) (arg3 : Memref sig .tc .vmem S256x1x1024 .f32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S256x1x1024 .f32) (harg7 : arg7.IsWhole)
    (T0 : S416.Idx → Elt F .i32) (T1 : S1.Idx → Elt F .i32)
    (x0 : S256x1x1024.Idx → Elt F .f32) (x1 x2 : S1x1x1024x512.Idx → Elt F .f32) (x3 : S1x1x512x1024.Idx → Elt F .f32)
    (h1 : ¬k0_cond1 i (usedWord T1) = 1#1) (h2 : k0_cond2 i (usedWord T1) = 1#1) : S256x1x1024.Idx → Elt F .f32 :=
  outV.read (Elt F) (outV.writes (Elt F) outV.junk (runUnused c i arg3 harg3 arg4 harg4 arg5 harg5 arg6 harg6 arg7 harg7 T0 T1 x0 x1 x2 x3 h1 h2).1)

end Cert.Kernel2Ideal.Ffn

end
-- ==== Proof.FfnRun.lean ====
/- The expert call's run at any admissible contents of its two tables: the proof data, the body's obligation from the two
   paths' runs, and the launch after the host operations. -/
module

public import proofs.«01_k».proof.Proof.FfnBody

@[expose] public section

set_option maxRecDepth 16384
set_option Elab.async false

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A tile's block of a weights' array: in layer `l`, of the expert the first table names. -/
def weightIx (l : Fin 2) (pf : pre0.Contents (Elt F)) (i : grid0.Coords) : Fin 4 → ℕ :=
  ![l.val, (pf.at 0 (Rect.unit (s := S416) ![(Scalar.indexCast (BitVec.ofNat 32 (i 0).val)).toNat] S1.size (k0_off1_inb i)) numel1_S1).toNat, 0, 0]

/-- What the two layers' calls differ in: which block of its array a window sees at a tile, with the condition that these
    lie in their arrays, as a program states them. -/
structure Maps (F : FTy → Type) [FloatOps F] (l : Fin 2) where
  ix : (pf : pre0.Contents (Elt F)) → (w : Fin 5) → grid0.Coords → Fin (spec0 w).shape.rank → ℕ
  reads : ∀ (pf : pre0.Contents (Elt F)) w (i i' : grid0.Coords), (∀ a, (spec0 w).reads a = true → i a = i' a) → ix pf w i = ix pf w i'
  ok : pre0.Contents (Elt F) → Prop
  dec : DecidablePred ok
  inb : ∀ (pf : pre0.Contents (Elt F)), ok pf → ∀ w (i : grid0.Coords) a, (ix pf w i a + 1) * (spec0 w).size a ≤ (spec0 w).shape.size a
  wx : ∀ (pf : pre0.Contents (Elt F)) (hok : ok pf) w (i : grid0.Coords),
    (spec0 w).elt.bits = 32 ∨ (Rect.block (spec0 w).size (ix pf w i) (inb pf hok w i)).WholeWords (spec0 w).elt.packing
  ok_of : ∀ pf, (∀ w (i : grid0.Coords) a, (ix pf w i a + 1) * (spec0 w).size a ≤ (spec0 w).shape.size a) → ok pf
  rows : ∀ pf i, ix pf 0 i = cc0_transform_0 inb_S1_S1_0 numel1_S1 pf i
  gate : ∀ pf i, ix pf 1 i = weightIx l pf i
  up : ∀ pf i, ix pf 2 i = weightIx l pf i
  down : ∀ pf i, ix pf 3 i = weightIx l pf i
  out : ∀ pf i, ix pf 4 i = cc0_transform_4 i

attribute [instance] Maps.dec

variable {l : Fin 2} (G : Maps F l)

/-- The call of a layer as a pipeline. -/
abbrev pcfgG : Pipeline.PCfg sig Λ₀ (Elt F) :=
  Pipeline.PCfg.ofSpecs pre0 grid0 hrank0 (fun _ => grid0.bound) (fun _ _ _ => rfl)
    5 spec0 hcount0 harr0 G.ix G.reads G.ok G.inb G.wx 0 (fun _ _ t s => (t, s)) (fun pf => idle0 pf)

/-- The only call of its program. -/
abbrev pcfgsG : Fin 1 → Pipeline.PCfg sig Λ₀ (Elt F) := fun _ => pcfgG G

/-- The program's body table. -/
def defsG : Defs nD τ sig (Elt F) (Pipeline.Sig Λ₀ (Fin 1) fun p => (pcfgsG G p).Adm) := Pipeline.defs (pcfgsG G) defs₀

/-- The program: the host operations, then the call. -/
def mainG : Dev nD → Prog (TpuEff nD τ sig (Elt F) (Pipeline.Sig Λ₀ (Fin 1) fun p => (pcfgsG G p).Adm) .tc) PUnit := fun _ =>
  Pipeline.chain [StableHlo.seq hostOps0, Prog.lift (.customCall (Pipeline.entry 0) ())]

/-- The layout the launch needs. -/
theorem launchG : Pipeline.PLaunchFacts (nD := nD) (τ := τ) (pcfgsG G) 0 :=
  ⟨fun a => Pipeline.cellOf_injective_of_table (Pipeline.pin (pcfgsG G) a) semTab
      (fun | 0 => rfl | ⟨_ + 1, h⟩ => absurd h (Nat.not_lt.2 (Nat.le_add_left _ _))) semsDistinct semsDisjoint,
    winFacts0, preFacts0, block_pos0, arr_whole0, stage_whole0⟩

variable (m : (ℓ : Loc nD τ sig) → Buf (Elt F) ℓ) (ρ : Dev nD → PrngReg) (a : (pcfgG G).Adm)

/-- What a buffer holds when the call begins: the host operations done. -/
def V (c : Dev nD) (b : Ref sig .tc) : Buf (Elt F) ((c : Thread nD τ).loc b) :=
  StableHlo.after hostOps0 (fun b => m (c, b)) b

/-- The call at the tables' contents. -/
abbrev cfgA : Pipeline.Cfg sig Λ₀ := (pcfgG G).at a

/-- A point's coordinates. -/
abbrev crd (t : Fin (cfgA G a).N) : grid0.Coords := (cfgA G a).grid.coords t

/-- The staging buffers a point is handed. -/
abbrev ms_0 (t : Fin (cfgA G a).N) : Memref sig .tc .vmem S256x1x1024 .f32 := spec0_0.stage ((cfgA G a).slots t (0 : Fin 5))
abbrev hs_0 (t : Fin (cfgA G a).N) : (ms_0 G a t).IsWhole := hstage0_0 (((cfgA G a).slots t (0 : Fin 5)).cast nbuf0_0)
abbrev ms_1 (t : Fin (cfgA G a).N) : Memref sig .tc .vmem S1x1x1024x512 .f32 := spec0_1.stage ((cfgA G a).slots t (1 : Fin 5))
abbrev hs_1 (t : Fin (cfgA G a).N) : (ms_1 G a t).IsWhole := hstage0_1 (((cfgA G a).slots t (1 : Fin 5)).cast nbuf0_1)
abbrev ms_2 (t : Fin (cfgA G a).N) : Memref sig .tc .vmem S1x1x1024x512 .f32 := spec0_2.stage ((cfgA G a).slots t (2 : Fin 5))
abbrev hs_2 (t : Fin (cfgA G a).N) : (ms_2 G a t).IsWhole := hstage0_2 (((cfgA G a).slots t (2 : Fin 5)).cast nbuf0_2)
abbrev ms_3 (t : Fin (cfgA G a).N) : Memref sig .tc .vmem S1x1x512x1024 .f32 := spec0_3.stage ((cfgA G a).slots t (3 : Fin 5))
abbrev hs_3 (t : Fin (cfgA G a).N) : (ms_3 G a t).IsWhole := hstage0_3 (((cfgA G a).slots t (3 : Fin 5)).cast nbuf0_3)
abbrev ms_4 (t : Fin (cfgA G a).N) : Memref sig .tc .vmem S256x1x1024 .f32 := spec0_4.stage ((cfgA G a).slots t (4 : Fin 5))
abbrev hs_4 (t : Fin (cfgA G a).N) : (ms_4 G a t).IsWhole := hstage0_4 (((cfgA G a).slots t (4 : Fin 5)).cast nbuf0_4)

/-- The block of a window's array that a point sees. -/
def iblk (c : Dev nD) (w : Fin (cfgA G a).W) (t : Fin (cfgA G a).N) : (((cfgA G a).win w).xblock (crd G a t)).Idx → Elt F ((cfgA G a).win w).elt :=
  (((cfgA G a).win w).blk t).view.read (Elt F) (V m c (Pipeline.arrRef spec0 w))

/-- Whether a point's tile is used. -/
abbrev Used (t : Fin (cfgA G a).N) : Prop := k0_cond1 (crd G a t) (usedWord (a.1 1)) = 1#1

/-- The two conditions exclude each other. -/
theorem cond2_iff (i : grid0.Coords) (v : BitVec 32) : k0_cond2 i v = 1#1 ↔ ¬k0_cond1 i v = 1#1 := by
  unfold k0_cond2 k0_cond1
  simp only [Scalar.cmpi, Scalar.extui, Scalar.xori]
  generalize IntOp.cmpi .slt _ v = b
  revert b
  decide

/-- So where the tile is not used the second holds … -/
theorem cond2_of_not {i : grid0.Coords} {v : BitVec 32} (h : ¬k0_cond1 i v = 1#1) : k0_cond2 i v = 1#1 := (cond2_iff i v).2 h
/-- … and where it is used the second does not. -/
theorem not_cond2_of {i : grid0.Coords} {v : BitVec 32} (h : k0_cond1 i v = 1#1) : ¬k0_cond2 i v = 1#1 := fun h2 => (cond2_iff i v).1 h2 h

/-- What a point leaves in the output's staging buffer. -/
def left (c : Dev nD) (t : Fin (cfgA G a).N) : S256x1x1024.Idx → Elt F .f32 :=
  if h : Used G a t then
    leftUsed c (crd G a t) (ms_0 G a t) (hs_0 G a t) (ms_1 G a t) (hs_1 G a t) (ms_2 G a t) (hs_2 G a t) (ms_3 G a t) (hs_3 G a t) (ms_4 G a t) (hs_4 G a t)
      (a.1 0) (a.1 1) (iblk G m a c (0 : Fin 5) t) (iblk G m a c (1 : Fin 5) t) (iblk G m a c (2 : Fin 5) t) (iblk G m a c (3 : Fin 5) t) h (not_cond2_of h)
  else
    leftUnused c (crd G a t) (ms_0 G a t) (hs_0 G a t) (ms_1 G a t) (hs_1 G a t) (ms_2 G a t) (hs_2 G a t) (ms_3 G a t) (hs_3 G a t) (ms_4 G a t) (hs_4 G a t)
      (a.1 0) (a.1 1) (iblk G m a c (0 : Fin 5) t) (iblk G m a c (1 : Fin 5) t) (iblk G m a c (2 : Fin 5) t) (iblk G m a c (3 : Fin 5) t) h (cond2_of_not h)

/-- The proof data: an input's buffer at its block, the output's at what the point leaves; between points the scratch at
    any contents and the tables' halves the body reads through. -/
def dats (_ : Fin 1) (c : Dev nD) : Dat τ (Elt F) Unit ℕ (UR sig nD τ) ℕ (cfgA G a) c where
  A w := V m c (Pipeline.arrRef spec0 w)
  after w t := match w with
    | ⟨0, _⟩ => iblk G m a c (0 : Fin 5) t
    | ⟨1, _⟩ => iblk G m a c (1 : Fin 5) t
    | ⟨2, _⟩ => iblk G m a c (2 : Fin 5) t
    | ⟨3, _⟩ => iblk G m a c (3 : Fin 5) t
    | ⟨4, _⟩ => left G m a c t
  Φ _ := iprop(Pipeline.ΦA spec0 c ∗ Pipeline.ΦT pre0 a.1 c)
  q _ := fullShare
  owed _ := 0

/-- The arrays as the call finds them. -/
theorem A_eq (c : Dev nD) (w : Fin (cfgA G a).W) : (dats G m a 0 c).A w = V m c (Pipeline.arrRef spec0 w) := by
  dsimp only [dats]

/-- What each staging buffer holds after a point: the inputs' their blocks … -/
theorem after_0 (c : Dev nD) (t : Fin (cfgA G a).N) : (dats G m a 0 c).after (0 : Fin 5) t = iblk G m a c (0 : Fin 5) t := by dsimp only [dats]
theorem after_1 (c : Dev nD) (t : Fin (cfgA G a).N) : (dats G m a 0 c).after (1 : Fin 5) t = iblk G m a c (1 : Fin 5) t := by dsimp only [dats]
theorem after_2 (c : Dev nD) (t : Fin (cfgA G a).N) : (dats G m a 0 c).after (2 : Fin 5) t = iblk G m a c (2 : Fin 5) t := by dsimp only [dats]
theorem after_3 (c : Dev nD) (t : Fin (cfgA G a).N) : (dats G m a 0 c).after (3 : Fin 5) t = iblk G m a c (3 : Fin 5) t := by dsimp only [dats]
/-- … and the output's what the point leaves. -/
theorem after_4 (c : Dev nD) (t : Fin (cfgA G a).N) : (dats G m a 0 c).after (4 : Fin 5) t = left G m a c t := by dsimp only [dats]

/-- Each input's staging buffer holds its block at every point. -/
theorem before_0 (c : Dev nD) (t : Fin (cfgA G a).N) (d) : (dats G m a 0 c).before (0 : Fin 5) t d = iblk G m a c (0 : Fin 5) t :=
  ((dats G m a 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA G a).N) (d) : (dats G m a 0 c).before (1 : Fin 5) t d = iblk G m a c (1 : Fin 5) t :=
  ((dats G m a 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA G a).N) (d) : (dats G m a 0 c).before (2 : Fin 5) t d = iblk G m a c (2 : Fin 5) t :=
  ((dats G m a 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA G a).N) (d) : (dats G m a 0 c).before (3 : Fin 5) t d = iblk G m a c (3 : Fin 5) t :=
  ((dats G m a 0 c).before_in_eq_fetched (3 : Fin 5) rfl (fun _ => rfl) (fun _ _ _ => rfl) (fun t => by rw [after_3]; unfold Dat.blockOf iblk; rfl) t d).trans
    (by unfold Dat.fetched Dat.blockOf iblk; rfl)

/-- Every point stores the output's block: on one path or the other. -/
theorem idle_4 (t : Fin (cfgA G a).N) : (cfgA G a).idle (4 : Fin 5) ((cfgA G a).grid.coords t) = false := by
  show (!(k0_cond1 (crd G a t) (a.1.atD 1 ![0]) == 1#1) && !(k0_cond2 (crd G a t) (a.1.atD 1 ![0]) == 1#1)) = false
  by_cases h : k0_cond1 (crd G a t) (a.1.atD 1 ![0]) = 1#1
  · rw [h]; rfl
  · rw [cond2_of_not h]; simp

/-- The tables the region hands the body, one by one. -/
theorem tables_eq (c : Dev nD) (v : pre0.Contents (Elt F)) :
    (Pipeline.ΦT pre0 v c : sProp 𝕄)
      = iprop((((c : Thread nD τ).loc main_v11) ↦{fullShare.right} v 0) ∗ (((c : Thread nD τ).loc main_v14) ↦{fullShare.right} v 1)) := by
  unfold Pipeline.ΦT Pipeline.prefHeld
  rw [show (Finset.univ : Finset (Fin 2)) = insert (0 : Fin 2) {(1 : Fin 2)} from by decide,
    bigSep_insert (by decide), bigSep_singleton]
  rfl

/-- The body at a point, as the pipeline calls it. -/
abbrev bodyAt (t : Fin (cfgA G a).N) : Prog (TpuEff nD τ sig (Elt F) Λ₀ .tc) PUnit :=
  cc0_moe_ffn (crd G a t) tileM (Memref.isWhole_whole _) usedM (Memref.isWhole_whole _) (ms_0 G a t) (hs_0 G a t) (ms_1 G a t) (hs_1 G a t)
    (ms_2 G a t) (hs_2 G a t) (ms_3 G a t) (hs_3 G a t) (ms_4 G a t) (hs_4 G a t) rowsM (Memref.isWhole_whole _)

set_option maxHeartbeats 4000000 in
/-- The body at any point, from its buffers as the pipeline hands them to it, leaves them as the proof data say. -/
theorem sound_body (c : Dev nD) (t : Fin (cfgA G a).N) :
    iprop((dats G m a 0 c).Φ t.castSucc ∗ (dats G m a 0 c).owesAt () t.castSucc
        ∗ (∃ d, owns (c : Thread nD τ) (ms_0 G a t) fullShare ((dats G m a 0 c).before (0 : Fin 5) t d))
        ∗ (∃ d, owns (c : Thread nD τ) (ms_1 G a t) fullShare ((dats G m a 0 c).before (1 : Fin 5) t d))
        ∗ (∃ d, owns (c : Thread nD τ) (ms_2 G a t) fullShare ((dats G m a 0 c).before (2 : Fin 5) t d))
        ∗ (∃ d, owns (c : Thread nD τ) (ms_3 G a t) fullShare ((dats G m a 0 c).before (3 : Fin 5) t d))
        ∗ (∃ d, owns (c : Thread nD τ) (ms_4 G a t) fullShare ((dats G m a 0 c).before (4 : Fin 5) t d)))
      ⊢ wp frame (wpE (defs₀ (F := F)) Variants.none c none) Set.univ (bodyAt G a t) fun _ =>
          iprop((dats G m a 0 c).Φ t.succ ∗ (dats G m a 0 c).owesAt () t.succ
            ∗ bigSep Finset.univ fun w : Fin (cfgA G a).W =>
                match (cfgA G a).idle w ((cfgA G a).grid.coords t) with
                | true =>
                  match ((cfgA G a).win w).flush t with
                  | false => iprop(∃ d, owns (c : Thread nD τ) (((cfgA G a).win w).stage ((cfgA G a).slots t w)) fullShare ((dats G m a 0 c).before w t d))
                  | true => owns (c : Thread nD τ) (((cfgA G a).win w).stage ((cfgA G a).slots t w)) fullShare ((dats G m a 0 c).after w t)
                | false => owns (c : Thread nD τ) (((cfgA G a).win w).stage ((cfgA G a).slots t w)) fullShare ((dats G m a 0 c).after w t)) := by
  rw [bigSep_W0]
  have i4 := idle_4 G a t
  rewrite [i4]
  simp only [before_0, before_1, before_2, before_3, after_0, after_1, after_2, after_3, after_4]
  rewrite [show (dats G m a 0 c).Φ t.succ = iprop(Pipeline.ΦA spec0 c ∗ Pipeline.ΦT pre0 a.1 c) from rfl,
    show (dats G m a 0 c).Φ t.castSucc = iprop(Pipeline.ΦA spec0 c ∗ Pipeline.ΦT pre0 a.1 c) from rfl,
    show (dats G m a 0 c).owesAt () t.succ = (dats G m a 0 c).owesAt () t.castSucc from rfl, tables_eq]
  unfold Pipeline.ΦA
  rw [scopedRest0_eq]
  by_cases h : Used G a t
  · rw [show left G m a c t = _ from dif_pos h]
    iintro ⟨⟨⟨HS0, Hg⟩, HT0, HT1⟩, Ho, ⟨%d0, H0⟩, ⟨%d1, H1⟩, ⟨%d2, H2⟩, ⟨%d3, H3⟩, ⟨%d4, H4⟩⟩
    iapply ((runUsed c (crd G a t) (ms_0 G a t) (hs_0 G a t) (ms_1 G a t) (hs_1 G a t) (ms_2 G a t) (hs_2 G a t) (ms_3 G a t) (hs_3 G a t) (ms_4 G a t) (hs_4 G a t)
      (a.1 0) (a.1 1) (iblk G m a c (0 : Fin 5) t) (iblk G m a c (1 : Fin 5) t) (iblk G m a c (2 : Fin 5) t) (iblk G m a c (3 : Fin 5) t) h (not_cond2_of h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    iintro ⟨H0, H1, H2, H3, HT0, HT1, ⟨%e4, H4⟩, HS0⟩
    isplitl [HS0 Hg HT0 HT1]
    · isplitl [HS0 Hg]
      · isplitl [HS0]
        · iexact HS0
        iexact Hg
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (coverUsed c _ _ _ _ _ _ _ _ _ _ _ _ _ _ _ _ _ _ _)
  · rw [show left G m a c t = _ from dif_neg h]
    iintro ⟨⟨⟨HS0, Hg⟩, HT0, HT1⟩, Ho, ⟨%d0, H0⟩, ⟨%d1, H1⟩, ⟨%d2, H2⟩, ⟨%d3, H3⟩, ⟨%d4, H4⟩⟩
    iapply ((runUnused c (crd G a t) (ms_0 G a t) (hs_0 G a t) (ms_1 G a t) (hs_1 G a t) (ms_2 G a t) (hs_2 G a t) (ms_3 G a t) (hs_3 G a t) (ms_4 G a t) (hs_4 G a t)
      (a.1 0) (a.1 1) (iblk G m a c (0 : Fin 5) t) (iblk G m a c (1 : Fin 5) t) (iblk G m a c (2 : Fin 5) t) (iblk G m a c (3 : Fin 5) t) h (cond2_of_not h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    iintro ⟨H0, H1, H2, H3, HT0, HT1, ⟨%e4, H4⟩, HS0⟩
    isplitl [HS0 Hg HT0 HT1]
    · isplitl [HS0 Hg]
      · isplitl [HS0]
        · iexact HS0
        iexact Hg
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (coverUnused c _ _ _ _ _ _ _ _ _ _ _ _ _ _ _ _ _ _ _)

/-- The obligation, at every point. -/
theorem body_obligation (c : Dev nD) : BodyObligation (dats (F := F) G m a 0 c) (defs₀ (F := F)) Variants.none () Set.univ := fun t => by
  rw [bigSep_W0]
  exact sound_body G m a c t

/-- Every window holds its array whole. -/
theorem share_eq (c : Dev nD) (w : Fin (cfgA G a).W) : (dats G m a 0 c).share w = fullShare := by unfold Dat.share; split <;> rfl

/-- No host operation of the prefix is bound to anything but its own operands. -/
theorem hostOps0_fresh : (hostOps0 : List (HloOp τ sig (Elt F))).Forall fun op => op.fresh = ∅ := by
  refine ⟨?_, ?_, ?_, ?_, ?_, ?_, ?_, ?_, ?_, ?_, ?_, ?_, ?_, ?_, ?_, ?_, ?_, ?_, ?_⟩ <;> rfl

set_option backward.isDefEq.respectTransparency.types false in
/-- From any memory whose tables, after the host operations, are the admissible contents: every execution terminates, every
    final state has the arrays the proof data compute, every other buffer as the call found it and every counter at zero. -/
theorem run_main (ha : ∀ c k, V m c (pre0.ref k) = a.1 k) :
    θ_run (defsG G) (onTc (τ := τ) (mainG G)) ⟨m, fun _ => 0, ρ⟩
      (fun r => Pipeline.FramePost (Pipeline.pin (pcfgsG G) fun _ => a) (dats G m a) 0 (V m) r ∧ r.2.sem = fun _ => 0) :=
  Pipeline.θ_run_frameP (Q' := _) (pcfgsG G) (fun _ => a) (dats G m a) (0 : Fin 1) (launchG G) defs₀ Variants.none m ρ (mainG G)
    (hbody := fun c => (body_obligation G m a c).loose) (hshare := share_eq G m a) (howed := fun _ _ => rfl)
    (V := V m) (hmain := Pipeline.hmainP_prefix (pcfgsG G) 0 defs₀ Variants.none m (mainG G) hostOps0 hostOps0_sub hostOps0_fresh fun _ => rfl)
    (hA := A_eq G m a) (hpf := ha) (hΦ := fun _ _ => rfl)

end Cert.Kernel2Ideal.Ffn

end
-- ==== Proof.FfnTables.lean ====
/- The expert call's two tables after the host operations: each tile's expert, the number of its first row's ends at or
   below it, and the number of used tiles; and that with padded ends every block they name lies in its array. -/
module

public import proofs.«01_k».proof.Proof.FfnRun
public import Idealize.ShloMosaic.Lib.StableHlo.ReadAt
public import Idealize.ShloMosaic.Lib.Routing.Ops
public import Idealize.ShloMosaic.Lib.WordCmp
public import Idealize.ShloMosaic.Lib.StableHlo.Predicate
public import proofs.«01_k».proof.Proof.Gen.Pre_ends_padded
public import proofs.«01_k».proof.Defs

@[expose] public section

set_option maxRecDepth 16384

noncomputable section

namespace Cert.Ffn

open Idealize.ShloMosaic

/-- The ends are multiples of 256, none above the last, and the last is positive. -/
structure Padded (e : Fin 32 → BitVec 32) : Prop where
  whole : ∀ x, e x &&& 255#32 = 0#32
  le_last : ∀ x, (e x).toInt ≤ (e 31).toInt
  pos : 0 < (e 31).toInt

/-- Expert `q` ends at or before row `s`. -/
abbrev Ended (e : Fin 32 → BitVec 32) (s q : ℕ) : Prop := ∃ h : q < 32, (e ⟨q, h⟩).toInt ≤ (s : ℤ)

/-- The expert of row `s`: how many experts end at or before it. -/
def expertOf (e : Fin 32 → BitVec 32) (s : ℕ) : ℕ := Nat.count (Ended e s) 32

/-- There are 32 experts. -/
theorem expertOf_le (e : Fin 32 → BitVec 32) (s : ℕ) : expertOf e s ≤ 32 := Nat.count_le _

/-- The number of used tiles. -/
def usedTiles (e : Fin 32 → BitVec 32) : ℕ := (e 31).toNat / 256

/-- A positive word read signed is itself read unsigned. -/
theorem Padded.last_toInt {e : Fin 32 → BitVec 32} (h : Padded e) : (e 31).toInt = ((e 31).toNat : ℤ) := by
  have hp := h.pos
  rw [BitVec.toInt_eq_toNat_cond] at hp ⊢
  have := (e 31).isLt
  split_ifs at hp ⊢ <;> omega

/-- A multiple of 256, as a word, is one as a number. -/
theorem dvd_of_whole {v : BitVec 32} (h : v &&& 255#32 = 0#32) : v.toNat % 256 = 0 := by
  have h1 : (v &&& 255#32).toNat = 0 := by rw [h]; rfl
  rw [BitVec.toNat_and] at h1
  have : (255#32 : BitVec 32).toNat = 2 ^ 8 - 1 := rfl
  rw [this, Nat.and_two_pow_sub_one_eq_mod] at h1
  exact h1

/-- Read signed too. -/
theorem toInt_dvd_of_whole {v : BitVec 32} (h : v &&& 255#32 = 0#32) : v.toInt % 256 = 0 := by
  have h1 := dvd_of_whole h
  rw [BitVec.toInt_eq_toNat_cond]
  split_ifs <;> omega

/-- There is a used tile. -/
theorem Padded.used_pos {e : Fin 32 → BitVec 32} (h : Padded e) : 1 ≤ usedTiles e := by
  have h1 := dvd_of_whole (h.whole 31)
  have h2 := h.pos
  rw [h.last_toInt] at h2
  unfold usedTiles
  omega

/-- The number of used tiles is far below a word's range. -/
theorem Padded.used_lt {e : Fin 32 → BitVec 32} (h : Padded e) : usedTiles e < 2 ^ 23 := by
  have h1 := h.last_toInt
  rw [BitVec.toInt_eq_toNat_cond] at h1
  have := (e 31).isLt
  unfold usedTiles
  split_ifs at h1 <;> omega

/-- Rows of one tile have one expert. -/
theorem Padded.expert_tile {e : Fin 32 → BitVec 32} (h : Padded e) (s : ℕ) : expertOf e s = expertOf e (256 * (s / 256)) := by
  unfold expertOf
  congr 1
  funext q
  refine propext ⟨fun ⟨hq, hs⟩ => ⟨hq, ?_⟩, fun ⟨hq, hs⟩ => ⟨hq, ?_⟩⟩
  · have := toInt_dvd_of_whole (h.whole ⟨q, hq⟩)
    push_cast
    omega
  · push_cast at hs
    omega

/-- A row of a used tile has an expert. -/
theorem Padded.expert_lt {e : Fin 32 → BitVec 32} (h : Padded e) {s : ℕ} (hs : s / 256 < usedTiles e) : expertOf e s < 32 := by
  refine lt_of_le_of_ne (expertOf_le e s) fun he => ?_
  have h31 : Ended e s 31 := by
    by_contra hn
    unfold expertOf at he
    rw [Nat.count_succ, if_neg hn, Nat.add_zero] at he
    have := Nat.count_le (p := Ended e s) (n := 31)
    omega
  obtain ⟨_, h2⟩ := h31
  rw [show (⟨31, _⟩ : Fin 32) = 31 from rfl, h.last_toInt] at h2
  have h3 := dvd_of_whole (h.whole 31)
  unfold usedTiles at hs
  omega

/-- A row of an unused tile has none. -/
theorem Padded.expert_none {e : Fin 32 → BitVec 32} (h : Padded e) {s : ℕ} (hs : ¬s / 256 < usedTiles e) : expertOf e s = 32 := by
  unfold expertOf
  rw [Nat.count_iff_forall.2]
  intro q hq
  refine ⟨hq, (h.le_last _).trans ?_⟩
  rw [h.last_toInt]
  have h3 := dvd_of_whole (h.whole 31)
  unfold usedTiles at hs
  omega

end Cert.Ffn

namespace Cert.Kernel2Ideal.Ffn

open Cert.Kernel2Ideal Cert.Kernel2Ideal.Gen Cert.Ffn
open Idealize.ShloMosaic Idealize.ShloMosaic.TcCoe Idealize.SL.Sem

variable {F : FTy → Type} [FloatOps F]
variable (m : (ℓ : Loc nD τ sig) → Buf (Elt F) ℓ) (c : Dev nD)

/-- The experts' ends. -/
def ends (q : Fin 32) : BitVec 32 := m ((c : Thread nD τ).loc main_arg0) (ix1 q)

/-- The number of used tiles, as the host leaves it. -/
theorem used_at : V m c main_v14 (ix1 0) = IntOp.shrui ArithUnit.host (ends m c 31) 8#32 := by
  unfold V
  after_reads_at
  rfl

/-- A tile's expert, as the host leaves it. -/
theorem tile_at (j : Fin 416) : V m c main_v11 (ix1 j) = IntOp.minsi (BitVec.ofNat 32 (expertOf (ends m c) (256 * j.val))) 31#32 := by
  unfold V
  after_reads_at
  refine congrArg (fun x => IntOp.minsi x 31#32) ?_
  refine Routing.reduce_count (n := 416) (m := 32) (by norm_num) _ _ _ _ j _ fun q => ?_
  have hj := j.isLt
  have hr : (BitVec.ofNat 32 j.val * 256#32).toInt = ((256 * j.val : ℕ) : ℤ) := by
    rw [← BitVec.ofNat_mul, BitVec.toInt_eq_toNat_cond, BitVec.toNat_ofNat]
    split_ifs <;> omega
  have hc : ∀ x y : BitVec 32, IntOp.cmpi .sle x y = 1#1 ↔ x.toInt ≤ y.toInt := fun x y => by
    rw [WordCmp.cmpi_sle_eq]
    by_cases h : x.toInt ≤ y.toInt <;> simp [h]
  refine Iff.trans (Eq.to_iff (congrArg (· = 1#1) (congrArg₂ (IntOp.cmpi .sle) (?_ : _ = ends m c q)
    (?_ : _ = BitVec.ofNat 32 j.val * 256#32)))) ((hc _ _).trans ?_)
  · exact congrArg (m ((c : Thread nD τ).loc main_arg0)) (funext fun a => match a with | ⟨0, _⟩ => rfl)
  · rfl
  rw [hr]
  exact ⟨fun h => ⟨q.isLt, h⟩, fun ⟨_, h⟩ => h⟩

/-- That word is the expert, or the last one where there is none. -/
theorem tile_toNat (j : Fin 416) : (IntOp.minsi (BitVec.ofNat 32 (expertOf (ends m c) (256 * j.val))) 31#32).toNat
    = min (expertOf (ends m c) (256 * j.val)) 31 := by
  have h : ∀ n : Fin 33, (IntOp.minsi (BitVec.ofNat 32 n.val) 31#32).toNat = min n.val 31 := by decide
  exact h ⟨_, Nat.lt_succ_of_le (expertOf_le _ _)⟩

/-- The shifted word is the number of used tiles. -/
theorem used_toNat : (IntOp.shrui ArithUnit.host (ends m c 31) 8#32).toNat = usedTiles (ends m c) := by
  unfold IntOp.shrui usedTiles
  rw [if_pos (by decide), BitVec.ushiftRight_eq', BitVec.toNat_ushiftRight]
  exact Nat.shiftRight_eq_div_pow _ 8

/-- The block of rows a tile loads: its own while it is used, then the last used one. -/
theorem block_toNat {v : BitVec 32} {i : ℕ} (hi : i < 416) (h1 : 1 ≤ v.toNat) (h2 : v.toNat < 2 ^ 23) :
    (IntOp.minsi (BitVec.ofNat 32 i) (IntOp.subi v 1#32)).toNat = min i (v.toNat - 1) := by
  have hs : (v - 1#32).toNat = v.toNat - 1 := by
    rw [BitVec.toNat_sub_of_le (by rw [BitVec.le_def]; exact h1)]
    rfl
  have ho : (BitVec.ofNat 32 i).toNat = i := by rw [BitVec.toNat_ofNat]; omega
  unfold IntOp.minsi IntOp.subi
  by_cases h : i < v.toNat - 1
  · rw [if_pos, ho]
    · omega
    · rw [BitVec.slt_eq_decide, decide_eq_true_eq, BitVec.toInt_eq_toNat_of_lt (by omega), BitVec.toInt_eq_toNat_of_lt (by omega), hs, ho]
      omega
  · rw [if_neg, hs]
    · omega
    · rw [BitVec.slt_eq_decide, decide_eq_true_eq, BitVec.toInt_eq_toNat_of_lt (by omega), BitVec.toInt_eq_toNat_of_lt (by omega), hs, ho]
      omega

/-- The one place of a one-word table. -/
theorem one_place (x : S1.Idx) : x = ix1 0 := by
  funext a
  match a with
  | ⟨0, _⟩ => exact Subsingleton.elim (α := Fin 1) _ _

/-- The tables the call starts from. -/
def tabs : pre0.Contents (Elt F) := fun k => V m c (pre0.ref k)

/-- The word of the first table that a tile reads. -/
theorem tab0_at {i : ℕ} (hi : i < 416) (h1) :
    (tabs m c).at 0 (Rect.unit (s := S416) ![(Scalar.indexCast (BitVec.ofNat 32 i)).toNat] S1.size h1) numel1_S1
      = IntOp.minsi (BitVec.ofNat 32 (expertOf (ends m c) (256 * i))) 31#32 := by
  refine Eq.trans (congrArg (V m c main_v11) (?_ : _ = ix1 (⟨i, hi⟩ : Fin 416))) (tile_at m c ⟨i, hi⟩)
  funext a
  match a with
  | ⟨0, _⟩ =>
    refine Fin.ext ?_
    show (BitVec.ofNat 32 i).toNat + _ = i
    rw [BitVec.toNat_ofNat]
    have hz : ∀ x : Fin 1, x.val = 0 := fun x => Nat.lt_one_iff.1 x.isLt
    exact (congrArg (fun z : ℕ => i % 2 ^ 32 + 1 * z) (hz _)).trans (by omega)

/-- The word of the second table. -/
theorem tab1_at (h1) : (tabs m c).at 1 (Rect.unit (s := S1) ![0] S1.size h1) numel1_S1 = IntOp.shrui ArithUnit.host (ends m c 31) 8#32 :=
  (congrArg (V m c main_v14) (one_place _)).trans (used_at m c)

/-- The rows' block at a tile. -/
theorem rows_block (hp : Padded (ends m c)) (i : grid0.Coords) :
    cc0_transform_0 inb_S1_S1_0 numel1_S1 (tabs m c) i = ![min (i 0).val (usedTiles (ends m c) - 1), 0, 0] := by
  have hu := used_toNat m c
  have hb := block_toNat (v := IntOp.shrui ArithUnit.host (ends m c 31) 8#32) (i 0).isLt (by rw [hu]; exact hp.used_pos) (by rw [hu]; exact hp.used_lt)
  rw [hu] at hb
  exact Eq.trans (congrArg (fun x : BitVec 32 => (![(IntOp.minsi (BitVec.ofNat 32 (i 0).val) (IntOp.subi x 1#32)).toNat, 0, 0] : Fin 3 → ℕ))
    (tab1_at m c _)) (congrArg (fun x : ℕ => (![x, 0, 0] : Fin 3 → ℕ)) hb)

/-- The weights' block at a tile: its expert's, in the layer's part. -/
theorem weight_block (l : Fin 2) (i : grid0.Coords) :
    weightIx l (tabs m c) i = ![l.val, min (expertOf (ends m c) (256 * (i 0).val)) 31, 0, 0] :=
  Eq.trans (congrArg (fun x : BitVec 32 => (![l.val, x.toNat, 0, 0] : Fin 4 → ℕ)) (tab0_at m c (i 0).isLt _))
    (congrArg (fun x : ℕ => (![l.val, x, 0, 0] : Fin 4 → ℕ)) (tile_toNat m c (i 0)))

/-- Such a block lies in the gate's and the other product's array … -/
theorem weight_inside (l : Fin 2) (i : grid0.Coords) (a : Fin 4) :
    (weightIx l (tabs m c) i a + 1) * S1x1x1024x512.size a ≤ S2x32x1024x512.size a := by
  have hl := l.isLt
  rw [weight_block]
  match a with
  | ⟨0, _⟩ =>
    show (l.val + 1) * 1 ≤ 2
    omega
  | ⟨1, _⟩ =>
    show (min _ 31 + 1) * 1 ≤ 32
    omega
  | ⟨2, _⟩ => exact Nat.le_refl 1024
  | ⟨3, _⟩ => exact Nat.le_refl 512

/-- … and in the last product's. -/
theorem weight_inside' (l : Fin 2) (i : grid0.Coords) (a : Fin 4) :
    (weightIx l (tabs m c) i a + 1) * S1x1x512x1024.size a ≤ S2x32x512x1024.size a := by
  have hl := l.isLt
  rw [weight_block]
  match a with
  | ⟨0, _⟩ =>
    show (l.val + 1) * 1 ≤ 2
    omega
  | ⟨1, _⟩ =>
    show (min _ 31 + 1) * 1 ≤ 32
    omega
  | ⟨2, _⟩ => exact Nat.le_refl 512
  | ⟨3, _⟩ => exact Nat.le_refl 1024

/-- So does the block of rows a tile loads. -/
theorem rows_inside (hp : Padded (ends m c)) (i : grid0.Coords) (a : Fin 3) :
    (cc0_transform_0 inb_S1_S1_0 numel1_S1 (tabs m c) i a + 1) * S256x1x1024.size a ≤ S106496x1x1024.size a := by
  rw [rows_block m c hp]
  have h0 : (i 0).val < 416 := (i 0).isLt
  match a with
  | ⟨0, _⟩ =>
    show (min (i 0).val (usedTiles (ends m c) - 1) + 1) * 256 ≤ 106496
    omega
  | ⟨1, _⟩ => exact Nat.le_refl 1
  | ⟨2, _⟩ => exact Nat.le_refl 1024

variable {l : Fin 2} (G : Maps F l)

/-- The tables' blocks lie in their arrays. -/
theorem ok_tabs (hp : Padded (ends m c)) : G.ok (tabs m c) := by
  refine G.ok_of _ fun w i => ?_
  match w with
  | 0 => rw [G.rows]; exact rows_inside m c hp i
  | 1 => rw [G.gate]; exact weight_inside m c l i
  | 2 => rw [G.up]; exact weight_inside m c l i
  | 3 => rw [G.down]; exact weight_inside' m c l i
  | 4 => rw [G.out]; exact hinb0_4 i

/-- The tables as admissible ones. -/
def adm (hp : Padded (ends m 0)) : (pcfgG G).Adm := ⟨tabs m 0, ok_tabs m 0 G hp⟩

/-- They are what the host operations leave, on each device. -/
theorem adm_tabs (hp : Padded (ends m 0)) (c : Dev nD) (k) : V m c (pre0.ref k) = (adm m G hp).1 k := by
  obtain rfl : c = 0 := Subsingleton.elim _ _
  rfl

/-- The precondition's array all ones says the ends are padded. -/
theorem padded_of_pre (h : ∀ c : Dev nD, Cert.Pre_ends_padded.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) : Padded (ends m c) := by
  have e : ∀ q : Fin 32, (ends m c q &&& 255#32 = 0#32 ∧ (ends m c q).toInt ≤ (ends m c 31).toInt) ∧ 0 < (ends m c 31).toInt := fun q => by
    have e := congrFun (h c) (ix1 q)
    simp only [Cert.Pre_ends_padded.fn, cmpi, andi, constantI] at e
    generalize hL : broadcastInDim Cert.Pre_ends_padded.S32 ![0] _ (extractStridedSlice (s := Cert.Pre_ends_padded.S32) Cert.Pre_ends_padded.S1 ![31] _ _) (ix1 q) = L at e
    have hl : L = ends m c 31 := hL.symm.trans (congrArg (m ((c : Thread nD τ).loc main_arg0)) (funext fun a => match a with | ⟨0, _⟩ => rfl))
    subst hl
    have e' : IntOp.andi (IntOp.andi (IntOp.cmpi .eq (IntOp.andi (ends m c q) 255#32) 0#32) (IntOp.cmpi .sle (ends m c q) (ends m c 31)))
        (IntOp.cmpi .sgt (ends m c 31) 0#32) = 1#1 := e
    have hand : ∀ x y : BitVec 1, IntOp.andi x y = 1#1 → x = 1#1 ∧ y = 1#1 := by decide
    obtain ⟨h12, h3⟩ := hand _ _ e'
    obtain ⟨h1, h2⟩ := hand _ _ h12
    refine ⟨⟨(StableHlo.Predicate.cmpi_eq_iff ..).1 h1, ?_⟩, ?_⟩
    · rw [WordCmp.cmpi_sle_eq] at h2
      by_contra hn
      rw [decide_eq_false hn] at h2
      exact absurd h2 (by decide)
    · have h4 : (0#32 : BitVec 32).toInt < (ends m c 31).toInt := by
        rw [WordCmp.cmpi_sgt_eq] at h3
        by_contra hn
        rw [decide_eq_false hn] at h3
        exact absurd h3 (by decide)
      exact h4
  exact ⟨fun q => (e q).1.1, fun q => (e q).1.2, (e 0).2⟩

end Cert.Kernel2Ideal.Ffn

end
-- ==== Proof.FfnFrame.lean ====
/- The expert call's frame: with padded ends it runs, leaves its arguments unchanged and its semaphores at zero — stated over
   any carrier, so once for the printed programs of both layers, over the reals and over bit patterns. -/
module

public import proofs.«01_k».proof.Proof.FfnTables
public import proofs.«01_k».proof.Proof.Gen.Kernel2.Launch
public import proofs.«01_k».proof.Proof.Gen.Kernel6.Launch
public import proofs.«01_k».proof.Proof.Gen.Kernel6Ideal.Launch

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem

variable {F : FTy → Type} [FloatOps F]
variable {l : Fin 2} (G : Maps F l) (m : (ℓ : Loc nD τ sig) → Buf (Elt F) ℓ) (ρ : Dev nD → PrngReg)

/-- What the host operations write. -/
def written : List (Ref sig .tc) :=
  [main_v0, main_c, main_v1, main_v2, main_v3, main_v4, main_v5, main_v6, main_v7, main_v8, main_c_0, main_v9, main_c_1, main_v10, main_v11,
    main_v12, main_c_2, main_v13, main_v14]

/-- They leave every other array. -/
theorem V_kept (c : Dev nD) (r : Ref sig .tc) (h : r ∉ written) : V m c r = m ((c : Thread nD τ).loc r) := by
  unfold V
  exact StableHlo.after_unwritten written rfl h _

/-- No window's array is the ends'. -/
theorem arg0_no_window (a : (pcfgG G).Adm) (w : Fin 5) : ((cfgA G a).spec w).arr.view.ref ≠ main_arg0 :=
  (by decide : ∀ w : Fin 5, Pipeline.arrRef spec0 w ≠ main_arg0) w

/-- The precondition, over any carrier. -/
abbrev Pre : Prop := ∀ c : Dev nD, Cert.Pre_ends_padded.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1

variable {m}

/-- So the ends are padded on each device. -/
theorem padded (h : Pre m) (c : Dev nD) : Padded (ends m c) := padded_of_pre m c h

variable (m)

/-- The run: the result array is what the grid's write-backs leave, the arguments are unchanged, the semaphores at zero. -/
theorem run_blocks (h : Pre m) : θ_run (defsG G) (onTc (τ := τ) (mainG G)) ⟨m, fun _ => 0, ρ⟩ (fun r => (∀ c : Dev nD,
      r.2.mem ((c.tc : Thread nD τ).loc main_v15) = (dats G m (adm m G (padded h 0)) 0 c).arrAt 4 (cfgA G (adm m G (padded h 0))).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defsG G) _ _).mono (fun r ⟨hr, hs⟩ => ⟨fun c => ⟨(hr c).1 4,
      ((hr c).2 main_arg0 (Pipeline.mem_restRefs_of main_arg0 (by decide) (arg0_no_window G _))).trans (V_kept m c main_arg0 (by decide)),
      ((hr c).1 0).trans (((dats G m (adm m G (padded h 0)) 0 c).arrAt_in 0 rfl _).trans ((A_eq G m (adm m G (padded h 0)) c 0).trans (V_kept m c main_arg1 (by decide)))),
      ((hr c).1 1).trans (((dats G m (adm m G (padded h 0)) 0 c).arrAt_in 1 rfl _).trans ((A_eq G m (adm m G (padded h 0)) c 1).trans (V_kept m c main_arg2 (by decide)))),
      ((hr c).1 2).trans (((dats G m (adm m G (padded h 0)) 0 c).arrAt_in 2 rfl _).trans ((A_eq G m (adm m G (padded h 0)) c 2).trans (V_kept m c main_arg3 (by decide)))),
      ((hr c).1 3).trans (((dats G m (adm m G (padded h 0)) 0 c).arrAt_in 3 rfl _).trans ((A_eq G m (adm m G (padded h 0)) c 3).trans (V_kept m c main_arg4 (by decide))))⟩, hs⟩)
    (run_main G m ρ (adm m G (padded h 0)) (adm_tabs m G (padded h 0)))

/-- The frame: the arguments end unchanged and every semaphore at zero. -/
theorem frame (h : Pre m) : θ_run (defsG G) (onTc (τ := τ) (mainG G)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defsG G) _ _).mono (fun _ hr => ⟨fun c => (hr.1 c).2, hr.2⟩) (run_blocks G m ρ h)

end Cert.Kernel2Ideal.Ffn

namespace Cert.Kernel2Ideal.Ffn

open Cert.Kernel2Ideal Cert.Kernel2Ideal.Gen
open Idealize.ShloMosaic Idealize.ShloMosaic.TcCoe Idealize.SL.Sem

variable {F : FTy → Type} [FloatOps F]

/-- The first layer's blocks. -/
abbrev first : Maps F 0 where
  ix := ix0
  reads := hreads0
  ok := ok0
  dec := inferInstance
  inb := hinb0
  wx := hwx0
  ok_of _ h := ⟨fun i => ⟨h 0 i, Or.inl rfl⟩, fun i => ⟨h 1 i, Or.inl rfl⟩, fun i => ⟨h 2 i, Or.inl rfl⟩, fun i => ⟨h 3 i, Or.inl rfl⟩⟩
  rows _ _ := rfl
  gate _ _ := rfl
  up _ _ := rfl
  down _ _ := rfl
  out _ _ := rfl

/-- The second layer's. -/
abbrev second : Maps F 1 where
  ix := Cert.Kernel6Ideal.ix0
  reads := Cert.Kernel6Ideal.hreads0
  ok := Cert.Kernel6Ideal.ok0
  dec := inferInstanceAs (DecidablePred (Cert.Kernel6Ideal.ok0 (F := F)))
  inb := Cert.Kernel6Ideal.hinb0
  wx := Cert.Kernel6Ideal.hwx0
  ok_of _ h := ⟨fun i => ⟨h 0 i, Or.inl rfl⟩, fun i => ⟨h 1 i, Or.inl rfl⟩, fun i => ⟨h 2 i, Or.inl rfl⟩, fun i => ⟨h 3 i, Or.inl rfl⟩⟩
  rows _ _ := rfl
  gate _ _ := rfl
  up _ _ := rfl
  down _ _ := rfl
  out _ _ := rfl

/-- The first layer's printed program is the one above … -/
theorem defs_eq : defs (F := F) = defsG first := by
  unfold defs defsG
  rfl

/-- … with its host operations. -/
theorem main_eq : main (F := F) = mainG first := funext fun c => main_chain c

/-- So its frame over the reals. -/
theorem quiescent : Cert.quiescent_Kernel2Ideal := by
  intro m ρ h
  rw [defs_eq, main_eq]
  exact frame (F := Ideal) first m ρ h

end Cert.Kernel2Ideal.Ffn

namespace Cert.Kernel2.Ffn

open Idealize.ShloMosaic Idealize.ShloMosaic.TcCoe Idealize.SL.Sem
open Cert.Kernel2Ideal.Ffn (first defsG mainG pcfgsG)

variable {F : FTy → Type} [FloatOps F]

/-- The printed program has the same text: its body … -/
theorem body_same : @Cert.Kernel2.cc0_moe_ffn F _ _ = @Cert.Kernel2Ideal.cc0_moe_ffn F _ _ := by
  unfold Cert.Kernel2.cc0_moe_ffn Cert.Kernel2Ideal.cc0_moe_ffn
  rfl

/-- … its body table … -/
theorem bodies_same : Cert.Kernel2.defs₀ (F := F) = Cert.Kernel2Ideal.defs₀ (F := F) := by
  unfold Cert.Kernel2.defs₀ Cert.Kernel2Ideal.defs₀
  congr 1
  funext x y
  match x, y with
  | ⟨0, _⟩, (t, s) =>
    rw [body_same]
    rfl
  | ⟨_ + 1, h⟩, _ => exact absurd h (by simp)

/-- … the pipeline it enters … -/
theorem defs_same : Cert.Kernel2.defs (F := F) = defsG first := by
  unfold Cert.Kernel2.defs defsG
  exact congrArg (Pipeline.defs (pcfgsG (F := F) first)) bodies_same

/-- … its host operations … -/
theorem host_same : Cert.Kernel2.Gen.hostOps0 (F := F) = Cert.Kernel2Ideal.Gen.hostOps0 (F := F) := rfl

/-- … and the whole. -/
theorem main_same : Cert.Kernel2.main (F := F) = mainG first := by
  funext c
  refine (Cert.Kernel2.Gen.main_chain c).trans ?_
  exact congrArg (fun l => (Pipeline.chain [StableHlo.seq l, Prog.lift (.customCall (Pipeline.entry 0) ())] :
    Prog (TpuEff Cert.Kernel2Ideal.nD Cert.Kernel2Ideal.τ Cert.Kernel2Ideal.sig (Elt F)
      (Pipeline.Sig Cert.Kernel2Ideal.Λ₀ (Fin 1) fun p => (pcfgsG (F := F) first p).Adm) .tc) PUnit)) host_same

/-- So the frame over bit patterns is the same run's. -/
theorem quiescent : Cert.quiescent_Kernel2 := by
  intro m ρ h
  rw [defs_same, main_same]
  exact Cert.Kernel2Ideal.Ffn.frame (F := Bits) first m ρ h

end Cert.Kernel2.Ffn

namespace Cert.Kernel6.Ffn

open Idealize.ShloMosaic Idealize.ShloMosaic.TcCoe Idealize.SL.Sem
open Cert.Kernel2Ideal.Ffn (second defsG mainG pcfgsG)

variable {F : FTy → Type} [FloatOps F]

/-- The printed program has the same text: its body … -/
theorem body_same : @Cert.Kernel6.cc0_moe_ffn F _ _ = @Cert.Kernel2Ideal.cc0_moe_ffn F _ _ := by
  unfold Cert.Kernel6.cc0_moe_ffn Cert.Kernel2Ideal.cc0_moe_ffn
  rfl

/-- … its body table … -/
theorem bodies_same : Cert.Kernel6.defs₀ (F := F) = Cert.Kernel2Ideal.defs₀ (F := F) := by
  unfold Cert.Kernel6.defs₀ Cert.Kernel2Ideal.defs₀
  congr 1
  funext x y
  match x, y with
  | ⟨0, _⟩, (t, s) =>
    rw [body_same]
    rfl
  | ⟨_ + 1, h⟩, _ => exact absurd h (by simp)

/-- … the pipeline it enters … -/
theorem defs_same : Cert.Kernel6.defs (F := F) = defsG second := by
  unfold Cert.Kernel6.defs defsG
  exact congrArg (Pipeline.defs (pcfgsG (F := F) second)) bodies_same

/-- … its host operations … -/
theorem host_same : Cert.Kernel6.Gen.hostOps0 (F := F) = Cert.Kernel2Ideal.Gen.hostOps0 (F := F) := rfl

/-- … and the whole. -/
theorem main_same : Cert.Kernel6.main (F := F) = mainG second := by
  funext c
  refine (Cert.Kernel6.Gen.main_chain c).trans ?_
  exact congrArg (fun l => (Pipeline.chain [StableHlo.seq l, Prog.lift (.customCall (Pipeline.entry 0) ())] :
    Prog (TpuEff Cert.Kernel2Ideal.nD Cert.Kernel2Ideal.τ Cert.Kernel2Ideal.sig (Elt F)
      (Pipeline.Sig Cert.Kernel2Ideal.Λ₀ (Fin 1) fun p => (pcfgsG (F := F) second p).Adm) .tc) PUnit)) host_same

/-- So the frame over bit patterns is the same run's. -/
theorem quiescent : Cert.quiescent_Kernel6 := by
  intro m ρ h
  rw [defs_same, main_same]
  exact Cert.Kernel2Ideal.Ffn.frame (F := Bits) second m ρ h

end Cert.Kernel6.Ffn

namespace Cert.Kernel6Ideal.Ffn

open Idealize.ShloMosaic Idealize.ShloMosaic.TcCoe Idealize.SL.Sem
open Cert.Kernel2Ideal.Ffn (second defsG mainG pcfgsG)

variable {F : FTy → Type} [FloatOps F]

/-- The printed program has the same text: its body … -/
theorem body_same : @Cert.Kernel6Ideal.cc0_moe_ffn F _ _ = @Cert.Kernel2Ideal.cc0_moe_ffn F _ _ := by
  unfold Cert.Kernel6Ideal.cc0_moe_ffn Cert.Kernel2Ideal.cc0_moe_ffn
  rfl

/-- … its body table … -/
theorem bodies_same : Cert.Kernel6Ideal.defs₀ (F := F) = Cert.Kernel2Ideal.defs₀ (F := F) := by
  unfold Cert.Kernel6Ideal.defs₀ Cert.Kernel2Ideal.defs₀
  congr 1
  funext x y
  match x, y with
  | ⟨0, _⟩, (t, s) =>
    rw [body_same]
    rfl
  | ⟨_ + 1, h⟩, _ => exact absurd h (by simp)

/-- … the pipeline it enters … -/
theorem defs_same : Cert.Kernel6Ideal.defs (F := F) = defsG second := by
  unfold Cert.Kernel6Ideal.defs defsG
  exact congrArg (Pipeline.defs (pcfgsG (F := F) second)) bodies_same

/-- … its host operations … -/
theorem host_same : Cert.Kernel6Ideal.Gen.hostOps0 (F := F) = Cert.Kernel2Ideal.Gen.hostOps0 (F := F) := rfl

/-- … and the whole. -/
theorem main_same : Cert.Kernel6Ideal.main (F := F) = mainG second := by
  funext c
  refine (Cert.Kernel6Ideal.Gen.main_chain c).trans ?_
  exact congrArg (fun l => (Pipeline.chain [StableHlo.seq l, Prog.lift (.customCall (Pipeline.entry 0) ())] :
    Prog (TpuEff Cert.Kernel2Ideal.nD Cert.Kernel2Ideal.τ Cert.Kernel2Ideal.sig (Elt F)
      (Pipeline.Sig Cert.Kernel2Ideal.Λ₀ (Fin 1) fun p => (pcfgsG (F := F) second p).Adm) .tc) PUnit)) host_same

/-- So the frame over the reals is the same run's. -/
theorem quiescent : Cert.quiescent_Kernel6Ideal := by
  intro m ρ h
  rw [defs_same, main_same]
  exact Cert.Kernel2Ideal.Ffn.frame (F := Ideal) second m ρ h

end Cert.Kernel6Ideal.Ffn

end
-- ==== Proof.FfnOut.lean ====
/- What a tile leaves in its output block: the feed-forward of its rows with one expert's weights, or zeros. -/
module

public import proofs.«01_k».proof.Proof.FfnBody
public import Idealize.ShloMosaic.Lib.Pipeline.ValueKit
public import Idealize.ShloMosaic.Lib.WritesUnit

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

variable {F : FTy → Type} [FloatOps F]
  (c : Dev nD) (i : grid0.Coords) (arg3 : Memref sig .tc .vmem S256x1x1024 .f32) (harg3 : arg3.IsWhole)
  (arg4 : Memref sig .tc .vmem S1x1x1024x512 .f32) (harg4 : arg4.IsWhole) (arg5 : Memref sig .tc .vmem S1x1x1024x512 .f32) (harg5 : arg5.IsWhole)
  (arg6 : Memref sig .tc .vmem S1x1x512x1024 .f32) (harg6 : arg6.IsWhole) (arg7 : Memref sig .tc .vmem S256x1x1024 .f32) (harg7 : arg7.IsWhole)
  (T0 : S416.Idx → Elt F .i32) (T1 : S1.Idx → Elt F .i32)
  (x0 : S256x1x1024.Idx → Elt F .f32) (x1 x2 : S1x1x1024x512.Idx → Elt F .f32) (x3 : S1x1x512x1024.Idx → Elt F .f32)

/-- The offsets of a whole block, of rank 2 … -/
theorem zeros2 : (![0, 0] : Fin 2 → ℕ) = fun _ => 0 := funext fun a => by fin_cases a <;> rfl
/-- … of rank 3 … -/
theorem zeros3 : (![0, 0, 0] : Fin 3 → ℕ) = fun _ => 0 := funext fun a => by fin_cases a <;> rfl
/-- … and of rank 4. -/
theorem zeros4 : (![0, 0, 0, 0] : Fin 4 → ℕ) = fun _ => 0 := funext fun a => by fin_cases a <;> rfl

/-- One store through the whole block leaves its payload. -/
theorem read_whole (w : S256x1x1024.Idx → Elt F .f32) (inb) :
    outV.read (Elt F) (outV.writes (Elt F) outV.junk [⟨Rect.unit (s := S256x1x1024) ![0, 0, 0] S256x1x1024.size inb, w⟩]) = w := by
  funext y
  refine View.read_writes_cons_unit_of_mem outV _ inb w [] y y zeros3 fun a => ?_
  exact (Nat.zero_add _).symm

/-- A used tile leaves the feed-forward of its rows. -/
theorem leftUsed_eq (h1 : k0_cond1 i (usedWord T1) = 1#1) (h2 : ¬k0_cond2 i (usedWord T1) = 1#1) :
    leftUsed c i arg3 harg3 arg4 harg4 arg5 harg5 arg6 harg6 arg7 harg7 T0 T1 x0 x1 x2 x3 h1 h2 = k0_pay2 (k0_pay1 x0) x1 x2 x3 := by
  unfold leftUsed runUsed
  dsimp only
  sl_unfold_words
  simp only [View.readAt_eq_ld, View.read_rep]
  refine (read_whole _ _).trans ?_
  have e0 : View.ld x0 (Rect.unit (s := S256x1x1024) ![0, 0, 0] S256x1x1024.size inb_S256x1x1024_S256x1x1024_0_0_0) = x0 := View.ld_unit_zero zeros3 _ x0
  have e1 : ∀ x : S1x1x1024x512.Idx → Elt F .f32,
      View.ld x (Rect.unit (s := S1x1x1024x512) ![0, 0, 0, 0] S1x1x1024x512.size inb_S1x1x1024x512_S1x1x1024x512_0_0_0_0) = x := fun x => View.ld_unit_zero zeros4 _ x
  have e3 : View.ld x3 (Rect.unit (s := S1x1x512x1024) ![0, 0, 0, 0] S1x1x512x1024.size inb_S1x1x512x1024_S1x1x512x1024_0_0_0_0) = x3 := View.ld_unit_zero zeros4 _ x3
  have er : ∀ w : S256x1024.Idx → Elt F .f32, (View.whole cc0_scratch0).readCov
      [⟨Rect.unit (s := S256x1024) ![0, 0] S256x1024.size inb_S256x1024_S256x1024_0_0, w⟩] (Rect.unit (s := S256x1024) ![0, 0] S256x1024.size inb_S256x1024_S256x1024_0_0).toLoadRect = w :=
    fun w => View.readCov_unit_zero (S := S256x1024) _ zeros2 _ w
  exact congr (congr (congr (congrArg k0_pay2 ((er _).trans (congrArg k0_pay1 e0))) (e1 x1)) (e1 x2)) e3

/-- An unused tile leaves zeros. -/
theorem leftUnused_eq (h1 : ¬k0_cond1 i (usedWord T1) = 1#1) (h2 : k0_cond2 i (usedWord T1) = 1#1) :
    leftUnused c i arg3 harg3 arg4 harg4 arg5 harg5 arg6 harg6 arg7 harg7 T0 T1 x0 x1 x2 x3 h1 h2 = k0_pay3 := by
  unfold leftUnused runUnused
  dsimp only
  exact read_whole _ _

end Cert.Kernel2Ideal.Ffn

end
-- ==== Proof.FfnValue.lean ====
/- The array the expert call leaves, at an index: each row's feed-forward with its tile's expert, zeros in unused tiles. -/
module

public import proofs.«01_k».proof.Proof.FfnFrame
public import proofs.«01_k».proof.Proof.FfnOut
public import Idealize.ShloMosaic.Lib.Pointwise

@[expose] public section

set_option maxRecDepth 16384

noncomputable section

namespace Cert.Ffn

open Idealize.ShloMosaic

/-- One hidden unit of the gated layer: the gate's product through silu, times the other product. -/
def hidden (x g u : Fin 1024 → EReal) : EReal :=
  (∑ k, x k * g k) * Ideal.logistic (∑ k, x k * g k) * ∑ k, x k * u k

/-- The feed-forward of row `s` with expert `e`'s weights in layer `l`, at column `n`. -/
def rowOut (l : Fin 2) (x : Cert.Kernel2Ideal.S106496x1x1024.Idx → EReal) (wg wu : Cert.Kernel2Ideal.S2x32x1024x512.Idx → EReal)
    (wd : Cert.Kernel2Ideal.S2x32x512x1024.Idx → EReal) (e : Fin 32) (s : Fin 106496) (n : Fin 1024) : EReal :=
  ∑ f : Fin 512, hidden (fun k => x (ix3 s 0 k)) (fun k => wg (ix4 l e k f)) (fun k => wu (ix4 l e k f)) * wd (ix4 l e f n)

/-- The layer: a row's own expert's feed-forward, zero in a row past every expert's end. -/
def ffnAt (l : Fin 2) (en : Fin 32 → BitVec 32) (x : Cert.Kernel2Ideal.S106496x1x1024.Idx → EReal) (wg wu : Cert.Kernel2Ideal.S2x32x1024x512.Idx → EReal)
    (wd : Cert.Kernel2Ideal.S2x32x512x1024.Idx → EReal) (s : Fin 106496) (n : Fin 1024) : EReal :=
  if h : expertOf en s < 32 then rowOut l x wg wu wd ⟨expertOf en s, h⟩ s n else 0

end Cert.Ffn

namespace Cert.Kernel2Ideal.Ffn

open Cert.Kernel2Ideal Cert.Kernel2Ideal.Gen Cert.Ffn
open Idealize.ShloMosaic Idealize.ShloMosaic.TcCoe Idealize.ShloMosaic.Tactic Idealize.SL.Sem

/-- What a used tile computes, at an index. -/
theorem pay_at (x0 : S256x1x1024.Idx → Elt Ideal .f32) (x1 x2 : S1x1x1024x512.Idx → Elt Ideal .f32) (x3 : S1x1x512x1024.Idx → Elt Ideal .f32)
    (r : Fin 256) (n : Fin 1024) : k0_pay2 (F := Ideal) (k0_pay1 x0) x1 x2 x3 (ix3 r 0 n)
      = ∑ f : Fin 512, hidden (fun k => x0 (ix3 r 0 k)) (fun k => x1 (ix4 0 0 k f)) (fun k => x2 (ix4 0 0 k f)) * x3 (ix4 0 0 f n) := by
  pointwise [Gen.k0_pay2, Gen.k0_pay1]
  rfl

/-- What an unused tile stores, at an index. -/
theorem zero_at (r : Fin 256) (n : Fin 1024) : k0_pay3 (F := Ideal) (ix3 r 0 n) = 0 := by
  pointwise [Gen.k0_pay3]

variable {l : Fin 2} (G : Maps Ideal l) (m : (ℓ : Loc nD τ sig) → Buf (Elt Ideal) ℓ) (c : Dev nD) (hp : Padded (ends m 0))

/-- The only coordinate of a tile is its number. -/
theorem crd_val : ∀ t : Fin grid0.N, (grid0.coords t 0).val = t.val := by decide +kernel

/-- A tile's block of rows: its own while it is used, then the last used one. -/
theorem index_rows (t : Fin (cfgA G (adm m G hp)).N) :
    ((cfgA G (adm m G hp)).win 0).index t = ![min t.val (usedTiles (ends m 0) - 1), 0, 0] :=
  (G.rows _ _).trans ((rows_block m 0 hp _).trans (congrArg (fun x : ℕ => (![min x (usedTiles (ends m 0) - 1), 0, 0] : Fin 3 → ℕ)) (crd_val t)))

/-- A tile's block of weights: its expert's. -/
theorem weight_index (l : Fin 2) (t : Fin grid0.N) :
    weightIx l (tabs m 0) (grid0.coords t) = ![l.val, min (expertOf (ends m 0) (256 * t.val)) 31, 0, 0] :=
  (weight_block m 0 l _).trans (congrArg (fun x : ℕ => (![l.val, min (expertOf (ends m 0) (256 * x)) 31, 0, 0] : Fin 4 → ℕ)) (crd_val t))

/-- Of the gate's … -/
theorem index_gate (t : Fin (cfgA G (adm m G hp)).N) :
    ((cfgA G (adm m G hp)).win 1).index t = ![l.val, min (expertOf (ends m 0) (256 * t.val)) 31, 0, 0] := (G.gate _ _).trans (weight_index m l t)
/-- … of the other product's … -/
theorem index_up (t : Fin (cfgA G (adm m G hp)).N) :
    ((cfgA G (adm m G hp)).win 2).index t = ![l.val, min (expertOf (ends m 0) (256 * t.val)) 31, 0, 0] := (G.up _ _).trans (weight_index m l t)
/-- … and of the last product's. -/
theorem index_down (t : Fin (cfgA G (adm m G hp)).N) :
    ((cfgA G (adm m G hp)).win 3).index t = ![l.val, min (expertOf (ends m 0) (256 * t.val)) 31, 0, 0] := (G.down _ _).trans (weight_index m l t)

/-- A tile writes its own block of rows. -/
theorem index_out (t : Fin (cfgA G (adm m G hp)).N) : ((cfgA G (adm m G hp)).win 4).index t = ![t.val, 0, 0] :=
  (G.out _ _).trans <| congrArg (fun x : ℕ => (![x, 0, 0] : Fin 3 → ℕ)) ((by decide +kernel : ∀ t : Fin grid0.N, (BitVec.ofNat 32 (grid0.coords t 0).val).toNat = t.val) t)

/-- Every tile's block is written back. -/
theorem flush_out (t : Fin (cfgA G (adm m G hp)).N) : ((cfgA G (adm m G hp)).win 4).flush t = true := by
  unfold Pipeline.Window.flush
  rw [Bool.and_eq_true]
  refine ⟨rfl, ?_⟩
  rw [Bool.or_eq_true, decide_eq_true_eq, decide_eq_true_eq]
  by_cases h : t.val + 1 = grid0.N
  · exact Or.inl h
  · have ht : t.val < grid0.N := t.isLt
    refine Or.inr ⟨lt_of_le_of_ne ht h, fun he => ?_⟩
    rw [index_out, index_out] at he
    exact Nat.succ_ne_self _ (congrFun he 0)

/-- A used tile's rows. -/
theorem block_rows (t : Fin (cfgA G (adm m G hp)).N) (ht : t.val < usedTiles (ends m 0)) (r : Fin 256) (k : Fin 1024)
    (s : Fin 106496) (hs : s.val = t.val * 256 + r.val) :
    iblk G m (adm m G hp) c 0 t (ix3 r 0 k) = m ((c : Thread nD τ).loc main_arg1) (ix3 s 0 k) := by
  rw [← V_kept m c main_arg1 (by decide)]
  blk_ext [iblk, index_rows G m hp t]

/-- A tile's gate weights. -/
theorem block_gate (t : Fin (cfgA G (adm m G hp)).N) (e : Fin 32) (he : e.val = min (expertOf (ends m 0) (256 * t.val)) 31) (k : Fin 1024) (f : Fin 512) :
    iblk G m (adm m G hp) c 1 t (ix4 0 0 k f) = m ((c : Thread nD τ).loc main_arg2) (ix4 l e k f) := by
  rw [← V_kept m c main_arg2 (by decide)]
  blk_ext [iblk, index_gate G m hp t]

/-- A tile's weights of the other product. -/
theorem block_up (t : Fin (cfgA G (adm m G hp)).N) (e : Fin 32) (he : e.val = min (expertOf (ends m 0) (256 * t.val)) 31) (k : Fin 1024) (f : Fin 512) :
    iblk G m (adm m G hp) c 2 t (ix4 0 0 k f) = m ((c : Thread nD τ).loc main_arg3) (ix4 l e k f) := by
  rw [← V_kept m c main_arg3 (by decide)]
  blk_ext [iblk, index_up G m hp t]

/-- A tile's weights of the last product. -/
theorem block_down (t : Fin (cfgA G (adm m G hp)).N) (e : Fin 32) (he : e.val = min (expertOf (ends m 0) (256 * t.val)) 31) (f : Fin 512) (n : Fin 1024) :
    iblk G m (adm m G hp) c 3 t (ix4 0 0 f n) = m ((c : Thread nD τ).loc main_arg4) (ix4 l e f n) := by
  rw [← V_kept m c main_arg4 (by decide)]
  blk_ext [iblk, index_down G m hp t]

/-- The body takes a tile for used exactly below the number of used tiles. -/
theorem used_iff (t : Fin (cfgA G (adm m G hp)).N) : Used G (adm m G hp) t ↔ t.val < usedTiles (ends m 0) := by
  have hw : usedWord ((adm m G hp).1 1) = IntOp.shrui .host (ends m 0 31) 8#32 := tab1_at m 0 _
  have hn := used_toNat m 0
  have hl := hp.used_lt
  have ht : t.val < 416 := t.isLt
  unfold Used k0_cond1
  rw [hw, crd_val t]
  generalize IntOp.shrui .host (ends m 0 31) 8#32 = v at hn
  rw [← hn] at hl ⊢
  have hb : ∀ b : BitVec 1, Scalar.cmpi .ne (Scalar.extui b : BitVec 32) (0#32) = 1#1 ↔ b = 1#1 := by decide
  refine (hb _).trans ?_
  show IntOp.cmpi .slt (BitVec.ofNat 32 t.val) v = 1#1 ↔ _
  have hs : (BitVec.ofNat 32 t.val).toInt = t.val := by
    rw [BitVec.toInt_eq_toNat_cond, BitVec.toNat_ofNat]
    split_ifs <;> omega
  rw [WordCmp.cmpi_slt_eq, hs, BitVec.toInt_eq_toNat_of_lt (by omega)]
  by_cases h : t.val < v.toNat <;> simp [h]

/-- What a tile leaves, at an index of its block, is the layer at that row. -/
theorem left_at (t : Fin (cfgA G (adm m G hp)).N) (r : Fin 256) (n : Fin 1024) (s : Fin 106496) (hs : s.val = t.val * 256 + r.val) :
    left G m (adm m G hp) c t (ix3 r 0 n) = ffnAt l (ends m 0) (m ((c : Thread nD τ).loc main_arg1)) (m ((c : Thread nD τ).loc main_arg2))
      (m ((c : Thread nD τ).loc main_arg3)) (m ((c : Thread nD τ).loc main_arg4)) s n := by
  have hst : s.val / 256 = t.val := by omega
  unfold left ffnAt
  by_cases hu : t.val < usedTiles (ends m 0)
  · have he : expertOf (ends m 0) s.val < 32 := hp.expert_lt (by omega)
    have hm : expertOf (ends m 0) s.val = min (expertOf (ends m 0) (256 * t.val)) 31 := by
      have := hp.expert_tile s.val
      rw [hst] at this
      omega
    rw [dif_pos ((used_iff G m hp t).2 hu), dif_pos he]
    refine (congrFun (leftUsed_eq c _ _ _ _ _ _ _ _ _ _ _ _ _ _ _ _ _ _ _) _).trans ((pay_at _ _ _ _ r n).trans ?_)
    unfold rowOut
    simp only [block_rows G m c hp t hu r _ s hs, block_gate G m c hp t ⟨_, he⟩ hm, block_up G m c hp t ⟨_, he⟩ hm, block_down G m c hp t ⟨_, he⟩ hm]
  · have he : ¬expertOf (ends m 0) s.val < 32 := by rw [hp.expert_none (by omega)]; omega
    rw [dif_neg fun h => hu ((used_iff G m hp t).1 h), dif_neg he]
    exact (congrFun (leftUnused_eq c _ _ _ _ _ _ _ _ _ _ _ _ _ _ _ _ _ _ _) _).trans (zero_at r n)

/-- The same at any index of the block. -/
theorem left_idx (t : Fin (cfgA G (adm m G hp)).N) (y : S256x1x1024.Idx) (s : Fin 106496) (n : Fin 1024) (hs : s.val = t.val * 256 + (y 0).val)
    (hn : n.val = (y 2).val) : left G m (adm m G hp) c t y = ffnAt l (ends m 0) (m ((c : Thread nD τ).loc main_arg1)) (m ((c : Thread nD τ).loc main_arg2))
      (m ((c : Thread nD τ).loc main_arg3)) (m ((c : Thread nD τ).loc main_arg4)) s n := by
  have hy : y = ix3 (y 0) 0 n := (eq_ix3 y).trans (congrArg₂ (fun z w => ix3 (y 0) z w) (Subsingleton.elim (α := Fin 1) _ _) (Fin.ext hn.symm))
  exact (congrArg (left G m (adm m G hp) c t) hy).trans (left_at G m c hp t (y 0) n s hs)

/-- Every row lies in some tile's block. -/
theorem cover (i : S106496x1x1024.Idx) : ∃ t : Fin (cfgA G (adm m G hp)).N, ((cfgA G (adm m G hp)).win 4).flush t = true ∧ i ∈ (((cfgA G (adm m G hp)).win 4).blk t).view.set := by
  have h0 : (i 0).val < 106496 := (i 0).isLt
  have h1 : (i 1).val < 1 := (i 1).isLt
  have h2 : (i 2).val < 1024 := (i 2).isLt
  refine ⟨⟨(i 0).val / 256, show _ < 416 by omega⟩, flush_out G m hp _, ?_⟩
  refine (ValueKit.mem_set_slice_whole_iff main_v15 _ i (Pipeline.Window.mem_rect_iff ((cfgA G (adm m G hp)).win 4) _ i)).2 fun a => ?_
  have hi := index_out G m hp ⟨(i 0).val / 256, show _ < 416 by omega⟩
  rw [hi]
  match a with
  | ⟨0, _⟩ =>
    show (i 0).val / 256 * 256 ≤ (i 0).val ∧ (i 0).val < (i 0).val / 256 * 256 + 256
    omega
  | ⟨1, _⟩ =>
    show 0 * 1 ≤ (i 1).val ∧ (i 1).val < 0 * 1 + 1
    omega
  | ⟨2, _⟩ =>
    show 0 * 1024 ≤ (i 2).val ∧ (i 2).val < 0 * 1024 + 1024
    omega

/-- The kernel's result. -/
theorem final_at : (dats G m (adm m G hp) 0 c).arrAt 4 (cfgA G (adm m G hp)).N = fun i : S106496x1x1024.Idx =>
    ffnAt l (ends m 0) (m ((c : Thread nD τ).loc main_arg1)) (m ((c : Thread nD τ).loc main_arg2))
      (m ((c : Thread nD τ).loc main_arg3)) (m ((c : Thread nD τ).loc main_arg4)) (i 0) (i 2) := by
  refine (dats G m (adm m G hp) 0 c).arrAt_eq_of_emb 4 _ (fun t hf y => ?_) (cover G m hp)
  blk_simp
  rw [after_4]
  refine left_idx G m c hp t y _ _ ?_ ?_ <;> blk_simp [index_out G m hp t]

end Cert.Kernel2Ideal.Ffn

end
-- ==== Proof.FfnRef.lean ====
/- The references of the two layers' expert calls at an index: the sum over all experts, each masked by a one-hot row, is the row's own
   expert's feed-forward. -/
module

public import proofs.«01_k».proof.Proof.FfnValue
public import proofs.«01_k».proof.Proof.Gen.Reference2Ideal.Read
public import proofs.«01_k».proof.Proof.Gen.Reference2Ideal.Run
public import proofs.«01_k».proof.Proof.Gen.Reference6Ideal.Read
public import proofs.«01_k».proof.Proof.Gen.Reference6Ideal.Run

@[expose] public section

set_option maxRecDepth 16384

noncomputable section

namespace Cert.Ffn

open Idealize.ShloMosaic

/-- A one-hot entry. -/
theorem one_hot {n e : ℕ} (hn : n < 33) (he : e < 32) :
    FloatOps.uitofp (F := Ideal) .f32 (IntOp.cmpi .eq (BitVec.ofNat 32 n) (BitVec.ofNat 32 e)) = if n = e then (1 : EReal) else 0 := by
  have hb : IntOp.cmpi .eq (BitVec.ofNat 32 n) (BitVec.ofNat 32 e) = if n = e then 1#1 else 0#1 :=
    (by decide : ∀ (n : Fin 33) (e : Fin 32), IntOp.cmpi .eq (BitVec.ofNat 32 n.val) (BitVec.ofNat 32 e.val) = if n.val = e.val then 1#1 else 0#1) ⟨n, hn⟩ ⟨e, he⟩
  rw [hb]
  split_ifs
  · show (((1#1 : BitVec 1).toNat : ℝ) : EReal) = 1
    simp
  · show (((0#1 : BitVec 1).toNat : ℝ) : EReal) = 0
    simp

/-- Of a sum over all experts, each masked by the one-hot row, the row's own expert's term is left. -/
theorem masked_sum (l : Fin 2) (en : Fin 32 → BitVec 32) (x : Cert.Kernel2Ideal.S106496x1x1024.Idx → EReal)
    (wg wu : Cert.Kernel2Ideal.S2x32x1024x512.Idx → EReal) (wd : Cert.Kernel2Ideal.S2x32x512x1024.Idx → EReal) (s : Fin 106496) (n : Fin 1024) :
    (∑ e : Fin 32, ∑ f : Fin 512, hidden (fun k => x (ix3 s 0 k)) (fun k => wg (ix4 l e k f)) (fun k => wu (ix4 l e k f))
        * (if expertOf en s.val = e.val then 1 else 0) * wd (ix4 l e f n)) = ffnAt l en x wg wu wd s n := by
  unfold ffnAt
  split_ifs with he
  · rw [Finset.sum_eq_single (⟨_, he⟩ : Fin 32)]
    · exact Finset.sum_congr rfl fun f _ => by rw [if_pos rfl, mul_one]
    · intro e _ hne
      refine Finset.sum_eq_zero fun f _ => ?_
      rw [if_neg fun h => hne (Fin.ext h.symm), mul_zero, zero_mul]
    · exact fun h => absurd (Finset.mem_univ _) h
  · refine Finset.sum_eq_zero fun e _ => Finset.sum_eq_zero fun f _ => ?_
    rw [if_neg fun h => he (h.trans_lt e.isLt), mul_zero, zero_mul]

end Cert.Ffn

namespace Cert.Reference2Ideal.Ffn

open Cert.Reference2Ideal Cert.Reference2Ideal.Read Cert.Ffn
open Idealize.ShloMosaic Idealize.ShloMosaic.TcCoe Idealize.ShloMosaic.Tactic

variable (x0 : S32.Idx → BitVec 32) (x1 : S106496x1x1024.Idx → EReal) (x2 x3 : S2x32x1024x512.Idx → EReal) (x4 : S2x32x512x1024.Idx → EReal)

/-- The reference's expert of a row: the number of ends at or below it. -/
theorem expert_at (s : Fin 106496) :
    val_main_v8 (F := Ideal) x0 (ix1 s) = BitVec.ofNat 32 (expertOf (fun q => x0 (ix1 q)) s.val) := by
  refine Routing.reduce_count (n := 106496) (m := 32) (by norm_num) (val_main_v6 (F := Ideal) x0) _ _ _ s _ fun q => ?_
  have hs := s.isLt
  have hr : (BitVec.ofNat 32 s.val).toInt = (s.val : ℤ) := by
    rw [BitVec.toInt_eq_toNat_cond, BitVec.toNat_ofNat]
    split_ifs <;> omega
  have hv : val_main_v6 (F := Ideal) x0 (ix2 s q) = IntOp.cmpi .sle (x0 (ix1 q)) (BitVec.ofNat 32 s.val) := by
    pointwise [val_main_v6, val_main_v4, val_main_v5, val_main_v1, val_main_v3, val_main_v2]
  refine (Eq.to_iff (congrArg (· = 1#1) hv)).trans ?_
  have hq : Ended (fun q => x0 (ix1 q)) s.val q.val ↔ (x0 (ix1 q)).toInt ≤ (s.val : ℤ) := ⟨fun ⟨_, h⟩ => h, fun h => ⟨q.isLt, h⟩⟩
  rw [WordCmp.cmpi_sle_eq, hr, hq]
  by_cases h : (x0 (ix1 q)).toInt ≤ (s.val : ℤ) <;> simp [h]

/-- A masked hidden unit. -/
theorem hidden_at (s : Fin 106496) (e : Fin 32) (f : Fin 512) : val_main_v20 (F := Ideal) x0 x1 x2 x3 (ix3 s e f)
    = @HMul.hMul EReal EReal EReal _ (hidden (fun k => x1 (ix3 s 0 k)) (fun k => x2 (ix4 0 e k f)) (fun k => x3 (ix4 0 e k f)))
      (if expertOf (fun q => x0 (ix1 q)) s.val = e.val then 1 else 0) := by
  rw [← one_hot (Nat.lt_succ_of_le (expertOf_le _ _)) e.isLt, ← expert_at]
  pointwise [val_main_v20, val_main_v17, val_main_v19, val_main_v18, val_main_v9, val_main_v13, val_main_v16, val_main_v12, val_main_v15,
    val_main_v14, val_main_v11, val_main_v10, val_main_v0, val_main_call1_v5, val_main_call1_v4, val_main_call1_v3, val_main_call1_v2,
    val_main_call1_v1, val_main_call1_v0, val_main_call1_cst, val_main_call1_cst_0, val_main_call0_v4, val_main_call0_v3, val_main_call0_v2,
    val_main_call0_v1, val_main_call0_v0]
  rfl

/-- The reference's result, at an index. -/
theorem result_at (s : Fin 106496) (n : Fin 1024) : val_main_v24 (F := Ideal) x0 x1 x2 x3 x4 (ix3 s 0 n)
    = ffnAt 0 (fun q => x0 (ix1 q)) x1 x2 x3 x4 s n := by
  have h : val_main_v24 (F := Ideal) x0 x1 x2 x3 x4 (ix3 s 0 n)
      = ∑ e : Fin 32, ∑ f : Fin 512, @HMul.hMul EReal EReal EReal _ (val_main_v20 (F := Ideal) x0 x1 x2 x3 (ix3 s e f)) (x4 (ix4 0 e f n)) := by
    pointwise [val_main_v24, val_main_v23, val_main_v22, val_main_v21]
  rw [h]
  simp only [hidden_at]
  exact masked_sum 0 _ x1 x2 x3 x4 s n

/-- The whole array. -/
theorem arrays_eq : val_main_v24 (F := Ideal) x0 x1 x2 x3 x4 = fun i => ffnAt 0 (fun q => x0 (ix1 q)) x1 x2 x3 x4 (i 0) (i 2) := by
  funext i
  have hi : i = ix3 (i 0) 0 (i 2) := (eq_ix3 i).trans (congrArg (fun z => ix3 (i 0) z (i 2)) (Subsingleton.elim (α := Fin 1) _ _))
  exact (congrArg (val_main_v24 (F := Ideal) x0 x1 x2 x3 x4) hi).trans (result_at x0 x1 x2 x3 x4 (i 0) (i 2))

end Cert.Reference2Ideal.Ffn

namespace Cert.Reference6Ideal.Ffn

open Cert.Reference6Ideal Cert.Reference6Ideal.Read Cert.Ffn
open Idealize.ShloMosaic Idealize.ShloMosaic.TcCoe Idealize.ShloMosaic.Tactic

variable (x0 : S32.Idx → BitVec 32) (x1 : S106496x1x1024.Idx → EReal) (x2 x3 : S2x32x1024x512.Idx → EReal) (x4 : S2x32x512x1024.Idx → EReal)

/-- The second layer's reference has the same expert of a row. -/
theorem expert_at (s : Fin 106496) :
    val_main_v8 (F := Ideal) x0 (ix1 s) = BitVec.ofNat 32 (expertOf (fun q => x0 (ix1 q)) s.val) :=
  Cert.Reference2Ideal.Ffn.expert_at x0 s

/-- A masked hidden unit. -/
theorem hidden_at (s : Fin 106496) (e : Fin 32) (f : Fin 512) : val_main_v20 (F := Ideal) x0 x1 x2 x3 (ix3 s e f)
    = @HMul.hMul EReal EReal EReal _ (hidden (fun k => x1 (ix3 s 0 k)) (fun k => x2 (ix4 1 e k f)) (fun k => x3 (ix4 1 e k f)))
      (if expertOf (fun q => x0 (ix1 q)) s.val = e.val then 1 else 0) := by
  rw [← one_hot (Nat.lt_succ_of_le (expertOf_le _ _)) e.isLt, ← expert_at]
  pointwise [val_main_v20, val_main_v17, val_main_v19, val_main_v18, val_main_v9, val_main_v13, val_main_v16, val_main_v12, val_main_v15,
    val_main_v14, val_main_v11, val_main_v10, val_main_v0, val_main_call1_v5, val_main_call1_v4, val_main_call1_v3, val_main_call1_v2,
    val_main_call1_v1, val_main_call1_v0, val_main_call1_cst, val_main_call1_cst_0, val_main_call0_v4, val_main_call0_v3, val_main_call0_v2,
    val_main_call0_v1, val_main_call0_v0]
  rfl

/-- Its result, at an index. -/
theorem result_at (s : Fin 106496) (n : Fin 1024) : val_main_v24 (F := Ideal) x0 x1 x2 x3 x4 (ix3 s 0 n)
    = ffnAt 1 (fun q => x0 (ix1 q)) x1 x2 x3 x4 s n := by
  have h : val_main_v24 (F := Ideal) x0 x1 x2 x3 x4 (ix3 s 0 n)
      = ∑ e : Fin 32, ∑ f : Fin 512, @HMul.hMul EReal EReal EReal _ (val_main_v20 (F := Ideal) x0 x1 x2 x3 (ix3 s e f)) (x4 (ix4 1 e f n)) := by
    pointwise [val_main_v24, val_main_v23, val_main_v22, val_main_v21]
  rw [h]
  simp only [hidden_at]
  exact masked_sum 1 _ x1 x2 x3 x4 s n

/-- The whole array. -/
theorem arrays_eq : val_main_v24 (F := Ideal) x0 x1 x2 x3 x4 = fun i => ffnAt 1 (fun q => x0 (ix1 q)) x1 x2 x3 x4 (i 0) (i 2) := by
  funext i
  have hi : i = ix3 (i 0) 0 (i 2) := (eq_ix3 i).trans (congrArg (fun z => ix3 (i 0) z (i 2)) (Subsingleton.elim (α := Fin 1) _ _))
  exact (congrArg (val_main_v24 (F := Ideal) x0 x1 x2 x3 x4) hi).trans (result_at x0 x1 x2 x3 x4 (i 0) (i 2))

end Cert.Reference6Ideal.Ffn

namespace Cert.Ffn

open Idealize.ShloMosaic Idealize.ShloMosaic.TcCoe Idealize.SL.Sem
open Cert.Kernel2Ideal.Ffn (first second)

/-- The first layer's reference, with or without the precondition, runs to its end and leaves its arguments as they were. -/
theorem reference_frame : Cert.quiescent_Reference2Ideal ∧ Cert.quiescent_Reference2Ideal_pre_ends_padded := by
  have h : Cert.quiescent_Reference2Ideal := fun m ρ _ =>
    (θ_run _ _ _).mono (fun r h => ⟨fun c => (h c).2, sem_eq_zero_of_no_sems (by decide) r.2⟩) (Cert.Reference2Ideal.Value.run m ρ)
  exact ⟨h, fun m ρ _ => h m ρ trivial⟩

/-- And the second layer's. -/
theorem reference_frame_second : Cert.quiescent_Reference6Ideal ∧ Cert.quiescent_Reference6Ideal_pre_ends_padded := by
  have h : Cert.quiescent_Reference6Ideal := fun m ρ _ =>
    (θ_run _ _ _).mono (fun r h => ⟨fun c => (h c).2, sem_eq_zero_of_no_sems (by decide) r.2⟩) (Cert.Reference6Ideal.Value.run m ρ)
  exact ⟨h, fun m ρ _ => h m ρ trivial⟩

/-- The first layer's kernel and reference end with equal results and leave their arguments as they were. -/
theorem algebraic : Cert.algebraic_Kernel2Ideal_Reference2Ideal := fun m ρ m' ρ' h hag =>
  ⟨fun c => (Cert.Kernel2Ideal.Ffn.dats first m (Cert.Kernel2Ideal.Ffn.adm m first (Cert.Kernel2Ideal.Ffn.padded h 0)) 0 c).arrAt 4
      (Cert.Kernel2Ideal.Ffn.cfgA first (Cert.Kernel2Ideal.Ffn.adm m first (Cert.Kernel2Ideal.Ffn.padded h 0))).N,
    by
      rw [Cert.Kernel2Ideal.Ffn.defs_eq, Cert.Kernel2Ideal.Ffn.main_eq]
      exact (θ_run _ _ _).mono (fun _ hr => hr.1) (Cert.Kernel2Ideal.Ffn.run_blocks first m ρ h),
    (θ_run _ _ _).mono (fun _ hr c => ⟨(hr c).1.trans (by
        obtain rfl : c = 0 := Subsingleton.elim _ _
        rw [Cert.Reference2Ideal.Read.val_main_v24_eq, (hag 0).1, (hag 0).2.1, (hag 0).2.2.1, (hag 0).2.2.2.1, (hag 0).2.2.2.2, Cert.Reference2Ideal.Ffn.arrays_eq]
        exact (Cert.Kernel2Ideal.Ffn.final_at first m 0 _).symm), (hr c).2⟩)
      (Cert.Reference2Ideal.Value.run m' ρ')⟩

/-- And the second layer's. -/
theorem algebraic_second : Cert.algebraic_Kernel6Ideal_Reference6Ideal := fun m ρ m' ρ' h hag =>
  ⟨fun c => (Cert.Kernel2Ideal.Ffn.dats second m (Cert.Kernel2Ideal.Ffn.adm m second (Cert.Kernel2Ideal.Ffn.padded h 0)) 0 c).arrAt 4
      (Cert.Kernel2Ideal.Ffn.cfgA second (Cert.Kernel2Ideal.Ffn.adm m second (Cert.Kernel2Ideal.Ffn.padded h 0))).N,
    by
      rw [Cert.Kernel6Ideal.Ffn.defs_same, Cert.Kernel6Ideal.Ffn.main_same]
      exact (θ_run _ _ _).mono (fun _ hr => hr.1) (Cert.Kernel2Ideal.Ffn.run_blocks second m ρ h),
    (θ_run _ _ _).mono (fun _ hr c => ⟨(hr c).1.trans (by
        obtain rfl : c = 0 := Subsingleton.elim _ _
        rw [Cert.Reference6Ideal.Read.val_main_v24_eq, (hag 0).1, (hag 0).2.1, (hag 0).2.2.1, (hag 0).2.2.2.1, (hag 0).2.2.2.2, Cert.Reference6Ideal.Ffn.arrays_eq]
        exact (Cert.Kernel2Ideal.Ffn.final_at second m 0 _).symm), (hr c).2⟩)
      (Cert.Reference6Ideal.Value.run m' ρ')⟩

/-- The two printed programs of the first layer have the same text … -/
theorem preserves : Cert.preserves_Kernel2_Kernel2Ideal := trivial

/-- … and those of the second. -/
theorem preserves_second : Cert.preserves_Kernel6_Kernel6Ideal := trivial

end Cert.Ffn

end
-- ==== Proof.RouteMath.lean ====
/- The first greatest entry of a row, in the two ways the mixing call's router and its reference find it. -/
module

public import Idealize.ShloMosaic.PureOps.Ideal
public import Idealize.ShloMosaic.Lib.SortFacts
public import Idealize.ShloMosaic.Lib.Pointwise

@[expose] public section

noncomputable section

namespace Cert.Route

open Idealize.ShloMosaic

/-- `i` is the first place of the greatest entry of `f`. -/
def FirstMax {n : ℕ} (f : Fin n → EReal) (i : Fin n) : Prop := (∀ j, f j ≤ f i) ∧ ∀ j, j < i → f j < f i

/-- A lane's number. -/
def lane (l : Fin 128) : EReal := ((l.val : ℝ) : EReal)

theorem lane_le (a b : Fin 128) : lane a ≤ lane b ↔ a ≤ b := by
  unfold lane
  rw [EReal.coe_le_coe_iff, Nat.cast_le]
  rfl

theorem lane_inj (a b : Fin 128) : lane a = lane b ↔ a = b := by
  rw [le_antisymm_iff, lane_le, lane_le, ← le_antisymm_iff]

/-- The greatest of a row's entries is the one at its first greatest place … -/
theorem FirstMax.fold_max {n : ℕ} {f : Fin n → EReal} {i : Fin n} (h : FirstMax f i) : Finset.univ.fold max ⊥ f = f i :=
  le_antisymm (Finset.fold_max_le _ |>.2 ⟨bot_le, fun j _ => h.1 j⟩) (Finset.le_fold_max _ |>.2 (Or.inr ⟨i, Finset.mem_univ _, le_rfl⟩))

/-- … and the least lane that holds it is that place. -/
theorem FirstMax.fold_min {f : Fin 128 → EReal} {i : Fin 128} (h : FirstMax f i) :
    Finset.univ.fold min ⊤ (fun x => if f x = f i then lane x else (128 : EReal)) = lane i := by
  refine le_antisymm (Finset.fold_min_le _ |>.2 (Or.inr ⟨i, Finset.mem_univ _, by rw [if_pos rfl]⟩))
    (Finset.le_fold_min _ |>.2 ⟨le_top, fun x _ => ?_⟩)
  split_ifs with e
  · rw [lane_le]
    by_contra hlt
    exact (h.2 x (not_le.mp hlt)).ne e
  · have : ((i.val : ℝ) : EReal) ≤ ((128 : ℝ) : EReal) := by
      rw [EReal.coe_le_coe_iff]
      exact_mod_cast i.isLt.le
    exact this

/-- Entries above `⊥` in increasing places, among lanes that hold `⊥` elsewhere: the first greatest of the lanes is at the place of
    the first greatest of the entries. -/
theorem FirstMax.embed {n : ℕ} {u : Fin n → EReal} {i : Fin n} (h : FirstMax u i) {f : Fin 128 → EReal} (p : Fin n → Fin 128)
    (hp : StrictMono p) (hu : ∀ j, f (p j) = u j) (hb : ∀ l, (∀ j, p j ≠ l) → f l = ⊥) (hi : ⊥ < u i) : FirstMax f (p i) := by
  constructor
  · intro l
    rw [hu]
    by_cases hl : ∃ j, p j = l
    · obtain ⟨j, rfl⟩ := hl
      rw [hu]
      exact h.1 j
    · rw [hb l fun j e => hl ⟨j, e⟩]
      exact bot_le
  · intro l hlt
    rw [hu]
    by_cases hl : ∃ j, p j = l
    · obtain ⟨j, rfl⟩ := hl
      rw [hu]
      exact h.2 j (hp.lt_iff_lt.mp hlt)
    · rw [hb l fun j e => hl ⟨j, e⟩]
      exact hi

/-- Inserting before later places only: the order by the entry alone and the order by the entry and then the place agree. -/
theorem insertBefore_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b (List.mem_cons_self ..), ih fun c hc => h c (List.mem_cons_of_mem _ hc)]

/-- The same of a whole sort of places in increasing order. -/
theorem stableSort_congr {n : ℕ} (B B' : Fin n → Fin n → Bool) (h : ∀ a b, a < b → B b a = B' b a) (l : List (Fin n))
    (hl : l.Pairwise (· < ·)) : stableSort B l = stableSort B' l := by
  induction l with
  | nil => rfl
  | cons a l ih =>
    rw [List.pairwise_cons] at hl
    unfold stableSort
    rw [ih hl.2]
    exact insertBefore_congr B B' a _ fun b hb => h a b (hl.1 b ((perm_stableSort B' l).mem_iff.mp hb))

/-- Greater entries first. -/
def before {n : ℕ} (f : Fin n → EReal) (a b : Fin n) : Bool := decide (f b < f a)
/-- Greater entries first, and of equal ones the one in the lower place. -/
def before' {n : ℕ} (f : Fin n → EReal) (a b : Fin n) : Bool := decide (f b < f a ∨ f a = f b ∧ a < b)

/-- Of two sorted places the later's entry is not greater, and is less if it comes from a lower place. -/
theorem sorted_pair {n : ℕ} (f : Fin n → EReal) (i j : Fin n) (hij : i < j) :
    f (sortedFrom (before f) j) ≤ f (sortedFrom (before f) i)
    ∧ (sortedFrom (before f) j < sortedFrom (before f) i → f (sortedFrom (before f) j) < f (sortedFrom (before f) i)) := by
  have e : sortPositions n (before f) = sortPositions n (before' f) := by
    refine stableSort_congr _ _ (fun a b hab => ?_) _ (List.pairwise_lt_finRange n)
    unfold before before'
    rw [decide_eq_decide]
    constructor
    · exact Or.inl
    · rintro (h | h)
      · exact h
      · exact absurd h.2 (not_lt.mpr hab.le)
  have hs : (sortPositions n (before' f)).Pairwise fun a b => before' f b a = false := by
    refine pairwise_stableSort _ _ (fun a b h => ?_) (fun _ _ h => h) (fun a b c hab hbc => ?_) _
    · unfold before' at h ⊢
      rw [decide_eq_true_eq] at h
      rw [decide_eq_false_iff_not]
      rintro (h' | h') <;> rcases h with h | h
      · exact lt_asymm h h'
      · exact h'.ne' h.1.symm
      · exact h.ne h'.1.symm.symm
      · exact lt_asymm h.2 h'.2
    · unfold before' at *
      rw [decide_eq_false_iff_not] at *
      push Not at *
      refine ⟨hab.1.trans hbc.1, fun eac => ?_⟩
      have e1 : f a = f b := le_antisymm hab.1 (eac ▸ hbc.1)
      have e2 : f b = f c := e1.symm.trans eac
      exact (hbc.2 e2).trans (hab.2 e1)
  rw [← e] at hs
  have h := List.pairwise_iff_get.mp hs (i.cast (length_sortPositions n (before f)).symm) (j.cast (length_sortPositions n (before f)).symm) hij
  change before' f (sortedFrom (before f) j) (sortedFrom (before f) i) = false at h
  unfold before' at h
  rw [decide_eq_false_iff_not] at h
  push Not at h
  exact ⟨h.1, fun hlt => lt_of_le_of_ne h.1 fun e => absurd (h.2 e) (not_le.mpr hlt)⟩

/-- The first of the sorted places is that of the first greatest entry. -/
theorem sorted_first {n : ℕ} (f : Fin (n + 1) → EReal) : FirstMax f (sortedFrom (before f) 0) := by
  have key : ∀ j, j ≠ sortedFrom (before f) 0 → f j ≤ f (sortedFrom (before f) 0) ∧ (j < sortedFrom (before f) 0 → f j < f (sortedFrom (before f) 0)) := by
    intro j hj
    obtain ⟨k, rfl⟩ := sortedFrom_surjective (before f) j
    exact sorted_pair f 0 k (Fin.pos_of_ne_zero fun e => hj (by rw [e]))
  refine ⟨fun j => ?_, fun j hlt => (key j hlt.ne).2 hlt⟩
  by_cases e : j = sortedFrom (before f) 0
  · rw [e]
  · exact (key j e).1

/-- The second is that of the first greatest of the others. -/
theorem sorted_second {n : ℕ} (f : Fin (n + 2) → EReal) (hf : ∀ j, ⊥ < f j) :
    FirstMax (fun e => if e = sortedFrom (before f) 0 then ⊥ else f e) (sortedFrom (before f) 1) := by
  have hne : sortedFrom (before f) 1 ≠ sortedFrom (before f) 0 := fun e => absurd (sortedFrom_injective _ e) (by simp)
  constructor
  · intro j
    dsimp only
    rw [if_neg hne]
    split_ifs with e
    · exact bot_le
    · obtain ⟨k, rfl⟩ := sortedFrom_surjective (before f) j
      by_cases hk : k = 1
      · rw [hk]
      · refine (sorted_pair f 1 k ?_).1
        have : k ≠ 0 := fun e' => e (by rw [e'])
        have h1 : k.val ≠ 1 := fun e' => hk (Fin.ext e')
        have h0 : k.val ≠ 0 := fun e' => this (Fin.ext e')
        show (1 : Fin (n + 2)).val < k.val
        rw [Fin.val_one]
        omega
  · intro j hlt
    dsimp only
    rw [if_neg hne]
    split_ifs with e
    · exact hf _
    · obtain ⟨k, rfl⟩ := sortedFrom_surjective (before f) j
      have hk : k ≠ 1 := fun e' => absurd hlt (by rw [e']; exact lt_irrefl _)
      refine (sorted_pair f 1 k ?_).2 hlt
      have : k ≠ 0 := fun e' => e (by rw [e'])
      have h1 : k.val ≠ 1 := fun e' => hk (Fin.ext e')
      have h0 : k.val ≠ 0 := fun e' => this (Fin.ext e')
      show (1 : Fin (n + 2)).val < k.val
      rw [Fin.val_one]
      omega

/-- A row's slice from its start. -/
theorem slice_at {α : Type} {R n k : ℕ} (y : Shape.Idx ⟨2, ![R, n]⟩ → α) (hk : k ≤ n)
    (h : Shape.Slices ⟨2, ![R, n]⟩ (fun _ => 0) ⟨2, ![R, k]⟩) (r : Fin R) (j : Fin k) :
    extractStridedSlice ⟨2, ![R, k]⟩ (fun _ => 0) y h (ix2 r j) = y (ix2 r (j.castLE hk)) := by
  unfold extractStridedSlice
  refine congrArg y (funext fun a => Fin.ext ?_)
  fin_cases a <;> simp

/-- A row's place along its columns. -/
theorem along_at {R n : ℕ} (r : Fin R) (j k : Fin n) : Shape.Idx.along (s := ⟨2, ![R, n]⟩) (ix2 r j) 1 k = ix2 r k := by
  funext a
  fin_cases a <;> rfl

/-- The host's order of a row's entries is the one by the greater entry. -/
theorem before_eq {R n : ℕ} (x : Shape.Idx ⟨2, ![R, n]⟩ → EReal) (r : Fin R) (j : Fin n) :
    (fun k k' : Fin n => FloatOps.cmpfTotal (F := Ideal) (φ := .f32) .gt (x (Shape.Idx.along (s := ⟨2, ![R, n]⟩) (ix2 r j) 1 k))
      (x (Shape.Idx.along (s := ⟨2, ![R, n]⟩) (ix2 r j) 1 k')) == 1#1) = before fun e => x (ix2 r e) := by
  funext a b
  rw [along_at, along_at]
  unfold before
  change (BitVec.ofBool (decide (x (ix2 r b) < x (ix2 r a))) == 1#1) = _
  cases decide (x (ix2 r b) < x (ix2 r a)) <;> rfl

/-- The sort the host's `top_k` is the start of. -/
def sorted {R n : ℕ} (x : Shape.Idx ⟨2, ![R, n]⟩ → EReal) : (Shape.Idx ⟨2, ![R, n]⟩ → EReal) × IVec ⟨2, ![R, n]⟩ 32 :=
  Host.sort2 ⟨2, ![R, n]⟩ 1 (fun l r => FloatOps.cmpfTotal (F := Ideal) (φ := .f32) .gt l.1 r.1) x
    fun i => if hd : 1 < (⟨2, ![R, n]⟩ : Shape).rank then iotaInDim ⟨2, ![R, n]⟩ 32 ⟨1, hd⟩ i else 0#32

/-- The places the sort gives in a row. -/
theorem sorted_place {R n : ℕ} (x : Shape.Idx ⟨2, ![R, n]⟩ → EReal) (r : Fin R) (j : Fin n) :
    (sorted x).2 (ix2 r j) = BitVec.ofNat 32 (sortedFrom (before fun e => x (ix2 r e)) j).val :=
  congrArg (fun B => BitVec.ofNat 32 (sortedFrom B j).val) (before_eq x r j)

/-- The entries it gives. -/
theorem sorted_entry {R n : ℕ} (x : Shape.Idx ⟨2, ![R, n]⟩ → EReal) (r : Fin R) (j : Fin n) :
    (sorted x).1 (ix2 r j) = x (ix2 r (sortedFrom (before fun e => x (ix2 r e)) j)) :=
  (congrArg (fun B => x (Shape.Idx.along (s := ⟨2, ![R, n]⟩) (ix2 r j) 1 (sortedFrom B j))) (before_eq x r j)).trans
    (congrArg x (along_at r j _))

/-- The places the host's `top_k` gives in a row … -/
theorem topK_place {R n k : ℕ} (x : Shape.Idx ⟨2, ![R, n]⟩ → EReal) (hk : k ≤ n)
    (h : Shape.Slices ⟨2, ![R, n]⟩ (fun _ => 0) ⟨2, ![R, k]⟩) (r : Fin R) (j : Fin k) :
    (Host.topK (α := Ideal .f32) ⟨2, ![R, k]⟩ 1 (FloatOps.cmpfTotal .gt) x h).2 (ix2 r j)
      = BitVec.ofNat 32 (sortedFrom (before fun e => x (ix2 r e)) (j.castLE hk)).val := by
  have e : (Host.topK (α := Ideal .f32) ⟨2, ![R, k]⟩ 1 (FloatOps.cmpfTotal .gt) x h).2
    = extractStridedSlice ⟨2, ![R, k]⟩ (fun _ => 0) (sorted x).2 h := rfl
  rw [e]
  exact (slice_at _ hk h r j).trans (sorted_place x r _)

/-- … and the entries. -/
theorem topK_entry {R n k : ℕ} (x : Shape.Idx ⟨2, ![R, n]⟩ → EReal) (hk : k ≤ n)
    (h : Shape.Slices ⟨2, ![R, n]⟩ (fun _ => 0) ⟨2, ![R, k]⟩) (r : Fin R) (j : Fin k) :
    (Host.topK (α := Ideal .f32) ⟨2, ![R, k]⟩ 1 (FloatOps.cmpfTotal .gt) x h).1 (ix2 r j)
      = x (ix2 r (sortedFrom (before fun e => x (ix2 r e)) (j.castLE hk))) := by
  have e : (Host.topK (α := Ideal .f32) ⟨2, ![R, k]⟩ 1 (FloatOps.cmpfTotal .gt) x h).1
    = extractStridedSlice ⟨2, ![R, k]⟩ (fun _ => 0) (sorted x).1 h := rfl
  rw [e]
  exact (slice_at _ hk h r j).trans (sorted_entry x r _)

end Cert.Route

end
-- ==== Proof.RouteEq.lean ====
/- A row of the mixing call's router: the two experts of largest logit in the group of largest logit and their weights, as the
   kernel finds them over its 128 lanes and as the reference does, from real logits. -/
module

public import proofs.«01_k».proof.Proof.RouteMath

@[expose] public section

noncomputable section

namespace Cert.Route

open Idealize.ShloMosaic

/-! ### What a row's entries are -/

/-- The logit of expert `e` of group `g`. -/
def ofGroup (f : Fin 32 → ℝ) (g : Fin 4) (e : Fin 8) : ℝ := f ⟨8 * g.val + e.val, by omega⟩

/-- Group `g` has the first largest logit of the four, and experts `e1` and `e2` the first and the second largest of its eight. -/
structure Routed (c : Fin 4 → ℝ) (f : Fin 32 → ℝ) (g : Fin 4) (e1 e2 : Fin 8) : Prop where
  group : FirstMax (fun i => (c i : EReal)) g
  first : FirstMax (fun e => (ofGroup f g e : EReal)) e1
  second : FirstMax (fun e => if e = e1 then ⊥ else (ofGroup f g e : EReal)) e2

/-- The softmax's weight of the chosen group. -/
def groupWeight (c : Fin 4 → ℝ) (g : Fin 4) : ℝ := 1 / ∑ i, Real.exp (c i - c g)

/-- The second expert's exponential against the first's. -/
def ratio (f : Fin 32 → ℝ) (g : Fin 4) (e1 e2 : Fin 8) : ℝ := Real.exp (ofGroup f g e2 - ofGroup f g e1)

/-- The row: the two experts' numbers, their weights, and zeros. -/
def entry (c : Fin 4 → ℝ) (f : Fin 32 → ℝ) (g : Fin 4) (e1 e2 : Fin 8) (l : ℕ) : ℝ :=
  if l = 0 then ((8 * g.val + e1.val : ℕ) : ℝ) else if l = 1 then ((8 * g.val + e2.val : ℕ) : ℝ)
  else if l = 2 then groupWeight c g / (1 + ratio f g e1 e2) else if l = 3 then groupWeight c g * ratio f g e1 e2 / (1 + ratio f g e1 e2) else 0

variable {c : Fin 4 → ℝ} {f : Fin 32 → ℝ} {g : Fin 4} {e1 e2 : Fin 8}

/-- The two experts differ. -/
theorem Routed.ne (h : Routed c f g e1 e2) : e2 ≠ e1 := by
  intro e
  obtain ⟨j, hj⟩ : ∃ j : Fin 8, j ≠ e1 := exists_ne e1
  have := h.second.1 j
  dsimp only at this
  rw [if_neg hj, if_pos e] at this
  exact absurd (le_bot_iff.mp this) (EReal.coe_ne_bot _)

/-- The sum of the groups' exponentials is positive. -/
theorem sum_pos (c : Fin 4 → ℝ) (g : Fin 4) : 0 < ∑ i, Real.exp (c i - c g) := Finset.sum_pos (fun _ _ => Real.exp_pos _) ⟨g, Finset.mem_univ _⟩

/-- A quotient of reals by a positive one. -/
theorem div_coe (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

/-- A sum of reals. -/
theorem coe_sum {ι : Type} (s : Finset ι) (a : ι → ℝ) : ((∑ i ∈ s, a i : ℝ) : EReal) = ∑ i ∈ s, (a i : EReal) :=
  map_sum (⟨⟨fun x : ℝ => (x : EReal), rfl⟩, EReal.coe_add⟩ : ℝ →+ EReal) a s

/-- The exponential of a real. -/
theorem exp_coe (a : ℝ) : Ideal.exp (a : EReal) = ((Real.exp a : ℝ) : EReal) := rfl

/-! ### The kernel's row -/

/-- The greatest of the lanes … -/
def greatest (f : Fin 128 → EReal) : EReal := Finset.univ.fold max ⊥ f
/-- … the least lane that holds it … -/
def place (f : Fin 128 → EReal) : EReal := Finset.univ.fold min ⊤ fun x => if f x = greatest f then lane x else 128
/-- … and the lanes with that one masked. -/
def others (f : Fin 128 → EReal) (l : Fin 128) : EReal := if lane l = place f then ⊥ else f l
/-- The groups' logits, in the first four lanes. -/
def coarse (L : Fin 128 → EReal) (l : Fin 128) : EReal := if lane l < 4 then L l else ⊥
/-- The chosen group's experts' logits, in their eight lanes. -/
def fine (L : Fin 128 → EReal) (l : Fin 128) : EReal :=
  if 4 + 8 * place (coarse L) ≤ lane l ∧ lane l < 4 + 8 * place (coarse L) + 8 then L l else ⊥
/-- The chosen group's weight. -/
def weight (L : Fin 128 → EReal) : EReal := Ideal.div 1 (∑ l, if lane l < 4 then Ideal.exp (L l - greatest (coarse L)) else 0)
/-- The second expert's exponential against the first's. -/
def second (L : Fin 128 → EReal) : EReal := Ideal.exp (greatest (others (fine L)) - greatest (fine L))
/-- The kernel's row, from the lanes' logits. -/
def kernelEntry (L : Fin 128 → EReal) (l : Fin 128) : EReal :=
  if lane l = 0 then place (fine L) - 4 else if lane l = 1 then place (others (fine L)) - 4
  else if lane l = 2 then Ideal.div (weight L) (1 + second L) else if lane l = 3 then Ideal.div (weight L * second L) (1 + second L) else 0

theorem FirstMax.greatest_eq {f : Fin 128 → EReal} {i : Fin 128} (h : FirstMax f i) : greatest f = f i := h.fold_max
theorem FirstMax.place_eq {f : Fin 128 → EReal} {i : Fin 128} (h : FirstMax f i) : place f = lane i := by
  unfold place
  rw [h.greatest_eq]
  exact h.fold_min

/-- Small whole numbers, as reals and as extended reals. -/
theorem nat_two : (((2 : ℕ) : ℝ) : EReal) = 2 := by rw [Nat.cast_ofNat]; rfl
theorem nat_three : (((3 : ℕ) : ℝ) : EReal) = 3 := by rw [Nat.cast_ofNat]; rfl
theorem nat_four : (((4 : ℕ) : ℝ) : EReal) = 4 := by rw [Nat.cast_ofNat]; rfl
theorem nat_add_eight (n : ℕ) : (((n + 8 : ℕ) : ℝ) : EReal) = ((n : ℝ) : EReal) + 8 := by
  rw [Nat.cast_add, EReal.coe_add, Nat.cast_ofNat]
  rfl

/-- A lane's number against a whole number. -/
theorem lane_lt_nat (l : Fin 128) (n : ℕ) : lane l < ((n : ℝ) : EReal) ↔ l.val < n := by
  unfold lane
  rw [EReal.coe_lt_coe_iff, Nat.cast_lt]
theorem nat_le_lane (l : Fin 128) (n : ℕ) : ((n : ℝ) : EReal) ≤ lane l ↔ n ≤ l.val := by
  unfold lane
  rw [EReal.coe_le_coe_iff, Nat.cast_le]
theorem lane_eq_nat (l : Fin 128) (n : ℕ) : lane l = ((n : ℝ) : EReal) ↔ l.val = n := by
  unfold lane
  rw [EReal.coe_eq_coe_iff, Nat.cast_inj]

/-- The lane of a group and of an expert. -/
abbrev groupLane (i : Fin 4) : Fin 128 := ⟨i.val, by omega⟩
abbrev expertLane (j : Fin 32) : Fin 128 := ⟨4 + j.val, by omega⟩

variable {L : Fin 128 → EReal} (hc : ∀ i : Fin 4, L (groupLane i) = (c i : EReal)) (hf : ∀ j : Fin 32, L (expertLane j) = (f j : EReal))
  (h : Routed c f g e1 e2)
include hc h

/-- The groups' lanes have their first greatest at the group. -/
theorem coarse_first : FirstMax (coarse L) ⟨g.val, by omega⟩ := by
  refine h.group.embed (fun i => ⟨i.val, by omega⟩) (fun a b hab => hab) (fun j => ?_) (fun l hl => ?_) (EReal.bot_lt_coe _)
  · unfold coarse
    rw [if_pos (lt_of_lt_of_eq ((lane_lt_nat _ 4).2 j.isLt) nat_four), hc]
  · unfold coarse
    rw [if_neg]
    intro hlt
    have := (lane_lt_nat l 4).1 (lt_of_lt_of_eq hlt nat_four.symm)
    exact hl ⟨l.val, this⟩ rfl

theorem group_place : 4 + 8 * place (coarse L) = (((4 + 8 * g.val : ℕ) : ℝ) : EReal) := by
  rw [(coarse_first hc h).place_eq]
  unfold lane
  push_cast
  norm_cast

theorem weight_eq : weight L = (groupWeight c g : EReal) := by
  have hg : greatest (coarse L) = (c g : EReal) := by
    rw [(coarse_first hc h).greatest_eq]
    unfold coarse
    rw [if_pos (lt_of_lt_of_eq ((lane_lt_nat _ 4).2 g.isLt) nat_four), hc]
  have hs : (∑ l, if lane l < 4 then Ideal.exp (L l - greatest (coarse L)) else 0) = ((∑ i, Real.exp (c i - c g) : ℝ) : EReal) := by
    have e : ∀ l : Fin 128, (if lane l < 4 then Ideal.exp (L l - greatest (coarse L)) else 0) = if l.val < 4 then Ideal.exp (L l - (c g : EReal)) else 0 := by
      intro l
      rw [hg]
      refine if_congr ?_ rfl rfl
      rw [← lane_lt_nat l 4, nat_four]
    simp only [e]
    rw [← Finset.sum_filter]
    rw [coe_sum]
    refine (Finset.sum_bij (fun (i : Fin 4) _ => (⟨i.val, by omega⟩ : Fin 128)) (fun i _ => ?_) (fun a _ b _ hab => ?_) (fun l hl => ?_) (fun i _ => ?_)).symm
    · simp
    · exact Fin.ext (Fin.mk.inj hab)
    · exact ⟨⟨l.val, (Finset.mem_filter.1 hl).2⟩, Finset.mem_univ _, rfl⟩
    · rw [hc, ← EReal.coe_sub, exp_coe]
  unfold weight groupWeight
  rw [hs]
  exact div_coe 1 _ (sum_pos c g)

include hf

/-- The chosen group's lanes, at its experts and elsewhere. -/
theorem fine_at (e : Fin 8) : fine L ⟨4 + 8 * g.val + e.val, by omega⟩ = (ofGroup f g e : EReal) := by
  unfold fine
  rw [group_place hc h, if_pos]
  · exact (congrArg L (Fin.ext (by show 4 + 8 * g.val + e.val = 4 + (8 * g.val + e.val); omega))).trans (hf ⟨8 * g.val + e.val, by omega⟩)
  · refine ⟨(nat_le_lane _ _).2 (by show _ ≤ 4 + 8 * g.val + e.val; omega), ?_⟩
    refine lt_of_lt_of_eq ((lane_lt_nat _ (4 + 8 * g.val + 8)).2 (by show 4 + 8 * g.val + e.val < _; omega)) (nat_add_eight _)

omit hf in
theorem fine_off (l : Fin 128) (hl : ∀ e : Fin 8, (⟨4 + 8 * g.val + e.val, by omega⟩ : Fin 128) ≠ l) : fine L l = ⊥ := by
  unfold fine
  rw [group_place hc h, if_neg]
  rintro ⟨h1, h2⟩
  have a := (nat_le_lane _ _).1 h1
  have b := (lane_lt_nat l (4 + 8 * g.val + 8)).1 (lt_of_lt_of_eq h2 (nat_add_eight _).symm)
  exact hl ⟨l.val - (4 + 8 * g.val), by omega⟩ (Fin.ext (by show 4 + 8 * g.val + (l.val - (4 + 8 * g.val)) = l.val; omega))

theorem fine_first : FirstMax (fine L) ⟨4 + 8 * g.val + e1.val, by omega⟩ :=
  h.first.embed (fun e => ⟨4 + 8 * g.val + e.val, by omega⟩) (fun a b hab => Nat.add_lt_add_left hab _) (fine_at hc hf h)
    (fine_off hc h) (EReal.bot_lt_coe _)

theorem others_first : FirstMax (others (fine L)) ⟨4 + 8 * g.val + e2.val, by omega⟩ := by
  refine h.second.embed (fun e => ⟨4 + 8 * g.val + e.val, by omega⟩) (fun a b hab => Nat.add_lt_add_left hab _) (fun e => ?_)
    (fun l hl => ?_) ?_
  · unfold others
    rw [(fine_first hc hf h).place_eq, fine_at hc hf h]
    refine if_congr ?_ rfl rfl
    rw [lane_inj, Fin.mk.injEq, Fin.ext_iff]
    omega
  · unfold others
    rw [fine_off hc h l hl, ite_self]
  · rw [if_neg h.ne]
    exact EReal.bot_lt_coe _

theorem second_eq : second L = (ratio f g e1 e2 : EReal) := by
  unfold second ratio
  rw [(others_first hc hf h).greatest_eq, (fine_first hc hf h).greatest_eq, fine_at hc hf h]
  unfold others
  rw [(fine_first hc hf h).place_eq, if_neg, fine_at hc hf h, ← EReal.coe_sub, exp_coe]
  rw [lane_inj, Fin.mk.injEq]
  have := h.ne
  rw [Ne, Fin.ext_iff] at this
  omega

/-- The kernel's row is the row. -/
theorem kernelEntry_eq (l : Fin 128) : kernelEntry L l = (entry c f g e1 e2 l.val : EReal) := by
  have hr : (0 : ℝ) < 1 + ratio f g e1 e2 := by unfold ratio; positivity
  have q0 : lane l = 0 ↔ l.val = 0 := (by norm_num : lane l = 0 ↔ lane l = (((0 : ℕ) : ℝ) : EReal)).trans (lane_eq_nat l 0)
  have q1 : lane l = 1 ↔ l.val = 1 := (by norm_num : lane l = 1 ↔ lane l = (((1 : ℕ) : ℝ) : EReal)).trans (lane_eq_nat l 1)
  have q2 : lane l = 2 ↔ l.val = 2 := (by rw [nat_two] : lane l = 2 ↔ lane l = (((2 : ℕ) : ℝ) : EReal)).trans (lane_eq_nat l 2)
  have q3 : lane l = 3 ↔ l.val = 3 := (by rw [nat_three] : lane l = 3 ↔ lane l = (((3 : ℕ) : ℝ) : EReal)).trans (lane_eq_nat l 3)
  have sub4 : ∀ e : Fin 8, lane ⟨4 + 8 * g.val + e.val, by omega⟩ - 4 = (((8 * g.val + e.val : ℕ) : ℝ) : EReal) := by
    intro e
    unfold lane
    rw [← nat_four, ← EReal.coe_sub, EReal.coe_eq_coe_iff]
    push_cast
    ring
  unfold kernelEntry entry
  rw [(fine_first hc hf h).place_eq, (others_first hc hf h).place_eq, weight_eq hc h, second_eq hc hf h, sub4, sub4]
  rw [show (1 : EReal) + (ratio f g e1 e2 : EReal) = ((1 + ratio f g e1 e2 : ℝ) : EReal) from rfl, ← EReal.coe_mul, div_coe _ _ hr, div_coe _ _ hr]
  simp only [q0, q1, q2, q3]
  split_ifs <;> rfl

omit hc hf h

/-! ### The reference's row -/

/-- A sum against a one at one place. -/
theorem pick (a : Fin 4 → ℝ) (g : Fin 4) : ∑ i, (a i : EReal) * (if i = g then 1 else 0) = (a g : EReal) := by
  rw [Finset.sum_eq_single g]
  · rw [if_pos rfl, mul_one]
  · intro i _ hi
    rw [if_neg hi, mul_zero]
  · exact fun hg => absurd (Finset.mem_univ g) hg

/-- The softmax over the groups at the chosen one. -/
theorem softmax_pick (hg : FirstMax (fun i => (c i : EReal)) g) :
    ∑ x, Ideal.div (Ideal.exp ((c x : EReal) - max ⊥ (Finset.univ.fold max ⊥ fun i => (c i : EReal))))
        (∑ i, Ideal.exp ((c i : EReal) - max ⊥ (Finset.univ.fold max ⊥ fun i => (c i : EReal)))) * (if x = g then 1 else 0)
      = (groupWeight c g : EReal) := by
  rw [hg.fold_max, max_eq_right bot_le]
  have es : (∑ i, Ideal.exp ((c i : EReal) - (c g : EReal))) = ((∑ i, Real.exp (c i - c g) : ℝ) : EReal) := by
    rw [coe_sum]
    exact Finset.sum_congr rfl fun i _ => rfl
  rw [es]
  have e : ∀ x, Ideal.div (Ideal.exp ((c x : EReal) - (c g : EReal))) ((∑ i, Real.exp (c i - c g) : ℝ) : EReal)
      = ((Real.exp (c x - c g) / ∑ i, Real.exp (c i - c g) : ℝ) : EReal) := fun x => div_coe _ _ (sum_pos c g)
  simp only [e]
  rw [pick (fun x => Real.exp (c x - c g) / ∑ i, Real.exp (c i - c g)) g]
  unfold groupWeight
  rw [sub_self, Real.exp_zero]

/-- The softmax over the two experts, times the group's weight. -/
theorem softmax_pair (v : Fin 2 → EReal) (a b w : ℝ) (h0 : v 0 = (a : EReal)) (h1 : v 1 = (b : EReal)) (hab : b ≤ a) (n : Fin 2) :
    Ideal.div (Ideal.exp (v n - max ⊥ (Finset.univ.fold max ⊥ v))) (∑ x, Ideal.exp (v x - max ⊥ (Finset.univ.fold max ⊥ v))) * (w : EReal)
      = ((if n = 0 then w / (1 + Real.exp (b - a)) else w * Real.exp (b - a) / (1 + Real.exp (b - a)) : ℝ) : EReal) := by
  have hm : Finset.univ.fold max ⊥ v = (a : EReal) := by
    refine le_antisymm (Finset.fold_max_le _ |>.2 ⟨bot_le, fun j _ => ?_⟩) (Finset.le_fold_max _ |>.2 (Or.inr ⟨0, Finset.mem_univ _, h0.ge⟩))
    fin_cases j
    · exact h0.le
    · exact h1.le.trans (EReal.coe_le_coe_iff.2 hab)
  have hr : (0 : ℝ) < 1 + Real.exp (b - a) := by positivity
  rw [hm, max_eq_right bot_le, Fin.sum_univ_two, h0, h1]
  have es : Ideal.exp ((a : EReal) - (a : EReal)) + Ideal.exp ((b : EReal) - (a : EReal)) = ((1 + Real.exp (b - a) : ℝ) : EReal) := by
    rw [← EReal.coe_sub, ← EReal.coe_sub, exp_coe, exp_coe, sub_self, Real.exp_zero]
    rfl
  rw [es]
  fin_cases n
  · change Ideal.div (Ideal.exp (v 0 - _)) _ * _ = _
    rw [h0, ← EReal.coe_sub, exp_coe, div_coe _ _ hr, ← EReal.coe_mul, sub_self, Real.exp_zero]
    congr 1
    simp
    ring
  · change Ideal.div (Ideal.exp (v 1 - _)) _ * _ = _
    rw [h1, ← EReal.coe_sub, exp_coe, div_coe _ _ hr, ← EReal.coe_mul]
    congr 1
    simp
    ring

end Cert.Route

end
-- ==== Proof.RouteReal.lean ====
/- The mixed and normalized rows of finite arguments are finite, and what the precondition says of each argument. -/
module

public import proofs.«01_k».proof.Proof.MixOut
public import proofs.«01_k».proof.Proof.RouteEq

@[expose] public section

noncomputable section

namespace Cert.Route

open Idealize.ShloMosaic Cert.Mix

/-- A real number among the extended ones. -/
def Real' (x : EReal) : Prop := ∃ r : ℝ, x = r

theorem Real'.add {x y : EReal} : Real' x → Real' y → Real' (x + y) := fun ⟨a, ha⟩ ⟨b, hb⟩ => ⟨a + b, by rw [ha, hb]; rfl⟩
theorem Real'.sub {x y : EReal} : Real' x → Real' y → Real' (x - y) := fun ⟨a, ha⟩ ⟨b, hb⟩ => ⟨a - b, by rw [ha, hb]; rfl⟩
theorem Real'.mul {x y : EReal} : Real' x → Real' y → Real' (x * y) := fun ⟨a, ha⟩ ⟨b, hb⟩ => ⟨a * b, by rw [ha, hb, EReal.coe_mul]⟩
theorem Real'.sum {ι : Type} (s : Finset ι) {f : ι → EReal} (h : ∀ i, Real' (f i)) : Real' (∑ i ∈ s, f i) := by
  choose r hr using h
  exact ⟨∑ i ∈ s, r i, by rw [coe_sum]; exact Finset.sum_congr rfl fun i _ => hr i⟩

/-- A real less itself is zero. -/
theorem Real'.sub_self {x : EReal} : Real' x → x - x = 0 := fun ⟨a, ha⟩ => by rw [ha, ← EReal.coe_sub, _root_.sub_self, EReal.coe_zero]

/-- The constants: the lengths of the rows, the layer norm's small addend and the input's scale. -/
theorem ofBits_512 : Ideal.ofBits .f32 0x44000000#32 = ((512 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_small : ∃ e : ℝ, 0 < e ∧ Ideal.ofBits .f32 0x3727C5AC#32 = (e : EReal) := by
  refine ⟨_, ?_, by simp [Ideal.ofBits, Ideal.ieee, -EReal.coe_mul]; rfl⟩
  positivity
theorem ofBits_scale : Real' (Ideal.ofBits .f32 0x3FB504F3#32) := ⟨_, by simp [Ideal.ofBits, Ideal.ieee, -EReal.coe_mul]; rfl⟩

/-- The mean of real values. -/
theorem Real'.mean {n : ℕ} {v : Fin n → EReal} {d : ℝ} (hd : 0 < d) (h : ∀ k, Real' (v k)) : Real' (mean (d : EReal) v) := by
  obtain ⟨a, ha⟩ := Real'.sum Finset.univ h
  exact ⟨a / d, by unfold Mix.mean; rw [ha, div_coe _ _ hd]⟩

/-- The inverse root of the mean of real squares and a small positive addend. -/
theorem Real'.rsqrt {n : ℕ} {v : Fin n → EReal} {d : ℝ} (hd : 0 < d) (h : ∀ k, Real' (v k)) :
    Real' (Ideal.rsqrt (Mix.mean (d : EReal) (fun j => v j * v j) + Ideal.ofBits .f32 0x3727C5AC#32)) := by
  choose r hr using h
  obtain ⟨e, he, hb⟩ := ofBits_small
  have hm : Mix.mean (d : EReal) (fun j => v j * v j) = (((∑ j, r j * r j) / d : ℝ) : EReal) := by
    unfold Mix.mean
    rw [← div_coe _ _ hd, coe_sum]
    simp only [hr, EReal.coe_mul]
  have hp : 0 < (∑ j, r j * r j) / d + e := by
    have : 0 ≤ (∑ j, r j * r j) / d := div_nonneg (Finset.sum_nonneg fun j _ => mul_self_nonneg _) hd.le
    linarith
  rw [hm, hb, ← EReal.coe_add]
  refine ⟨(Real.sqrt ((∑ j, r j * r j) / d + e))⁻¹, ?_⟩
  change (if ((∑ j, r j * r j) / d + e) < 0 then (⊥ : EReal) else if ((∑ j, r j * r j) / d + e) = 0 then ⊤ else _) = _
  rw [if_neg (not_lt.mpr hp.le), if_neg hp.ne']

/-- A row over its root mean square. -/
theorem Real'.rms {v g : Fin 512 → EReal} (hv : ∀ k, Real' (v k)) (hg : ∀ k, Real' (g k)) (k : Fin 512) : Real' (rms v g k) := by
  unfold Mix.rms
  rw [ofBits_512]
  exact ((hv k).mul (Real'.rsqrt (by norm_num) hv)).mul (hg k)

/-- The projection. -/
theorem Real'.projected {a b g g' : Fin 512 → EReal} {w : Fin 1024 → EReal} (ha : ∀ k, Real' (a k)) (hb : ∀ k, Real' (b k))
    (hg : ∀ k, Real' (g k)) (hg' : ∀ k, Real' (g' k)) (hw : ∀ k, Real' (w k)) : Real' (projected a b g g' w) :=
  (Real'.sum _ fun k => (Real'.rms ha hg k).mul (hw _)).add (Real'.sum _ fun k => (Real'.rms hb hg' k).mul (hw _))

/-- The layer norm. -/
theorem Real'.normed {h g b : Fin 1024 → EReal} (hh : ∀ k, Real' (h k)) (hg : ∀ k, Real' (g k)) (hb : ∀ k, Real' (b k)) (n : Fin 1024) :
    Real' (normed h g b n) := by
  unfold Mix.normed
  have hc : ∀ k, Real' (centred h k) := fun k => by
    unfold centred
    rw [ofBits_1024]
    exact (hh k).sub (Real'.mean (by norm_num) hh)
  rw [ofBits_1024]
  exact (((hc n).mul (Real'.rsqrt (by norm_num) hc)).mul (hg n)).add (hb n)

/-- A mixed row. -/
theorem Real'.mixAt {R : ℕ} {x : Fin R → Fin 1024 → EReal} {a b : Fin R → Fin 512 → EReal} {g : Fin 1024 → EReal}
    {w : Fin 1024 → Fin 1024 → EReal} {lg lb : Fin 1024 → EReal} (hx : ∀ r k, Real' (x r k)) (ha : ∀ r k, Real' (a r k))
    (hb : ∀ r k, Real' (b r k)) (hg : ∀ k, Real' (g k)) (hw : ∀ j k, Real' (w j k)) (hlg : ∀ k, Real' (lg k)) (hlb : ∀ k, Real' (lb k))
    (r : Fin R) (n : Fin 1024) : Real' (mixAt x a b g w lg lb r n) :=
  Real'.normed (fun k => (ofBits_scale.mul (hx r k)).add (Real'.projected (ha r) (hb r) (fun _ => hg _) (fun _ => hg _) fun j => hw j k)) hlg hlb n

/-- Magnitudes are not negative … -/
theorem abs_nonneg' (a : EReal) : 0 ≤ max a (-a) := by
  rcases le_total 0 a with h | h
  · exact le_max_of_le_left h
  · exact le_max_of_le_right (EReal.neg_nonneg.mpr h)

/-- … one below `⊤` is a real's … -/
theorem real_of_abs {a : EReal} (h : max a (-a) < ⊤) : Real' a := by
  induction a using EReal.rec with
  | bot => simp at h
  | top => simp at h
  | coe r => exact ⟨r, rfl⟩

/-- … and so is each of a sum's, if the sum is below `⊤`. -/
theorem sum_lt {ι : Type} [Fintype ι] {f : ι → EReal} (h : ∑ i, max (f i) (-f i) < ⊤) (i : ι) : Real' (f i) :=
  real_of_abs (lt_of_le_of_lt (Finset.single_le_sum (fun j _ => abs_nonneg' (f j)) (Finset.mem_univ i)) h)

/-- A sum of two that are not negative. -/
theorem both_lt {a b : EReal} (ha : 0 ≤ a) (hb : 0 ≤ b) (h : a + b < ⊤) : a < ⊤ ∧ b < ⊤ :=
  ⟨lt_of_le_of_lt (le_add_of_nonneg_right hb) h, lt_of_le_of_lt (le_add_of_nonneg_left ha) h⟩

end Cert.Route

end
-- ==== Proof.RouteOut.lean ====
/- What a block of rows of the mixing call leaves in its blocks of the router's results. -/
module

public import proofs.«01_k».proof.Proof.Gen.Kernel5Ideal.Value
public import proofs.«01_k».proof.Proof.AttnBlock
public import proofs.«01_k».proof.Proof.AttnOut
public import proofs.«01_k».proof.Proof.MixOut
public import proofs.«01_k».proof.Proof.RouteReal
public import Idealize.ShloMosaic.Lib.Pipeline.ValueKit

@[expose] public section

set_option maxRecDepth 16384

noncomputable section

namespace Cert.Route

open Idealize.ShloMosaic

/-- The kernel's whole constants, and its masks. -/
theorem ofBits_2 : Ideal.ofBits .f32 0x40000000#32 = (2 : EReal) := by
  simp [Ideal.ofBits, Ideal.ieee, -EReal.coe_mul]; norm_num
  rfl
theorem ofBits_3 : Ideal.ofBits .f32 0x40400000#32 = (3 : EReal) := by
  simp [Ideal.ofBits, Ideal.ieee, -EReal.coe_mul]; norm_num
  rfl
theorem ofBits_4 : Ideal.ofBits .f32 0x40800000#32 = (4 : EReal) := by
  simp [Ideal.ofBits, Ideal.ieee, -EReal.coe_mul]; norm_num
  rfl
theorem ofBits_8 : Ideal.ofBits .f32 0x41000000#32 = (8 : EReal) := by
  simp [Ideal.ofBits, Ideal.ieee, -EReal.coe_mul]; norm_num
  rfl
theorem ofBits_top : Ideal.ofBits .f32 0x7F800000#32 = (⊤ : EReal) := by
  simp [Ideal.ofBits, Ideal.ieee]

/-- A select by one test and by two. -/
theorem select_test {α : Type} (P : Prop) [Decidable P] (a b : α) : Scalar.select (BitVec.ofBool (decide P)) a b = if P then a else b := by
  by_cases h : P <;> simp [Scalar.select, h]
theorem select_tests {α : Type} (P Q : Prop) [Decidable P] [Decidable Q] (a b : α) :
    Scalar.select (IntOp.andi (BitVec.ofBool (decide P)) (BitVec.ofBool (decide Q))) a b = if P ∧ Q then a else b := by
  by_cases h : P <;> by_cases h' : Q <;> simp [Scalar.select, IntOp.andi, h, h']

/-- A small whole number's word as a real. -/
theorem word_real (n : ℕ) (h : n < 2 ^ 31) : (FloatOps.sitofp .f32 (BitVec.ofNat 32 n) : Ideal .f32) = (((n : ℕ) : ℝ) : EReal) := by
  change (((BitVec.ofNat 32 n).toInt : ℝ) : EReal) = _
  rw [BitVec.toInt_eq_toNat_of_lt (by rw [BitVec.toNat_ofNat]; omega), BitVec.toNat_ofNat, Nat.mod_eq_of_lt (by omega)]
  simp

end Cert.Route

namespace Cert.Kernel5Ideal.Mix

open Cert.Kernel5Ideal Cert.Kernel5Ideal.Gen Cert.Mix Cert.Route
open Cert.KernelIdeal.Attn (ofBits_neg_inf ofBits_128)
open Idealize.ShloMosaic Idealize.ShloMosaic.TcCoe Idealize.ShloMosaic.Tactic Idealize.SL.Sem

variable (p : FVec Ideal S512x128 .f32) (b : Vec Ideal S1x128 .f32) (r : Fin 512)

/-- A row's logits in the lanes. -/
def lanes (l : Fin 128) : EReal := p (ix2 r l) + b (ix2 0 l)

theorem pay8_at (l : Fin 128) : k0_pay8 (F := Ideal) (ix2 r l) = lane l := by
  refine Eq.trans ?_ (word_real l.val (by omega))
  pointwise [Gen.k0_pay8]

theorem pay7_at (l : Fin 128) : k0_pay7 (F := Ideal) p b (ix2 r l) = lanes p b r l := by
  pointwise [Gen.k0_pay7]
  rfl

theorem pay9_at (l : Fin 128) : k0_pay9 (F := Ideal) (ix2 r l) = BitVec.ofBool (decide (lane l < 4)) := by
  rw [← ofBits_4, ← pay8_at r l]
  pointwise [Gen.k0_pay9]

theorem pay10_at (l : Fin 128) : k0_pay10 (F := Ideal) p b (ix2 r l) = coarse (lanes p b r) l := by
  unfold coarse
  rw [← pay7_at, ← ofBits_neg_inf]
  have e := pay9_at r l
  pointwise [Gen.k0_pay10]
  rw [e, select_test]

theorem pay11_at : k0_pay11 (F := Ideal) p b (ix2 r 0) = greatest (coarse (lanes p b r)) := by
  unfold greatest
  rw [← ofBits_neg_inf, ← funext (pay10_at p b r)]
  pointwise [Gen.k0_pay11]

theorem pay12_at : k0_pay12 (F := Ideal) p b (ix2 r 0) = weight (lanes p b r) := by
  pointwise [Gen.k0_pay12]
  unfold weight
  refine congrArg _ (Finset.sum_congr rfl fun l _ => ?_)
  rw [pay9_at, pay7_at, pay11_at, select_test]

theorem pay13_at (l : Fin 128) : k0_pay13 (F := Ideal) p b (ix2 r l) = fine (lanes p b r) l := by
  pointwise [Gen.k0_pay13]
  simp only [pay8_at, pay7_at, pay10_at, pay11_at, ofBits_4, ofBits_8, ofBits_128, ofBits_top, ofBits_neg_inf]
  rw [select_tests]
  rfl

theorem pay14_at : k0_pay14 (F := Ideal) p b (ix2 r 0) = greatest (fine (lanes p b r)) := by
  unfold greatest
  rw [← ofBits_neg_inf, ← funext (pay13_at p b r)]
  pointwise [Gen.k0_pay14]

theorem pay15_at (l : Fin 128) : k0_pay15 (F := Ideal) p b (ix2 r l)
    = BitVec.ofBool (decide (fine (lanes p b r) l = greatest (fine (lanes p b r)))) := by
  rw [← pay13_at, ← pay14_at]
  pointwise [Gen.k0_pay15]

/-- The kernel's default of a masked least lane. -/
abbrev past : Ideal .f32 := Scalar.ofBits .f32 0x43000000#32

theorem pay16_at : k0_pay16 (F := Ideal) k0_pay8 (k0_pay15 p b) past (ix2 r 0) = place (fine (lanes p b r)) := by
  pointwise [Gen.k0_pay16]
  simp only [pay8_at, pay15_at, ofBits_top, select_test]
  unfold place
  rw [← ofBits_128]

theorem pay17_at (l : Fin 128) : k0_pay17 (F := Ideal) k0_pay8 (k0_pay13 p b) (k0_pay15 p b) past (ix2 r l) = others (fine (lanes p b r)) l := by
  unfold others
  rw [← pay16_at, ← pay8_at r l, ← pay13_at, ← ofBits_neg_inf]
  pointwise [Gen.k0_pay17]

theorem pay18_at : k0_pay18 (F := Ideal) k0_pay8 (k0_pay13 p b) (k0_pay15 p b) past (ix2 r 0) = greatest (others (fine (lanes p b r))) := by
  unfold greatest
  rw [← ofBits_neg_inf, ← funext (pay17_at p b r)]
  pointwise [Gen.k0_pay18]

/-- A row of the router's results, from the lanes. -/
theorem pay1_at (l : Fin 128) :
    k0_pay1 (F := Ideal) (k0_pay19 (k0_pay8 (F := Ideal))) (k0_pay20 k0_pay8 (k0_pay15 p b) past) (k0_pay21 (k0_pay8 (F := Ideal)))
        (k0_pay22 k0_pay8 (k0_pay12 p b) (k0_pay13 p b) (k0_pay14 p b) (k0_pay15 p b) past)
        (k0_pay23 k0_pay8 (k0_pay13 p b) (k0_pay15 p b) past) (ix2 r l)
      = kernelEntry (lanes p b r) l := by
  have h16 : k0_pay16 k0_pay8 (k0_pay15 p b) (Ideal.ofBits .f32 0x43000000#32) (ix2 r 0) = place (fine (lanes p b r)) := pay16_at p b r
  have h17 : ∀ l, k0_pay17 k0_pay8 (k0_pay13 p b) (k0_pay15 p b) (Ideal.ofBits .f32 0x43000000#32) (ix2 r l) = others (fine (lanes p b r)) l := pay17_at p b r
  have h18 : k0_pay18 k0_pay8 (k0_pay13 p b) (k0_pay15 p b) (Ideal.ofBits .f32 0x43000000#32) (ix2 r 0) = greatest (others (fine (lanes p b r))) := pay18_at p b r
  pointwise [Gen.k0_pay1, Gen.k0_pay19, Gen.k0_pay20, Gen.k0_pay21, Gen.k0_pay22, Gen.k0_pay23]
  simp only [pay8_at, h16, h17, h18, pay12_at, pay14_at, ofBits_2, ofBits_3, ofBits_4, ofBits_top]
  rw [ofBits_128]
  rfl

/-! ### The lanes' logits, and what a point stores -/

variable (x0 : Vec Ideal S512x1024 .f32) (x1 x2 : Vec Ideal S512x512 .f32) (x3 : Vec Ideal S1x1024 .f32) (x4 : Vec Ideal S1024x1024 .bf16)
    (x5 x6 : Vec Ideal S1x1024 .f32) (x7 : Vec Ideal S1024x256 .bf16) (x8 : Vec Ideal S1x128 .f32)

/-- The row that a point normalizes. -/
def row (n : Fin 1024) : EReal :=
  mixAt (fun r k => x0 (ix2 r k)) (fun r k => x1 (ix2 r k)) (fun r k => x2 (ix2 r k)) (fun k => x3 (ix2 0 k)) (fun j k => x4 (ix2 j k))
    (fun k => x5 (ix2 0 k)) (fun k => x6 (ix2 0 k)) r n

/-- Its logits, of the weights' two halves: the row's own remainder is zero where the row is finite. -/
def logits (l : Fin 128) : EReal :=
  ((∑ k, row r x0 x1 x2 x3 x4 x5 x6 k * x7 (ix2 k ⟨l.val, by omega⟩)) + ∑ k, row r x0 x1 x2 x3 x4 x5 x6 k * x7 (ix2 k ⟨128 + l.val, by omega⟩))
    + x8 (ix2 0 l)

theorem lanes_at (hr : ∀ k, Real' (row r x0 x1 x2 x3 x4 x5 x6 k)) :
    lanes (k0_pay26 (F := Ideal) x0 x1 x2 x3 x4 x5 x6 x7 x8) (View.ld x8 r0_8) r = logits r x0 x1 x2 x3 x4 x5 x6 x7 x8 := by
  have z : ∀ a : Fin 2, (![0, 0] : Fin 2 → ℕ) a = 0 := fun a => by fin_cases a <;> rfl
  have e7 : View.ld x7 r0_6 = x7 := View.ld_unit_lit (S := S1024x256) _ x7 z
  have e8 : View.ld x8 r0_8 = x8 := View.ld_unit_lit (S := S1x128) _ x8 z
  have hrow : ∀ k, k0_pay5 (F := Ideal) (k0_pay24 x0 x1 x2 x3 x4 x5 x6 x7 x8) (k0_pay25 x0 x1 x2 x3 x4 x5 x6 x7 x8) (Ideal.ofBits .f32 0x3FB504F3#32)
      (View.ld x5 r0_5) (View.ld x6 r0_5) (ix2 r k) = row r x0 x1 x2 x3 x4 x5 x6 k :=
    fun k => Cert.Kernel3Ideal.Mix.rows_at x0 x1 x2 x3 x4 x5 x6 x7 x8 r k
  funext l
  unfold lanes logits k0_pay26
  rw [e7, e8]
  refine congrArg (· + x8 (ix2 0 l)) ?_
  pointwise [Gen.k0_pay6]
  have hz : ∀ k, row r x0 x1 x2 x3 x4 x5 x6 k - row r x0 x1 x2 x3 x4 x5 x6 k = 0 := fun k => (hr k).sub_self
  simp only [hrow, hz, zero_mul, Finset.sum_const_zero, add_zero]

/-- What a point stores in its block of the router's results … -/
theorem meta_at (hr : ∀ r k, Real' (row r x0 x1 x2 x3 x4 x5 x6 k)) (y : S512x128.Idx) :
    out0_10 (F := Ideal) x0 x1 x2 x3 x4 x5 x6 x7 x8 y = kernelEntry (logits (y 0) x0 x1 x2 x3 x4 x5 x6 x7 x8) (y 1) := by
  have z : ∀ a : Fin 2, (![0, 0] : Fin 2 → ℕ) a = 0 := fun a => by fin_cases a <;> rfl
  unfold out0_10
  refine (congrFun (View.canon_cons_unit_lit (S := S512x128) _ _ [] z) y).trans ?_
  refine (congrArg _ (eq_ix2 y)).trans ?_
  rw [← lanes_at _ _ _ _ _ _ _ _ _ _ (hr (y 0))]
  exact pay1_at _ _ _ _

/-- The transposed block's value is the block's. -/
theorem pay2_at (u v : IVec S512x128 1) (a : FVec Ideal S512x1 .f32) (d e : FVec Ideal S512x128 .f32) (l : Fin 8) (r : Fin 512) :
    k0_pay2 (F := Ideal) u a v d e (ix2 l r) = k0_pay1 (F := Ideal) u a v d e (ix2 r ⟨l.val, by omega⟩) := by
  pointwise [Gen.k0_pay1, Gen.k0_pay2]

/-- … and of the transposed ones. -/
theorem metat_at (hr : ∀ r k, Real' (row r x0 x1 x2 x3 x4 x5 x6 k)) (l : Fin 8) (r : Fin 512) :
    out0_11 (F := Ideal) x0 x1 x2 x3 x4 x5 x6 x7 x8 (ix2 l r) = kernelEntry (logits r x0 x1 x2 x3 x4 x5 x6 x7 x8) ⟨l.val, by omega⟩ := by
  have z : ∀ a : Fin 2, (![0, 0] : Fin 2 → ℕ) a = 0 := fun a => by fin_cases a <;> rfl
  unfold out0_11
  refine (congrFun (View.canon_cons_unit_lit (S := S8x512) _ _ [] z) (ix2 l r)).trans ?_
  rw [pay2_at, ← lanes_at _ _ _ _ _ _ _ _ _ _ (hr r)]
  exact pay1_at _ _ _ _

end Cert.Kernel5Ideal.Mix

end
-- ==== Proof.RoutePre.lean ====
/- What the router's precondition says: every argument is finite. -/
module

public import proofs.«01_k».proof.Proof.RouteOut
public import proofs.«01_k».proof.Proof.MixClaim
public import proofs.«01_k».proof.Proof.Gen.Pre_finite
public import Idealize.ShloMosaic.Lib.StableHlo.Predicate

@[expose] public section

set_option maxRecDepth 16384

noncomputable section

namespace Cert.Route

open Cert.Pre_finite Cert.Mix
open Idealize.ShloMosaic Idealize.ShloMosaic.TcCoe Idealize.ShloMosaic.Tactic

variable {x0 : S24x2048x1024.Idx → EReal} {x1 x2 : S24x2048x512.Idx → EReal} {x3 : S1024.Idx → EReal} {x4 : S1024x1024.Idx → EReal}
  {x5 x6 : S1024.Idx → EReal} {x7 : S1024x4.Idx → EReal} {x8 : S4.Idx → EReal} {x9 : S1024x32.Idx → EReal} {x10 : S32.Idx → EReal}

/-- A test that holds. -/
theorem of_test {P : Prop} [Decidable P] (h : BitVec.ofBool (decide P) = 1#1) : P := by
  by_contra hn
  rw [decide_eq_false hn] at h
  exact absurd h (by decide)

/-- A magnitude. -/
abbrev mag (a : EReal) : EReal := max a (-a)

/-- The precondition's array at an index: whether a sum of magnitudes is below `⊤`. -/
theorem pre_at (b : Fin 24) (p : Fin 2048) (k : Fin 1024) : Cert.Pre_finite.fn (F := Ideal) x0 x1 x2 x3 x4 x5 x6 x7 x8 x9 x10 (ix3 b p k)
    = BitVec.ofBool (decide (mag (x0 (ix3 b p k))
        + mag (if h : k.val < 512 then x1 (ix3 b p ⟨k.val, h⟩) else x2 (ix3 b p ⟨k.val - 512, by omega⟩))
        + (mag (x3 (ix1 k)) + mag (x5 (ix1 k)) + mag (x6 (ix1 k)) + ((∑ j, mag (x4 (ix2 k j))) + (∑ j, mag (x7 (ix2 k j))) + ∑ j, mag (x9 (ix2 k j))))
        + ((∑ j, mag (x8 (ix1 j))) + ∑ j, mag (x10 (ix1 j))) < ⊤)) := by
  rw [← ofBits_top]
  unfold Cert.Pre_finite.fn Cert.Pre_finite.fn_part1
  pointwise []
  rfl

/-- What it says of each argument. -/
theorem finite_at (h : Cert.Pre_finite.fn (F := Ideal) x0 x1 x2 x3 x4 x5 x6 x7 x8 x9 x10 = fun _ => 1#1)
    (b : Fin 24) (p : Fin 2048) (k : Fin 1024) :
    Real' (x0 (ix3 b p k)) ∧ (∀ j : Fin 512, j.val = k.val → Real' (x1 (ix3 b p j))) ∧ (∀ j : Fin 512, 512 + j.val = k.val → Real' (x2 (ix3 b p j)))
      ∧ Real' (x3 (ix1 k)) ∧ Real' (x5 (ix1 k)) ∧ Real' (x6 (ix1 k)) ∧ (∀ j, Real' (x4 (ix2 k j))) ∧ (∀ j, Real' (x7 (ix2 k j)))
      ∧ (∀ j, Real' (x9 (ix2 k j))) ∧ (∀ j, Real' (x8 (ix1 j))) ∧ ∀ j, Real' (x10 (ix1 j)) := by
  have n : ∀ a : EReal, 0 ≤ mag a := abs_nonneg'
  have ns : ∀ {ι : Type} [Fintype ι] (f : ι → EReal), 0 ≤ ∑ j, mag (f j) := fun f => Finset.sum_nonneg fun j _ => n _
  have n3 := add_nonneg (add_nonneg (n (x3 (ix1 k))) (n (x5 (ix1 k)))) (n (x6 (ix1 k)))
  have n4 := add_nonneg (ns fun j => x4 (ix2 k j)) (ns fun j => x7 (ix2 k j))
  have n9 := add_nonneg n4 (ns fun j => x9 (ix2 k j))
  have e := of_test ((pre_at b p k).symm.trans (congrFun h _))
  obtain ⟨e, e8⟩ := both_lt (add_nonneg (add_nonneg (n _) (n _)) (add_nonneg n3 n9)) (add_nonneg (ns _) (ns _)) e
  obtain ⟨e0, e3⟩ := both_lt (add_nonneg (n _) (n _)) (add_nonneg n3 n9) e
  obtain ⟨e0, e1⟩ := both_lt (n _) (n _) e0
  obtain ⟨e3, e4⟩ := both_lt n3 n9 e3
  obtain ⟨e3, e6⟩ := both_lt (add_nonneg (n _) (n _)) (n _) e3
  obtain ⟨e3, e5⟩ := both_lt (n _) (n _) e3
  obtain ⟨e4, e9⟩ := both_lt n4 (ns _) e4
  obtain ⟨e4, e7⟩ := both_lt (ns _) (ns _) e4
  obtain ⟨e8, e10⟩ := both_lt (ns _) (ns _) e8
  refine ⟨real_of_abs e0, fun j hj => ?_, fun j hj => ?_, real_of_abs e3, real_of_abs e5, real_of_abs e6, sum_lt e4, sum_lt e7, sum_lt e9, sum_lt e8, sum_lt e10⟩
  · rw [dif_pos (by omega)] at e1
    rw [show j = ⟨k.val, by omega⟩ from Fin.ext hj]
    exact real_of_abs e1
  · rw [dif_neg (by omega)] at e1
    rw [show j = ⟨k.val - 512, by omega⟩ from Fin.ext (by change j.val = k.val - 512; omega)]
    exact real_of_abs e1

/-- The rows and the router's weights and offsets are real. -/
theorem real_of_pre (h : Cert.Pre_finite.fn (F := Ideal) x0 x1 x2 x3 x4 x5 x6 x7 x8 x9 x10 = fun _ => 1#1) :
    (∀ s n, Real' (layerAt x0 x1 x2 x3 x4 x5 x6 s n)) ∧ (∀ k j, Real' (x7 (ix2 k j))) ∧ (∀ k j, Real' (x9 (ix2 k j)))
      ∧ (∀ j, Real' (x8 (ix1 j))) ∧ ∀ j, Real' (x10 (ix1 j)) := by
  have f := finite_at h
  refine ⟨fun s n => Real'.mixAt (fun r k => (f _ _ k).1) (fun r k => (f _ _ ⟨k.val, by omega⟩).2.1 k rfl)
    (fun r k => (f _ _ ⟨512 + k.val, by omega⟩).2.2.1 k rfl) (fun k => (f 0 0 k).2.2.2.1) (fun j k => (f 0 0 j).2.2.2.2.2.2.1 k)
    (fun k => (f 0 0 k).2.2.2.2.1) (fun k => (f 0 0 k).2.2.2.2.2.1) s n, fun k => (f 0 0 k).2.2.2.2.2.2.2.1, fun k => (f 0 0 k).2.2.2.2.2.2.2.2.1,
    (f 0 0 0).2.2.2.2.2.2.2.2.2.1, (f 0 0 0).2.2.2.2.2.2.2.2.2.2⟩

end Cert.Route

end
-- ==== Proof.RouteRef.lean ====
/- The reference's router results, at an index, where its logits are real. -/
module

public import proofs.«01_k».proof.Proof.MixClaim
public import proofs.«01_k».proof.Proof.RouteOut
public import proofs.«01_k».proof.Proof.Gen.Reference5Ideal.Read
public import proofs.«01_k».proof.Proof.Gen.Reference5Ideal.Run

@[expose] public section

set_option maxRecDepth 16384

noncomputable section

namespace Cert.Reference5Ideal.Mix

open Cert.Reference5Ideal Cert.Reference5Ideal.Read Cert.Mix Cert.Route
open Idealize.ShloMosaic Idealize.ShloMosaic.TcCoe Idealize.ShloMosaic.Tactic
open Cert.KernelIdeal.Attn (ofBits_neg_inf)

variable (x0 : S24x2048x1024.Idx → EReal) (x1 x2 : S24x2048x512.Idx → EReal) (x3 : S1024.Idx → EReal) (x4 : S1024x1024.Idx → EReal)
  (x5 x6 : S1024.Idx → EReal) (x7 : S1024x4.Idx → EReal) (x8 : S4.Idx → EReal) (x9 : S1024x32.Idx → EReal) (x10 : S32.Idx → EReal)

/-- The rows are those of the mixing call's first result. -/
theorem rows_at (s : Fin 49152) (n : Fin 1024) : val_main_v57 (F := Ideal) x0 x1 x2 x3 x4 x5 x6 (ix2 s n) = layerAt x0 x1 x2 x3 x4 x5 x6 s n :=
  Cert.Reference3Ideal.Mix.result_at x0 x1 x2 x3 x4 x5 x6 s n

/-- The groups' logits of a row … -/
theorem coarse_at (s : Fin 49152) (n : Fin 4) : val_main_v61 (F := Ideal) x0 x1 x2 x3 x4 x5 x6 x7 x8 (ix2 s n)
    = (∑ k, layerAt x0 x1 x2 x3 x4 x5 x6 s k * x7 (ix2 k n)) + x8 (ix1 n) := by
  pointwise [val_main_v61, val_main_v60, val_main_v59, val_main_v58]
  simp only [rows_at]

/-- … and the experts'. -/
theorem fine_at (s : Fin 49152) (n : Fin 32) : val_main_v80 (F := Ideal) x0 x1 x2 x3 x4 x5 x6 x9 x10 (ix2 s n)
    = (∑ k, layerAt x0 x1 x2 x3 x4 x5 x6 s k * x9 (ix2 k n)) + x10 (ix1 n) := by
  pointwise [val_main_v80, val_main_v79, val_main_v78, val_main_v77]
  simp only [rows_at]

/-- The first place of the greatest of a row's group logits. -/
def chosen (c : Fin 4 → ℝ) : Fin 4 := sortedFrom (before fun i => (c i : EReal)) 0

/-- The two experts of a row. -/
def expert (f : Fin 32 → ℝ) (g : Fin 4) (j : Fin 2) : Fin 8 := sortedFrom (before fun e => (ofGroup f g e : EReal)) (j.castLE (by omega))

variable {x0 x1 x2 x3 x4 x5 x6 x7 x8 x9 x10} {s : Fin 49152} {c : Fin 4 → ℝ} {f : Fin 32 → ℝ}

/-- The chosen group's place, as a word. -/
theorem group_at (hc : ∀ i, val_main_v61 (F := Ideal) x0 x1 x2 x3 x4 x5 x6 x7 x8 (ix2 s i) = (c i : EReal)) :
    val_main_indices (F := Ideal) x0 x1 x2 x3 x4 x5 x6 x7 x8 (ix2 s 0) = BitVec.ofNat 32 (chosen c).val := by
  refine (topK_place (val_main_v61 (F := Ideal) x0 x1 x2 x3 x4 x5 x6 x7 x8) (by omega : 1 ≤ 4) _ s 0).trans ?_
  unfold chosen
  rw [funext hc]
  rfl

theorem eq_word : ∀ g n : Fin 4, IntOp.cmpi .eq (BitVec.ofNat 32 g.val) (BitVec.ofNat 32 n.val) = BitVec.ofBool (decide (n = g)) := by decide

/-- A one at the chosen group. -/
theorem onehot_at (hc : ∀ i, val_main_v61 (F := Ideal) x0 x1 x2 x3 x4 x5 x6 x7 x8 (ix2 s i) = (c i : EReal)) (n : Fin 4) :
    val_main_v74 (F := Ideal) x0 x1 x2 x3 x4 x5 x6 x7 x8 (ix2 s n) = if n = chosen c then 1 else 0 := by
  have h := group_at hc
  pointwise [val_main_v74, val_main_call0_v4, val_main_call0_v3, val_main_call0_v2, val_main_call0_v1, val_main_call0_v0, val_main_v73]
  rw [h, eq_word]
  by_cases e : n = chosen c
  · rw [if_pos e, decide_eq_true e]
    change (((BitVec.ofBool true).toNat : ℝ) : EReal) = 1
    simp
  · rw [if_neg e, decide_eq_false e]
    change (((BitVec.ofBool false).toNat : ℝ) : EReal) = 0
    simp

/-- The chosen group's weight. -/
theorem weight_at (hc : ∀ i, val_main_v61 (F := Ideal) x0 x1 x2 x3 x4 x5 x6 x7 x8 (ix2 s i) = (c i : EReal)) :
    val_main_v76 (F := Ideal) x0 x1 x2 x3 x4 x5 x6 x7 x8 (ix1 s) = (groupWeight c (chosen c) : EReal) := by
  rw [← softmax_pick (g := chosen c) (sorted_first fun i => (c i : EReal)), ← ofBits_neg_inf]
  pointwise [val_main_v76, val_main_v75, val_main_cst_14]
  refine Finset.sum_congr rfl fun x _ => ?_
  rw [onehot_at hc]
  refine congrArg₂ (· * ·) ?_ rfl
  simp only [← hc]
  pointwise [val_main_v72, val_main_v71, val_main_v70, val_main_v69, val_main_v68, val_main_v67, val_main_v66, val_main_v65, val_main_v64,
    val_main_v63, val_main_v62, val_main_cst_11, val_main_cst_12, val_main_cst_13]

/-- The chosen group's experts' logits. -/
theorem picked_at (hc : ∀ i, val_main_v61 (F := Ideal) x0 x1 x2 x3 x4 x5 x6 x7 x8 (ix2 s i) = (c i : EReal))
    (hf : ∀ j, val_main_v80 (F := Ideal) x0 x1 x2 x3 x4 x5 x6 x9 x10 (ix2 s j) = (f j : EReal)) (e : Fin 8) :
    val_main_v82 (F := Ideal) x0 x1 x2 x3 x4 x5 x6 x7 x8 x9 x10 (ix2 s e) = (ofGroup f (chosen c) e : EReal) := by
  rw [← pick (fun g => ofGroup f g e) (chosen c)]
  pointwise [val_main_v82, val_main_v81]
  refine Finset.sum_congr rfl fun x _ => ?_
  rw [onehot_at hc, hf]
  refine congrArg (fun r : ℝ => (r : EReal) * _) (congrArg f (Fin.ext ?_))
  change x.val * 8 + e.val = 8 * x.val + e.val
  omega

/-- The two experts' places, as words … -/
theorem place_at (hc : ∀ i, val_main_v61 (F := Ideal) x0 x1 x2 x3 x4 x5 x6 x7 x8 (ix2 s i) = (c i : EReal))
    (hf : ∀ j, val_main_v80 (F := Ideal) x0 x1 x2 x3 x4 x5 x6 x9 x10 (ix2 s j) = (f j : EReal)) (j : Fin 2) :
    val_main_indices_16 (F := Ideal) x0 x1 x2 x3 x4 x5 x6 x7 x8 x9 x10 (ix2 s j) = BitVec.ofNat 32 (expert f (chosen c) j).val := by
  refine (topK_place (val_main_v82 (F := Ideal) x0 x1 x2 x3 x4 x5 x6 x7 x8 x9 x10) (by omega : 2 ≤ 8) _ s j).trans ?_
  unfold expert
  rw [funext (picked_at hc hf)]

/-- … and their logits. -/
theorem value_at (hc : ∀ i, val_main_v61 (F := Ideal) x0 x1 x2 x3 x4 x5 x6 x7 x8 (ix2 s i) = (c i : EReal))
    (hf : ∀ j, val_main_v80 (F := Ideal) x0 x1 x2 x3 x4 x5 x6 x9 x10 (ix2 s j) = (f j : EReal)) (j : Fin 2) :
    val_main_values_15 (F := Ideal) x0 x1 x2 x3 x4 x5 x6 x7 x8 x9 x10 (ix2 s j) = (ofGroup f (chosen c) (expert f (chosen c) j) : EReal) := by
  refine (topK_entry (val_main_v82 (F := Ideal) x0 x1 x2 x3 x4 x5 x6 x7 x8 x9 x10) (by omega : 2 ≤ 8) _ s j).trans ?_
  rw [picked_at hc hf]
  unfold expert
  rw [funext (picked_at hc hf)]

theorem number_word : ∀ (g : Fin 4) (e : Fin 8),
    IntOp.addi (IntOp.muli (BitVec.ofNat 32 g.val) 8#32) (BitVec.ofNat 32 e.val) = BitVec.ofNat 32 (8 * g.val + e.val) := by decide

/-- The two experts' numbers … -/
theorem number_at (hc : ∀ i, val_main_v61 (F := Ideal) x0 x1 x2 x3 x4 x5 x6 x7 x8 (ix2 s i) = (c i : EReal))
    (hf : ∀ j, val_main_v80 (F := Ideal) x0 x1 x2 x3 x4 x5 x6 x9 x10 (ix2 s j) = (f j : EReal)) (j : Fin 2) :
    val_main_v102 (F := Ideal) x0 x1 x2 x3 x4 x5 x6 x7 x8 x9 x10 (ix2 s j) = (((8 * (chosen c).val + (expert f (chosen c) j).val : ℕ) : ℝ) : EReal) := by
  have h := group_at hc
  rw [← word_real _ (by omega), ← number_word, ← place_at hc hf, ← h]
  pointwise [val_main_v102, val_main_v101, val_main_v100, val_main_v99, val_main_v98, val_main_v97, val_main_v73, val_main_c]

/-- The two experts are the first and the second largest of the chosen group. -/
theorem routed (c : Fin 4 → ℝ) (f : Fin 32 → ℝ) : Routed c f (chosen c) (expert f (chosen c) 0) (expert f (chosen c) 1) where
  group := sorted_first _
  first := sorted_first _
  second := sorted_second _ fun _ => EReal.bot_lt_coe _

/-- … and their weights. -/
theorem share_at (hc : ∀ i, val_main_v61 (F := Ideal) x0 x1 x2 x3 x4 x5 x6 x7 x8 (ix2 s i) = (c i : EReal))
    (hf : ∀ j, val_main_v80 (F := Ideal) x0 x1 x2 x3 x4 x5 x6 x9 x10 (ix2 s j) = (f j : EReal)) (n : Fin 2) :
    val_main_v96 (F := Ideal) x0 x1 x2 x3 x4 x5 x6 x7 x8 x9 x10 (ix2 s n) = (entry c f (chosen c) (expert f (chosen c) 0) (expert f (chosen c) 1) (2 + n.val) : EReal) := by
  have hle : ofGroup f (chosen c) (expert f (chosen c) 1) ≤ ofGroup f (chosen c) (expert f (chosen c) 0) :=
    EReal.coe_le_coe_iff.1 ((routed c f).first.1 _)
  have h := softmax_pair (fun j => (ofGroup f (chosen c) (expert f (chosen c) j) : EReal)) _ _ (groupWeight c (chosen c)) rfl rfl hle n
  have hw := weight_at hc
  have hv := value_at hc hf
  simp only [← hv, ← hw, ← ofBits_neg_inf] at h
  refine Eq.trans ?_ (h.trans ?_)
  · pointwise [val_main_v96, val_main_v95, val_main_v94, val_main_v93, val_main_v92, val_main_v91, val_main_v90, val_main_v89, val_main_v88,
      val_main_v87, val_main_v86, val_main_v85, val_main_v84, val_main_v83, val_main_cst_17, val_main_cst_18, val_main_cst_19]
  · fin_cases n <;> simp [entry, ratio]

/-- The row of the router's results … -/
theorem meta_at (hc : ∀ i, val_main_v61 (F := Ideal) x0 x1 x2 x3 x4 x5 x6 x7 x8 (ix2 s i) = (c i : EReal))
    (hf : ∀ j, val_main_v80 (F := Ideal) x0 x1 x2 x3 x4 x5 x6 x9 x10 (ix2 s j) = (f j : EReal)) (l : Fin 128) :
    val_main_v104 (F := Ideal) x0 x1 x2 x3 x4 x5 x6 x7 x8 x9 x10 (ix2 s l)
      = (entry c f (chosen c) (expert f (chosen c) 0) (expert f (chosen c) 1) l.val : EReal) := by
  have hn := number_at hc hf
  have hs := share_at hc hf
  pointwise [val_main_v104, val_main_v103, val_main_call1_v0, val_main_c_20]
  simp only [hn, hs]
  split_ifs with h4 h2
  · obtain h | h : l.val = 0 ∨ l.val = 1 := by omega
    · rw [show (⟨l.val, h2⟩ : Fin 2) = 0 from Fin.ext h]
      unfold entry
      rw [if_pos h]
    · rw [show (⟨l.val, h2⟩ : Fin 2) = 1 from Fin.ext h]
      unfold entry
      rw [if_neg (by omega), if_pos h]
  · rw [show 2 + (l.val - 2) = l.val by omega]
  · unfold entry
    rw [if_neg (by omega), if_neg (by omega), if_neg (by omega), if_neg (by omega)]
    exact (word_real 0 (by omega)).trans (by simp)

/-- … and of the transposed ones. -/
theorem metat_at (l : Fin 8) : val_main_v106 (F := Ideal) x0 x1 x2 x3 x4 x5 x6 x7 x8 x9 x10 (ix2 l s)
    = val_main_v104 (F := Ideal) x0 x1 x2 x3 x4 x5 x6 x7 x8 x9 x10 (ix2 s ⟨l.val, by omega⟩) := by
  pointwise [val_main_v106, val_main_v105]

end Cert.Reference5Ideal.Mix

end
-- ==== Proof.RouteHost.lean ====
/- What the router's kernel reads at each of its points. -/
module

public import proofs.«01_k».proof.Proof.MixClaim
public import proofs.«01_k».proof.Proof.RouteOut
public import proofs.«01_k».proof.Proof.Gen.Kernel5Ideal.Value
public import Idealize.ShloMosaic.Lib.StableHlo.ReadAt

@[expose] public section

set_option maxRecDepth 16384

noncomputable section

namespace Cert.Kernel5Ideal.Mix

open Cert.Kernel5Ideal Cert.Kernel5Ideal.Gen Cert.Mix Cert.Route
open Idealize.ShloMosaic Idealize.ShloMosaic.TcCoe Idealize.ShloMosaic.Tactic Idealize.SL.Sem

variable (m : (ℓ : Loc nD τ sig) → Buf (Elt Ideal) ℓ) (c : Dev nD)

/-- The input's rows … -/
theorem x_at (s : Fin 49152) (k : Fin 1024) : V m c main_v10 (ix2 s k) = m ((c : Thread nD τ).loc main_arg0) (ix3 (seqOf s) (posOf s) k) := by
  unfold V
  after_reads_at
  rfl

/-- … one group of heads' … -/
theorem a_at (s : Fin 49152) (k : Fin 512) : V m c main_v11 (ix2 s k) = m ((c : Thread nD τ).loc main_arg1) (ix3 (seqOf s) (posOf s) k) := by
  unfold V
  after_reads_at
  rfl

/-- … and the other's. -/
theorem b_at (s : Fin 49152) (k : Fin 512) : V m c main_v12 (ix2 s k) = m ((c : Thread nD τ).loc main_arg2) (ix3 (seqOf s) (posOf s) k) := by
  unfold V
  after_reads_at
  rfl

/-- The scales of the heads' rows. -/
theorem g_at (k : Fin 1024) : V m c main_v13 (ix2 0 k) = m ((c : Thread nD τ).loc main_arg3) (ix1 k) := by
  unfold V
  after_reads_at

/-- The projection's weights. -/
theorem w_at (j k : Fin 1024) : V m c main_v14 (ix2 j k) = m ((c : Thread nD τ).loc main_arg4) (ix2 j k) := by
  unfold V
  after_reads_at

/-- The layer norm's scales … -/
theorem lg_at (k : Fin 1024) : V m c main_v15 (ix2 0 k) = m ((c : Thread nD τ).loc main_arg5) (ix1 k) := by
  unfold V
  after_reads_at

/-- … and offsets. -/
theorem lb_at (k : Fin 1024) : V m c main_v16 (ix2 0 k) = m ((c : Thread nD τ).loc main_arg6) (ix1 k) := by
  unfold V
  after_reads_at

/-- The router's weights: the groups' in the first four lanes … -/
theorem rc_at (k : Fin 1024) (i : Fin 4) : V m c main_v6 (ix2 k ⟨i.val, by omega⟩) = m ((c : Thread nD τ).loc main_arg7) (ix2 k i) := by
  have hi := i.isLt
  unfold V
  after_reads_at
  split_ifs <;> first | (exfalso; omega) | skip
  all_goals after_reads_at

/-- … the experts' in the next 32 … -/
theorem rf_at (k : Fin 1024) (j : Fin 32) : V m c main_v6 (ix2 k ⟨4 + j.val, by omega⟩) = m ((c : Thread nD τ).loc main_arg9) (ix2 k j) := by
  have hj := j.isLt
  unfold V
  after_reads_at
  split_ifs <;> first | (exfalso; omega) | skip
  all_goals after_reads_at

/-- An entry of the router's weights, as the kernel reads them. -/
def weightAt (k : Fin 1024) (l : Fin 256) : EReal := V m c main_v6 (ix2 k l)

/-- … and the second half holds what the first half's rounding left: each weight less itself. -/
theorem rest_at (k : Fin 1024) (l : Fin 128) :
    weightAt m c k ⟨128 + l.val, by omega⟩ = weightAt m c k ⟨l.val, by omega⟩ - weightAt m c k ⟨l.val, by omega⟩ := by
  have hl := l.isLt
  unfold weightAt V
  after_reads_at

/-- The router's offsets: the groups' in the first four lanes … -/
theorem oc_at (i : Fin 4) : V m c main_v9 (ix2 0 ⟨i.val, by omega⟩) = m ((c : Thread nD τ).loc main_arg8) (ix1 i) := by
  have hi := i.isLt
  unfold V
  after_reads_at
  all_goals after_reads_at

/-- … and the experts' in the next 32. -/
theorem of_at (j : Fin 32) : V m c main_v9 (ix2 0 ⟨4 + j.val, by omega⟩) = m ((c : Thread nD τ).loc main_arg10) (ix1 j) := by
  have hj := j.isLt
  unfold V
  after_reads_at
  all_goals after_reads_at

/-- Which block of each array a point reads and writes. -/
theorem block_index : ∀ t : Fin grid0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_10.index t = ![t.val, 0] ∧ win0_11.index t = ![0, t.val] := by
  decide +kernel

variable (t : Fin cfg0.N)

/-- A point's rows of the input … -/
theorem block_x (r : Fin 512) (k : Fin 1024) (s : Fin 49152) (hs : s.val = t.val * 512 + r.val) :
    iblk m c 0 t (ix2 r k) = m ((c : Thread nD τ).loc main_arg0) (ix3 (seqOf s) (posOf s) k) := by
  refine Eq.trans ?_ (x_at m c s k)
  blk_ext [iblk, block_index t]

/-- … of one group of heads … -/
theorem block_a (r : Fin 512) (k : Fin 512) (s : Fin 49152) (hs : s.val = t.val * 512 + r.val) :
    iblk m c 1 t (ix2 r k) = m ((c : Thread nD τ).loc main_arg1) (ix3 (seqOf s) (posOf s) k) := by
  refine Eq.trans ?_ (a_at m c s k)
  blk_ext [iblk, block_index t]

/-- … and of the other. -/
theorem block_b (r : Fin 512) (k : Fin 512) (s : Fin 49152) (hs : s.val = t.val * 512 + r.val) :
    iblk m c 2 t (ix2 r k) = m ((c : Thread nD τ).loc main_arg2) (ix3 (seqOf s) (posOf s) k) := by
  refine Eq.trans ?_ (b_at m c s k)
  blk_ext [iblk, block_index t]

/-- The scales of the heads' rows, whole at every point … -/
theorem block_g (k : Fin 1024) : iblk m c 3 t (ix2 0 k) = m ((c : Thread nD τ).loc main_arg3) (ix1 k) := by
  refine Eq.trans ?_ (g_at m c k)
  blk_ext [iblk, block_index t]

/-- … the projection's weights … -/
theorem block_w (j k : Fin 1024) : iblk m c 4 t (ix2 j k) = m ((c : Thread nD τ).loc main_arg4) (ix2 j k) := by
  refine Eq.trans ?_ (w_at m c j k)
  blk_ext [iblk, block_index t]

/-- … the layer norm's scales … -/
theorem block_lg (k : Fin 1024) : iblk m c 5 t (ix2 0 k) = m ((c : Thread nD τ).loc main_arg5) (ix1 k) := by
  refine Eq.trans ?_ (lg_at m c k)
  blk_ext [iblk, block_index t]

/-- … its offsets … -/
theorem block_lb (k : Fin 1024) : iblk m c 6 t (ix2 0 k) = m ((c : Thread nD τ).loc main_arg6) (ix1 k) := by
  refine Eq.trans ?_ (lb_at m c k)
  blk_ext [iblk, block_index t]

/-- … the router's weights … -/
theorem block_r (k : Fin 1024) (l : Fin 256) : iblk m c 7 t (ix2 k l) = V m c main_v6 (ix2 k l) := by
  blk_ext [iblk, block_index t]

/-- … and its offsets. -/
theorem block_o (l : Fin 128) : iblk m c 8 t (ix2 0 l) = V m c main_v9 (ix2 0 l) := by
  blk_ext [iblk, block_index t]

/-- The row that a point normalizes is the layer's. -/
theorem block_row (r : Fin 512) (s : Fin 49152) (hs : s.val = t.val * 512 + r.val) (n : Fin 1024) :
    row r (iblk m c 0 t) (iblk m c 1 t) (iblk m c 2 t) (iblk m c 3 t) (iblk m c 4 t) (iblk m c 5 t) (iblk m c 6 t) n
      = layerAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) s n := by
  unfold row layerAt mixAt
  simp only [block_g, block_w, block_lg, block_lb]
  have hx : ∀ k, iblk m c 0 t (ix2 r k) = m ((c : Thread nD τ).loc main_arg0) (ix3 (seqOf s) (posOf s) k) := fun k => block_x m c t _ _ s hs
  have ha : ∀ k, iblk m c 1 t (ix2 r k) = m ((c : Thread nD τ).loc main_arg1) (ix3 (seqOf s) (posOf s) k) := fun k => block_a m c t _ _ s hs
  have hb : ∀ k, iblk m c 2 t (ix2 r k) = m ((c : Thread nD τ).loc main_arg2) (ix3 (seqOf s) (posOf s) k) := fun k => block_b m c t _ _ s hs
  simp only [hx, ha, hb]

end Cert.Kernel5Ideal.Mix

end
-- ==== Proof.RouteClaim.lean ====
/- The router's results of the mixing call, and its reference's. -/
module

public import proofs.«01_k».proof.Proof.RoutePre
public import proofs.«01_k».proof.Proof.RouteRef
public import proofs.«01_k».proof.Proof.RouteHost

@[expose] public section

set_option maxRecDepth 16384

noncomputable section

namespace Cert.Kernel5Ideal.Mix

open Cert.Kernel5Ideal Cert.Kernel5Ideal.Gen Cert.Mix Cert.Route
open Cert.Reference5Ideal.Mix (chosen expert routed)
open Idealize.ShloMosaic Idealize.ShloMosaic.TcCoe Idealize.ShloMosaic.Tactic Idealize.SL.Sem

variable (m : (ℓ : Loc nD τ sig) → Buf (Elt Ideal) ℓ) (c : Dev nD)

/-- The layer's rows, from the memory. -/
def rowOf (s : Fin 49152) (n : Fin 1024) : EReal :=
  layerAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) s n

/-- The groups' logits of a row … -/
def coarseOf (s : Fin 49152) (i : Fin 4) : EReal :=
  (∑ k, rowOf m c s k * m ((c : Thread nD τ).loc main_arg7) (ix2 k i)) + m ((c : Thread nD τ).loc main_arg8) (ix1 i)
/-- … and the experts'. -/
def fineOf (s : Fin 49152) (j : Fin 32) : EReal :=
  (∑ k, rowOf m c s k * m ((c : Thread nD τ).loc main_arg9) (ix2 k j)) + m ((c : Thread nD τ).loc main_arg10) (ix1 j)

/-- What the precondition says: the rows, the router's weights and its offsets are real. -/
structure Tame : Prop where
  rows : ∀ s n, Real' (rowOf m c s n)
  wc : ∀ k i, Real' (m ((c : Thread nD τ).loc main_arg7) (ix2 k i))
  wf : ∀ k j, Real' (m ((c : Thread nD τ).loc main_arg9) (ix2 k j))
  bc : ∀ i, Real' (m ((c : Thread nD τ).loc main_arg8) (ix1 i))
  bf : ∀ j, Real' (m ((c : Thread nD τ).loc main_arg10) (ix1 j))

variable {m c} (h : Tame m c)
include h

theorem Tame.coarse_real (s : Fin 49152) (i : Fin 4) : Real' (coarseOf m c s i) :=
  (Real'.sum _ fun k => (h.rows s k).mul (h.wc k i)).add (h.bc i)
theorem Tame.fine_real (s : Fin 49152) (j : Fin 32) : Real' (fineOf m c s j) :=
  (Real'.sum _ fun k => (h.rows s k).mul (h.wf k j)).add (h.bf j)

variable (t : Fin cfg0.N) (r : Fin 512) (s : Fin 49152) (hs : s.val = t.val * 512 + r.val)
include hs

/-- A point's rows are real. -/
theorem Tame.block_real (n : Fin 1024) :
    Real' (row r (iblk m c 0 t) (iblk m c 1 t) (iblk m c 2 t) (iblk m c 3 t) (iblk m c 4 t) (iblk m c 5 t) (iblk m c 6 t) n) := by
  rw [block_row m c t r s hs]
  exact h.rows s n

/-- A lane's logit, if its weights are real. -/
theorem logit_at (l : Fin 128) (w : Fin 1024 → EReal) (hw : ∀ k, V m c main_v6 (ix2 k ⟨l.val, by omega⟩) = w k) (hr : ∀ k, Real' (w k)) :
    logits r (iblk m c 0 t) (iblk m c 1 t) (iblk m c 2 t) (iblk m c 3 t) (iblk m c 4 t) (iblk m c 5 t) (iblk m c 6 t) (iblk m c 7 t) (iblk m c 8 t) l
      = (∑ k, rowOf m c s k * w k) + V m c main_v9 (ix2 0 l) := by
  unfold logits
  have e1 : ∀ k, iblk m c 7 t (ix2 k ⟨l.val, by omega⟩) = w k := fun k => (block_r m c t k _).trans (hw k)
  have e2 : ∀ k, iblk m c 7 t (ix2 k ⟨128 + l.val, by omega⟩) = (0 : EReal) := fun k => by
    refine (block_r m c t k _).trans ((rest_at m c k l).trans ?_)
    unfold weightAt
    rw [hw k]
    exact (hr k).sub_self
  simp only [block_row m c t r s hs, e1, e2, mul_zero, Finset.sum_const_zero, add_zero]
  rw [block_o]
  rfl

/-- The groups' lanes hold the groups' logits … -/
theorem Tame.coarse_lane (i : Fin 4) :
    logits r (iblk m c 0 t) (iblk m c 1 t) (iblk m c 2 t) (iblk m c 3 t) (iblk m c 4 t) (iblk m c 5 t) (iblk m c 6 t) (iblk m c 7 t) (iblk m c 8 t) (groupLane i)
      = coarseOf m c s i := by
  exact (logit_at h t r s hs (groupLane i) _ (fun k => rc_at m c k i) (fun k => h.wc k i)).trans (congrArg (_ + ·) (oc_at m c i))

/-- … and the next 32 the experts'. -/
theorem Tame.fine_lane (j : Fin 32) :
    logits r (iblk m c 0 t) (iblk m c 1 t) (iblk m c 2 t) (iblk m c 3 t) (iblk m c 4 t) (iblk m c 5 t) (iblk m c 6 t) (iblk m c 7 t) (iblk m c 8 t) (expertLane j)
      = fineOf m c s j := by
  exact (logit_at h t r s hs (expertLane j) _ (fun k => rf_at m c k j) (fun k => h.wf k j)).trans (congrArg (_ + ·) (of_at m c j))

omit hs

/-- A row's logits as reals. -/
def cOf (s : Fin 49152) (i : Fin 4) : ℝ := (h.coarse_real s i).choose
def fOf (s : Fin 49152) (j : Fin 32) : ℝ := (h.fine_real s j).choose
theorem cOf_eq (s : Fin 49152) (i : Fin 4) : coarseOf m c s i = (cOf h s i : EReal) := (h.coarse_real s i).choose_spec
theorem fOf_eq (s : Fin 49152) (j : Fin 32) : fineOf m c s j = (fOf h s j : EReal) := (h.fine_real s j).choose_spec

/-- An entry of the router's results. -/
def entryOf (s : Fin 49152) (l : ℕ) : EReal :=
  (entry (cOf h s) (fOf h s) (chosen (cOf h s)) (expert (fOf h s) (chosen (cOf h s)) 0) (expert (fOf h s) (chosen (cOf h s)) 1) l : ℝ)

include hs in
/-- What the kernel's row comes to. -/
theorem Tame.kernel_row (l : Fin 128) :
    kernelEntry (logits r (iblk m c 0 t) (iblk m c 1 t) (iblk m c 2 t) (iblk m c 3 t) (iblk m c 4 t) (iblk m c 5 t) (iblk m c 6 t) (iblk m c 7 t) (iblk m c 8 t)) l
      = entryOf h s l.val :=
  kernelEntry_eq (fun i => (h.coarse_lane t r s hs i).trans (cOf_eq h s i)) (fun j => (h.fine_lane t r s hs j).trans (fOf_eq h s j)) (routed _ _) l

/-- The kernel's results … -/
theorem Tame.final_meta : (dats m 0 c).arrAt 10 cfg0.N = fun i : S49152x128.Idx => entryOf h (i 0) (i 1).val := by
  refine (dats m 0 c).arrAt_eq_of_covers 10 _ (by decide +kernel) fun t hf y => ?_
  blk_simp
  rw [after0_10]
  have ht : t.val < 96 := lt_of_lt_of_eq t.isLt (by decide +kernel)
  have hb : ∀ r : Fin 512, t.val * 512 + r.val < 49152 := fun r => by omega
  refine (meta_at _ _ _ _ _ _ _ _ _ (fun r k => h.block_real t r ⟨_, hb r⟩ rfl k) y).trans ((h.kernel_row t (y 0) ⟨_, hb (y 0)⟩ rfl (y 1)).trans ?_)
  refine congrArg₂ (entryOf h) (Fin.ext ?_) ?_ <;> blk_simp [block_index t]

/-- … and the transposed ones. -/
theorem Tame.final_metat : (dats m 0 c).arrAt 11 cfg0.N = fun i : S8x49152.Idx => entryOf h (i 1) (i 0).val := by
  refine (dats m 0 c).arrAt_eq_of_covers 11 _ (by decide +kernel) fun t hf y => ?_
  blk_simp
  rw [after0_11]
  have ht : t.val < 96 := lt_of_lt_of_eq t.isLt (by decide +kernel)
  have hb : ∀ r : Fin 512, t.val * 512 + r.val < 49152 := fun r => by omega
  refine (congrArg _ (eq_ix2 y)).trans ((metat_at _ _ _ _ _ _ _ _ _ (fun r k => h.block_real t r ⟨_, hb r⟩ rfl k) (y 0) (y 1)).trans
    ((h.kernel_row t (y 1) ⟨_, hb (y 1)⟩ rfl _).trans ?_))
  refine congrArg₂ (entryOf h) (Fin.ext ?_) ?_ <;> blk_simp [block_index t]

variable {y0 : S24x2048x1024.Idx → EReal} {y1 y2 : S24x2048x512.Idx → EReal} {y3 : S1024.Idx → EReal} {y4 : S1024x1024.Idx → EReal}
  {y5 y6 : S1024.Idx → EReal} {y7 : S1024x4.Idx → EReal} {y8 : S4.Idx → EReal} {y9 : S1024x32.Idx → EReal} {y10 : S32.Idx → EReal}

/-- The reference's results from equal arguments … -/
theorem Tame.reference_meta
    (e0 : y0 = m ((c : Thread nD τ).loc main_arg0)) (e1 : y1 = m ((c : Thread nD τ).loc main_arg1))
    (e2 : y2 = m ((c : Thread nD τ).loc main_arg2)) (e3 : y3 = m ((c : Thread nD τ).loc main_arg3))
    (e4 : y4 = m ((c : Thread nD τ).loc main_arg4)) (e5 : y5 = m ((c : Thread nD τ).loc main_arg5))
    (e6 : y6 = m ((c : Thread nD τ).loc main_arg6)) (e7 : y7 = m ((c : Thread nD τ).loc main_arg7))
    (e8 : y8 = m ((c : Thread nD τ).loc main_arg8)) (e9 : y9 = m ((c : Thread nD τ).loc main_arg9))
    (e10 : y10 = m ((c : Thread nD τ).loc main_arg10)) :
    Cert.Reference5Ideal.Read.val_main_v104 (F := Ideal) y0 y1 y2 y3 y4 y5 y6 y7 y8 y9 y10 = fun i : S49152x128.Idx => entryOf h (i 0) (i 1).val := by
  funext i
  refine (congrArg _ (eq_ix2 i)).trans ?_
  refine Cert.Reference5Ideal.Mix.meta_at (s := i 0) (fun n => (Cert.Reference5Ideal.Mix.coarse_at _ _ _ _ _ _ _ _ _ _ n).trans ?_)
    (fun n => (Cert.Reference5Ideal.Mix.fine_at _ _ _ _ _ _ _ _ _ _ n).trans ?_) (i 1)
  · rw [← cOf_eq h (i 0) n, e0, e1, e2, e3, e4, e5, e6, e7, e8]
    rfl
  · rw [← fOf_eq h (i 0) n, e0, e1, e2, e3, e4, e5, e6, e9, e10]
    rfl

/-- … and the transposed ones. -/
theorem Tame.reference_metat
    (e0 : y0 = m ((c : Thread nD τ).loc main_arg0)) (e1 : y1 = m ((c : Thread nD τ).loc main_arg1))
    (e2 : y2 = m ((c : Thread nD τ).loc main_arg2)) (e3 : y3 = m ((c : Thread nD τ).loc main_arg3))
    (e4 : y4 = m ((c : Thread nD τ).loc main_arg4)) (e5 : y5 = m ((c : Thread nD τ).loc main_arg5))
    (e6 : y6 = m ((c : Thread nD τ).loc main_arg6)) (e7 : y7 = m ((c : Thread nD τ).loc main_arg7))
    (e8 : y8 = m ((c : Thread nD τ).loc main_arg8)) (e9 : y9 = m ((c : Thread nD τ).loc main_arg9))
    (e10 : y10 = m ((c : Thread nD τ).loc main_arg10)) :
    Cert.Reference5Ideal.Read.val_main_v106 (F := Ideal) y0 y1 y2 y3 y4 y5 y6 y7 y8 y9 y10 = fun i : S8x49152.Idx => entryOf h (i 1) (i 0).val := by
  funext i
  refine (congrArg _ (eq_ix2 i)).trans ((Cert.Reference5Ideal.Mix.metat_at (i 0)).trans ?_)
  exact congrFun (h.reference_meta e0 e1 e2 e3 e4 e5 e6 e7 e8 e9 e10) (ix2 (i 1) ⟨(i 0).val, Nat.lt_of_lt_of_le (i 0).isLt (by decide)⟩)

end Cert.Kernel5Ideal.Mix

namespace Cert.Route

open Idealize.ShloMosaic Idealize.ShloMosaic.TcCoe Idealize.SL.Sem

/-- The reference runs to its end and leaves its arguments as they were. -/
theorem reference_frame : Cert.quiescent_Reference5Ideal := fun m ρ _ =>
  (θ_run _ _ _).mono (fun r h => ⟨fun c => (h c).2.2, sem_eq_zero_of_no_sems (by decide) r.2⟩) (Cert.Reference5Ideal.Value.run m ρ)

/-- The precondition in the words of the proof. -/
theorem tame_of_pre {m} (h : Cert.Pre_Kernel5Ideal_finite m) (c : Dev Cert.Kernel5Ideal.nD) : Cert.Kernel5Ideal.Mix.Tame m c :=
  have e := real_of_pre (h c)
  ⟨e.1, e.2.1, e.2.2.1, e.2.2.2.1, e.2.2.2.2⟩

set_option maxHeartbeats 4000000 in
/-- The kernel and the reference end with equal results and leave their arguments as they were. -/
theorem algebraic : Cert.algebraic_Kernel5Ideal_Reference5Ideal_pre_finite := fun m ρ m' ρ' hp hag =>
  ⟨fun c => (Cert.Kernel5Ideal.Gen.dats m 0 c).arrAt 10 Cert.Kernel5Ideal.cfg0.N,
    fun c => (Cert.Kernel5Ideal.Gen.dats m 0 c).arrAt 11 Cert.Kernel5Ideal.cfg0.N,
    (θ_run _ _ _).mono (fun _ h c => ⟨(h c).2.1, (h c).2.2.1, (h c).2.2.2⟩) (Cert.Kernel5Ideal.Value.run_blocks m ρ),
    (θ_run _ _ _).mono (fun _ h c => ⟨(h c).1.trans (by
        obtain ⟨e0, e1, e2, e3, e4, e5, e6, e7, e8, e9, e10⟩ := hag c
        exact (Cert.Reference5Ideal.Read.val_main_v104_eq _).trans (((tame_of_pre hp c).reference_meta e0 e1 e2 e3 e4 e5 e6 e7 e8 e9 e10).trans
          (tame_of_pre hp c).final_meta.symm)), (h c).2.1.trans (by
        obtain ⟨e0, e1, e2, e3, e4, e5, e6, e7, e8, e9, e10⟩ := hag c
        exact (Cert.Reference5Ideal.Read.val_main_v106_eq _).trans (((tame_of_pre hp c).reference_metat e0 e1 e2 e3 e4 e5 e6 e7 e8 e9 e10).trans
          (tame_of_pre hp c).final_metat.symm)), (h c).2.2⟩)
      (Cert.Reference5Ideal.Value.run m' ρ')⟩

/-- The two printed programs have the same text. -/
theorem preserves : Cert.preserves_Kernel5_Kernel5Ideal := trivial

end Cert.Route

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.AttnClaim
public import proofs.«01_k».proof.Proof.Gen.Kernel3.Frame
public import proofs.«01_k».proof.Proof.Gen.Kernel3Ideal.Frame
public import proofs.«01_k».proof.Proof.MixClaim
public import proofs.«01_k».proof.Proof.Gen.Kernel4.Frame
public import proofs.«01_k».proof.Proof.Gen.Kernel4Ideal.Frame
public import proofs.«01_k».proof.Proof.ProjClaim
public import proofs.«01_k».proof.Proof.FfnRef
public import proofs.«01_k».proof.Proof.Gen.Kernel5.Frame
public import proofs.«01_k».proof.Proof.Gen.Kernel5Ideal.Frame
public import proofs.«01_k».proof.Proof.RouteClaim

@[expose] public section

noncomputable section

namespace Cert.Proof

open Idealize.ShloMosaic Idealize.SL.Sem

/-- The reference runs to its end and leaves its arguments as they were. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_ends_padded.Gen.facts, Cert.Pre_finite.Gen.facts,
    fun m ρ _ => Cert.Kernel.Gen.frame m ρ, fun m ρ _ => Cert.KernelIdeal.Gen.frame m ρ, reference_frame,
    Cert.Kernel2.Ffn.quiescent, Cert.Kernel2Ideal.Ffn.quiescent, Cert.Ffn.reference_frame.1, Cert.Ffn.reference_frame.2,
    fun m ρ _ => Cert.Kernel3.Gen.frame m ρ, fun m ρ _ => Cert.Kernel3Ideal.Gen.frame m ρ, Cert.Mix.reference_frame,
    fun m ρ _ => Cert.Kernel4.Gen.frame m ρ, fun m ρ _ => Cert.Kernel4Ideal.Gen.frame m ρ, Cert.Proj.reference_frame,
    fun m ρ _ => Cert.Kernel5.Gen.frame m ρ, fun m ρ _ => Cert.Kernel5Ideal.Gen.frame m ρ, fun m ρ _ => Cert.Kernel5Ideal.Gen.frame m ρ,
    Cert.Route.reference_frame, fun m ρ _ => Cert.Route.reference_frame m ρ trivial,
    Cert.Kernel6.Ffn.quiescent, Cert.Kernel6Ideal.Ffn.quiescent, Cert.Ffn.reference_frame_second.1, Cert.Ffn.reference_frame_second.2,
    Cert.Attn.preserves, Cert.Attn.algebraic, Cert.Ffn.preserves, Cert.Ffn.algebraic, Cert.Mix.preserves, Cert.Mix.algebraic,
    Cert.Proj.preserves, Cert.Proj.algebraic, Cert.Route.preserves, Cert.Route.algebraic,
    Cert.Ffn.preserves_second, Cert.Ffn.algebraic_second⟩

end Cert.Proof

end
